-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_y [hPre_finite_y : Cert.Pre_finite_y.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_y.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_y [hPre_finite_y : Cert.Pre_finite_y.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_y.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite_y [hKernel11Ideal : Cert.Kernel11Ideal.Facts] [hPre_finite_y : Cert.Pre_finite_y.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_y m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite_y [hReference11Ideal : Cert.Reference11Ideal.Facts] [hPre_finite_y : Cert.Pre_finite_y.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_y m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v19)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v19) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v17)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v17) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v90) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal_pre_finite_y [hKernel11Ideal : Cert.Kernel11Ideal.Facts] [hReference11Ideal : Cert.Reference11Ideal.Facts] [hPre_finite_y : Cert.Pre_finite_y.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_y m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v28) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_y : Cert.Pre_finite_y.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite_y (hKernel11Ideal := hKernel11Ideal) (hPre_finite_y := hPre_finite_y)
    ∧ quiescent_Reference11Ideal (hReference11Ideal := hReference11Ideal)
    ∧ quiescent_Reference11Ideal_pre_finite_y (hReference11Ideal := hReference11Ideal) (hPre_finite_y := hPre_finite_y)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite_y (hKernel11Ideal := hKernel11Ideal) (hReference11Ideal := hReference11Ideal) (hPre_finite_y := hPre_finite_y)
-- ==== Pre_finite_y.lean ====
abbrev S16384x2048 : Shape := ⟨2, ![16384, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)

variable [Facts]

def fn {F : FTy → Type} [FloatOps F] (main_arg0 : FVec F S16384x2048 .f32) (main_arg1 : FVec F S16384x2048 .f32) (main_arg2 : FVec F S16384x2048 .f32) (main_arg3 : FVec F S2048 .f32) (main_arg4 : FVec F S2048 .f32) : IVec S16384x2048 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  main_v2
-- ==== Kernel.lean ====
abbrev S16384x12288 : Shape := ⟨2, ![16384, 12288]⟩
abbrev S_ : Shape := ⟨0, ![]⟩
abbrev S12288 : Shape := ⟨1, ![12288]⟩
abbrev S1x12288 : Shape := ⟨2, ![1, 12288]⟩
abbrev S16384x2048 : Shape := ⟨2, ![16384, 2048]⟩
abbrev S256x256 : Shape := ⟨2, ![256, 256]⟩
abbrev S16384x256 : Shape := ⟨2, ![16384, 256]⟩
abbrev S256x512 : Shape := ⟨2, ![256, 512]⟩
abbrev S256x1 : Shape := ⟨2, ![256, 1]⟩
abbrev S256 : Shape := ⟨1, ![256]⟩
abbrev S512x256 : Shape := ⟨2, ![512, 256]⟩

abbrev nBuf : Space → Nat
  | .hbm => 32
  | .vmem => 12
  | .smem => 0
  | _ => 0

abbrev bufTy : (tb : Table) → Fin (tcTables nBuf tb) → BufTy
  | .hbm, ⟨0, _⟩ => ⟨S16384x12288, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S12288, .i32⟩
  | .hbm, ⟨6, _⟩ => ⟨S_, .i32⟩
  | .hbm, ⟨7, _⟩ => ⟨S12288, .i32⟩
  | .hbm, ⟨8, _⟩ => ⟨S12288, .i1⟩
  | .hbm, ⟨9, _⟩ => ⟨S_, .f32⟩
  | .hbm, ⟨10, _⟩ => ⟨S_, .f32⟩
  | .hbm, ⟨11, _⟩ => ⟨S_, .i32⟩
  | .hbm, ⟨12, _⟩ => ⟨S12288, .i32⟩
  | .hbm, ⟨13, _⟩ => ⟨S12288, .i1⟩
  | .hbm, ⟨14, _⟩ => ⟨S_, .i32⟩
  | .hbm, ⟨15, _⟩ => ⟨S12288, .i32⟩
  | .hbm, ⟨16, _⟩ => ⟨S12288, .i1⟩
  | .hbm, ⟨17, _⟩ => ⟨S12288, .i1⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S12288, .f32⟩
  | .hbm, ⟨23, _⟩ => ⟨S12288, .f32⟩
  | .hbm, ⟨24, _⟩ => ⟨S12288, .f32⟩
  | .hbm, ⟨25, _⟩ => ⟨S12288, .f32⟩
  | .hbm, ⟨26, _⟩ => ⟨S12288, .f32⟩
  | .hbm, ⟨27, _⟩ => ⟨S1x12288, .f32⟩
  | .hbm, ⟨28, _⟩ => ⟨S16384x12288, .f32⟩
  | .hbm, ⟨29, _⟩ => ⟨S16384x12288, .f32⟩
  | .hbm, ⟨30, _⟩ => ⟨S16384x12288, .bf16⟩
  | .hbm, ⟨31, _⟩ => ⟨S16384x2048, .bf16⟩
  | .local _ .vmem, ⟨0, _⟩ => ⟨S256x256, .bf16⟩
  | .local _ .vmem, ⟨1, _⟩ => ⟨S256x256, .bf16⟩
  | .local _ .vmem, ⟨2, _⟩ => ⟨S16384x256, .bf16⟩
  | .local _ .vmem, ⟨3, _⟩ => ⟨S16384x256, .bf16⟩
  | .local _ .vmem, ⟨4, _⟩ => ⟨S16384x256, .bf16⟩
  | .local _ .vmem, ⟨5, _⟩ => ⟨S16384x256, .bf16⟩
  | .local _ .vmem, ⟨6, _⟩ => ⟨S256x256, .bf16⟩
  | .local _ .vmem, ⟨7, _⟩ => ⟨S256x256, .bf16⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_c_2 : Ref sig .tc := ⟨.hbm, 11, rfl⟩
abbrev main_v6 : Ref sig .tc := ⟨.hbm, 12, rfl⟩
abbrev main_v7 : Ref sig .tc := ⟨.hbm, 13, rfl⟩
abbrev main_c_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_cst_5 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v12 : Ref sig .tc := ⟨.hbm, 24, rfl⟩
abbrev main_call1_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 64], ![false, false]⟩

def k0_mult1 (i : grid0.Coords) : BitVec 32 :=
  let arg1 : BitVec 32 := BitVec.ofNat 32 (i 1).val
  let c256_i32 : BitVec 32 := 256#32
  let v10 : BitVec 32 := Scalar.muli arg1 c256_i32
  v10
def k0_off1 (i : grid0.Coords) : Fin 2 → Nat :=
  let arg1 : BitVec 32 := BitVec.ofNat 32 (i 1).val
  let c256_i32 : BitVec 32 := 256#32
  let v10 : BitVec 32 := Scalar.muli arg1 c256_i32
  let v11 : BitVec 32 := v10
  let v12 : Index := Scalar.indexCast v11
  let c0_2 : Index := 0#32
  ![v12.toNat, 0]
def k0_mult2 (i : grid0.Coords) : BitVec 32 :=
  let arg1 : BitVec 32 := BitVec.ofNat 32 (i 1).val
  let c2_i32_21 : BitVec 32 := 2#32
  let v65 : BitVec 32 := Scalar.subi arg1 c2_i32_21
  let c0_i32_22 : BitVec 32 := 0#32
  let v66 : BitVec 32 := Scalar.subi v65 c0_i32_22
  let c0_i32_23 : BitVec 32 := 0#32
  let v67 : BitVec 32 := Scalar.maxsi v66 c0_i32_23
  let c256_i32_24 : BitVec 32 := 256#32
  let v68 : BitVec 32 := Scalar.muli v67 c256_i32_24
  v68
def k0_off2 (i : grid0.Coords) : Fin 2 → Nat :=
  let arg1 : BitVec 32 := BitVec.ofNat 32 (i 1).val
  let c2_i32_21 : BitVec 32 := 2#32
  let v65 : BitVec 32 := Scalar.subi arg1 c2_i32_21
  let c0_i32_22 : BitVec 32 := 0#32
  let v66 : BitVec 32 := Scalar.subi v65 c0_i32_22
  let c0_i32_23 : BitVec 32 := 0#32
  let v67 : BitVec 32 := Scalar.maxsi v66 c0_i32_23
  let c256_i32_24 : BitVec 32 := 256#32
  let v68 : BitVec 32 := Scalar.muli v67 c256_i32_24
  let v69 : BitVec 32 := v68
  let v70 : Index := Scalar.indexCast v69
  let c0_25 : Index := 0#32
  ![v70.toNat, 0]
@[reducible] def k0_t1_loop (i : grid0.Coords) : Scf.Loop 32 :=
  let c0_i32_47 : BitVec 32 := 0#32
  let arg1 : BitVec 32 := BitVec.ofNat 32 (i 1).val
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let v118 : BitVec 32 := Scalar.subi v97 c0_i32_47
  let c1_i32_48 : BitVec 32 := 1#32
  let v120 : BitVec 32 := Scalar.divsi v118 c1_i32_48
  let v121 : BitVec 32 := Scalar.muli v120 c1_i32_48
  let v122 : BitVec 32 := Scalar.addi c0_i32_47 v121
  let c1_i32_49 : BitVec 32 := 1#32
  ⟨c0_i32_47, v122, c1_i32_49⟩
def k0_mult3 (i : grid0.Coords) (k0_t1 : Fin (k0_t1_loop i).trips) : BitVec 32 :=
  let arg1 : BitVec 32 := BitVec.ofNat 32 (i 1).val
  let c2_i32_77 : BitVec 32 := 2#32
  let v165 : BitVec 32 := Scalar.subi arg1 c2_i32_77
  let c2_i32_78 : BitVec 32 := 2#32
  let c0_i32_74 : BitVec 32 := 0#32
  let c4_i32_73 : BitVec 32 := 4#32
  let c0_i32_47 : BitVec 32 := 0#32
  let c1_i32_49 : BitVec 32 := 1#32
  let arg10 : BitVec 32 := Scf.iv c0_i32_47 c1_i32_49 k0_t1
  let v160 : BitVec 32 := Scalar.muli c4_i32_73 arg10
  let v161 : BitVec 32 := Scalar.addi c0_i32_74 v160
  let c0_i32_75 : BitVec 32 := 0#32
  let v162 : BitVec 32 := Scalar.addi v161 c0_i32_75
  let c1_i32_76 : BitVec 32 := 1#32
  let v163 : BitVec 32 := Scalar.addi v162 c1_i32_76
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let v164 : BitVec 32 := Scalar.minsi v163 v64
  let v166 : BitVec 32 := Scalar.muli c2_i32_78 v164
  let v167 : BitVec 32 := Scalar.subi v165 v166
  let c0_i32_79 : BitVec 32 := 0#32
  let v168 : BitVec 32 := Scalar.maxsi v167 c0_i32_79
  let c256_i32_80 : BitVec 32 := 256#32
  let v169 : BitVec 32 := Scalar.muli v168 c256_i32_80
  v169
def k0_off3 (i : grid0.Coords) (k0_t1 : Fin (k0_t1_loop i).trips) (c0_i32_75 : BitVec 32) : Fin 2 → Nat :=
  let arg1 : BitVec 32 := BitVec.ofNat 32 (i 1).val
  let c2_i32_77 : BitVec 32 := 2#32
  let v165 : BitVec 32 := Scalar.subi arg1 c2_i32_77
  let c2_i32_78 : BitVec 32 := 2#32
  let c0_i32_74 : BitVec 32 := 0#32
  let c4_i32_73 : BitVec 32 := 4#32
  let c0_i32_47 : BitVec 32 := 0#32
  let c1_i32_49 : BitVec 32 := 1#32
  let arg10 : BitVec 32 := Scf.iv c0_i32_47 c1_i32_49 k0_t1
  let v160 : BitVec 32 := Scalar.muli c4_i32_73 arg10
  let v161 : BitVec 32 := Scalar.addi c0_i32_74 v160
  let v162 : BitVec 32 := Scalar.addi v161 c0_i32_75
  let c1_i32_76 : BitVec 32 := 1#32
  let v163 : BitVec 32 := Scalar.addi v162 c1_i32_76
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let v164 : BitVec 32 := Scalar.minsi v163 v64
  let v166 : BitVec 32 := Scalar.muli c2_i32_78 v164
  let v167 : BitVec 32 := Scalar.subi v165 v166
  let c0_i32_79 : BitVec 32 := 0#32
  let v168 : BitVec 32 := Scalar.maxsi v167 c0_i32_79
  let c256_i32_80 : BitVec 32 := 256#32
  let v169 : BitVec 32 := Scalar.muli v168 c256_i32_80
  let v170 : BitVec 32 := v169
  let v171 : Index := Scalar.indexCast v170
  let c0_81 : Index := 0#32
  ![v171.toNat, 0]
def k0_mult4 (i : grid0.Coords) (k0_t1 : Fin (k0_t1_loop i).trips) : BitVec 32 :=
  let arg1 : BitVec 32 := BitVec.ofNat 32 (i 1).val
  let c2_i32_89 : BitVec 32 := 2#32
  let v182 : BitVec 32 := Scalar.subi arg1 c2_i32_89
  let c2_i32_90 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let c0_i32_88 : BitVec 32 := 0#32
  let c0_i32_74 : BitVec 32 := 0#32
  let c4_i32_73 : BitVec 32 := 4#32
  let c0_i32_47 : BitVec 32 := 0#32
  let c1_i32_49 : BitVec 32 := 1#32
  let arg10 : BitVec 32 := Scf.iv c0_i32_47 c1_i32_49 k0_t1
  let v160 : BitVec 32 := Scalar.muli c4_i32_73 arg10
  let v161 : BitVec 32 := Scalar.addi c0_i32_74 v160
  let c0_i32_75 : BitVec 32 := 0#32
  let v162 : BitVec 32 := Scalar.addi v161 c0_i32_75
  let c1_i32_87 : BitVec 32 := 1#32
  let v179 : BitVec 32 := Scalar.subi v162 c1_i32_87
  let v180 : BitVec 32 := Scalar.maxsi c0_i32_88 v179
  let v181 : BitVec 32 := Scalar.minsi v64 v180
  let v183 : BitVec 32 := Scalar.muli c2_i32_90 v181
  let v184 : BitVec 32 := Scalar.subi v182 v183
  let c0_i32_91 : BitVec 32 := 0#32
  let v185 : BitVec 32 := Scalar.maxsi v184 c0_i32_91
  let c256_i32_92 : BitVec 32 := 256#32
  let v186 : BitVec 32 := Scalar.muli v185 c256_i32_92
  v186
def k0_off4 (i : grid0.Coords) (k0_t1 : Fin (k0_t1_loop i).trips) (c0_i32_75 : BitVec 32) : Fin 2 → Nat :=
  let arg1 : BitVec 32 := BitVec.ofNat 32 (i 1).val
  let c2_i32_89 : BitVec 32 := 2#32
  let v182 : BitVec 32 := Scalar.subi arg1 c2_i32_89
  let c2_i32_90 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let c0_i32_88 : BitVec 32 := 0#32
  let c0_i32_74 : BitVec 32 := 0#32
  let c4_i32_73 : BitVec 32 := 4#32
  let c0_i32_47 : BitVec 32 := 0#32
  let c1_i32_49 : BitVec 32 := 1#32
  let arg10 : BitVec 32 := Scf.iv c0_i32_47 c1_i32_49 k0_t1
  let v160 : BitVec 32 := Scalar.muli c4_i32_73 arg10
  let v161 : BitVec 32 := Scalar.addi c0_i32_74 v160
  let v162 : BitVec 32 := Scalar.addi v161 c0_i32_75
  let c1_i32_87 : BitVec 32 := 1#32
  let v179 : BitVec 32 := Scalar.subi v162 c1_i32_87
  let v180 : BitVec 32 := Scalar.maxsi c0_i32_88 v179
  let v181 : BitVec 32 := Scalar.minsi v64 v180
  let v183 : BitVec 32 := Scalar.muli c2_i32_90 v181
  let v184 : BitVec 32 := Scalar.subi v182 v183
  let c0_i32_91 : BitVec 32 := 0#32
  let v185 : BitVec 32 := Scalar.maxsi v184 c0_i32_91
  let c256_i32_92 : BitVec 32 := 256#32
  let v186 : BitVec 32 := Scalar.muli v185 c256_i32_92
  let v187 : BitVec 32 := v186
  let v188 : Index := Scalar.indexCast v187
  let c0_93 : Index := 0#32
  ![v188.toNat, 0]
def k0_mult5 (i : grid0.Coords) (k0_t1 : Fin (k0_t1_loop i).trips) : BitVec 32 :=
  let arg1 : BitVec 32 := BitVec.ofNat 32 (i 1).val
  let c2_i32_117 : BitVec 32 := 2#32
  let v255 : BitVec 32 := Scalar.subi arg1 c2_i32_117
  let c2_i32_118 : BitVec 32 := 2#32
  let c0_i32_114 : BitVec 32 := 0#32
  let c4_i32_113 : BitVec 32 := 4#32
  let c0_i32_47 : BitVec 32 := 0#32
  let c1_i32_49 : BitVec 32 := 1#32
  let arg10 : BitVec 32 := Scf.iv c0_i32_47 c1_i32_49 k0_t1
  let v250 : BitVec 32 := Scalar.muli c4_i32_113 arg10
  let v251 : BitVec 32 := Scalar.addi c0_i32_114 v250
  let c1_i32_115 : BitVec 32 := 1#32
  let v252 : BitVec 32 := Scalar.addi v251 c1_i32_115
  let c1_i32_116 : BitVec 32 := 1#32
  let v253 : BitVec 32 := Scalar.addi v252 c1_i32_116
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let v254 : BitVec 32 := Scalar.minsi v253 v64
  let v256 : BitVec 32 := Scalar.muli c2_i32_118 v254
  let v257 : BitVec 32 := Scalar.subi v255 v256
  let c0_i32_119 : BitVec 32 := 0#32
  let v258 : BitVec 32 := Scalar.maxsi v257 c0_i32_119
  let c256_i32_120 : BitVec 32 := 256#32
  let v259 : BitVec 32 := Scalar.muli v258 c256_i32_120
  v259
def k0_mult6 (i : grid0.Coords) (k0_t1 : Fin (k0_t1_loop i).trips) : BitVec 32 :=
  let arg1 : BitVec 32 := BitVec.ofNat 32 (i 1).val
  let c2_i32_129 : BitVec 32 := 2#32
  let v272 : BitVec 32 := Scalar.subi arg1 c2_i32_129
  let c2_i32_130 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let c0_i32_128 : BitVec 32 := 0#32
  let c0_i32_114 : BitVec 32 := 0#32
  let c4_i32_113 : BitVec 32 := 4#32
  let c0_i32_47 : BitVec 32 := 0#32
  let c1_i32_49 : BitVec 32 := 1#32
  let arg10 : BitVec 32 := Scf.iv c0_i32_47 c1_i32_49 k0_t1
  let v250 : BitVec 32 := Scalar.muli c4_i32_113 arg10
  let v251 : BitVec 32 := Scalar.addi c0_i32_114 v250
  let c1_i32_115 : BitVec 32 := 1#32
  let v252 : BitVec 32 := Scalar.addi v251 c1_i32_115
  let c1_i32_127 : BitVec 32 := 1#32
  let v269 : BitVec 32 := Scalar.subi v252 c1_i32_127
  let v270 : BitVec 32 := Scalar.maxsi c0_i32_128 v269
  let v271 : BitVec 32 := Scalar.minsi v64 v270
  let v273 : BitVec 32 := Scalar.muli c2_i32_130 v271
  let v274 : BitVec 32 := Scalar.subi v272 v273
  let c0_i32_131 : BitVec 32 := 0#32
  let v275 : BitVec 32 := Scalar.maxsi v274 c0_i32_131
  let c256_i32_132 : BitVec 32 := 256#32
  let v276 : BitVec 32 := Scalar.muli v275 c256_i32_132
  v276
def k0_mult7 (i : grid0.Coords) (k0_t1 : Fin (k0_t1_loop i).trips) : BitVec 32 :=
  let arg1 : BitVec 32 := BitVec.ofNat 32 (i 1).val
  let c2_i32_157 : BitVec 32 := 2#32
  let v345 : BitVec 32 := Scalar.subi arg1 c2_i32_157
  let c2_i32_158 : BitVec 32 := 2#32
  let c0_i32_154 : BitVec 32 := 0#32
  let c4_i32_153 : BitVec 32 := 4#32
  let c0_i32_47 : BitVec 32 := 0#32
  let c1_i32_49 : BitVec 32 := 1#32
  let arg10 : BitVec 32 := Scf.iv c0_i32_47 c1_i32_49 k0_t1
  let v340 : BitVec 32 := Scalar.muli c4_i32_153 arg10
  let v341 : BitVec 32 := Scalar.addi c0_i32_154 v340
  let c2_i32_155 : BitVec 32 := 2#32
  let v342 : BitVec 32 := Scalar.addi v341 c2_i32_155
  let c1_i32_156 : BitVec 32 := 1#32
  let v343 : BitVec 32 := Scalar.addi v342 c1_i32_156
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let v344 : BitVec 32 := Scalar.minsi v343 v64
  let v346 : BitVec 32 := Scalar.muli c2_i32_158 v344
  let v347 : BitVec 32 := Scalar.subi v345 v346
  let c0_i32_159 : BitVec 32 := 0#32
  let v348 : BitVec 32 := Scalar.maxsi v347 c0_i32_159
  let c256_i32_160 : BitVec 32 := 256#32
  let v349 : BitVec 32 := Scalar.muli v348 c256_i32_160
  v349
def k0_mult8 (i : grid0.Coords) (k0_t1 : Fin (k0_t1_loop i).trips) : BitVec 32 :=
  let arg1 : BitVec 32 := BitVec.ofNat 32 (i 1).val
  let c2_i32_169 : BitVec 32 := 2#32
  let v362 : BitVec 32 := Scalar.subi arg1 c2_i32_169
  let c2_i32_170 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let c0_i32_168 : BitVec 32 := 0#32
  let c0_i32_154 : BitVec 32 := 0#32
  let c4_i32_153 : BitVec 32 := 4#32
  let c0_i32_47 : BitVec 32 := 0#32
  let c1_i32_49 : BitVec 32 := 1#32
  let arg10 : BitVec 32 := Scf.iv c0_i32_47 c1_i32_49 k0_t1
  let v340 : BitVec 32 := Scalar.muli c4_i32_153 arg10
  let v341 : BitVec 32 := Scalar.addi c0_i32_154 v340
  let c2_i32_155 : BitVec 32 := 2#32
  let v342 : BitVec 32 := Scalar.addi v341 c2_i32_155
  let c1_i32_167 : BitVec 32 := 1#32
  let v359 : BitVec 32 := Scalar.subi v342 c1_i32_167
  let v360 : BitVec 32 := Scalar.maxsi c0_i32_168 v359
  let v361 : BitVec 32 := Scalar.minsi v64 v360
  let v363 : BitVec 32 := Scalar.muli c2_i32_170 v361
  let v364 : BitVec 32 := Scalar.subi v362 v363
  let c0_i32_171 : BitVec 32 := 0#32
  let v365 : BitVec 32 := Scalar.maxsi v364 c0_i32_171
  let c256_i32_172 : BitVec 32 := 256#32
  let v366 : BitVec 32 := Scalar.muli v365 c256_i32_172
  v366
def k0_mult9 (i : grid0.Coords) (k0_t1 : Fin (k0_t1_loop i).trips) : BitVec 32 :=
  let arg1 : BitVec 32 := BitVec.ofNat 32 (i 1).val
  let c2_i32_196 : BitVec 32 := 2#32
  let v435 : BitVec 32 := Scalar.subi arg1 c2_i32_196
  let c2_i32_197 : BitVec 32 := 2#32
  let c0_i32_194 : BitVec 32 := 0#32
  let c4_i32_193 : BitVec 32 := 4#32
  let c0_i32_47 : BitVec 32 := 0#32
  let c1_i32_49 : BitVec 32 := 1#32
  let arg10 : BitVec 32 := Scf.iv c0_i32_47 c1_i32_49 k0_t1
  let v430 : BitVec 32 := Scalar.muli c4_i32_193 arg10
  let v431 : BitVec 32 := Scalar.addi c0_i32_194 v430
  let c3_i32 : BitVec 32 := 3#32
  let v432 : BitVec 32 := Scalar.addi v431 c3_i32
  let c1_i32_195 : BitVec 32 := 1#32
  let v433 : BitVec 32 := Scalar.addi v432 c1_i32_195
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let v434 : BitVec 32 := Scalar.minsi v433 v64
  let v436 : BitVec 32 := Scalar.muli c2_i32_197 v434
  let v437 : BitVec 32 := Scalar.subi v435 v436
  let c0_i32_198 : BitVec 32 := 0#32
  let v438 : BitVec 32 := Scalar.maxsi v437 c0_i32_198
  let c256_i32_199 : BitVec 32 := 256#32
  let v439 : BitVec 32 := Scalar.muli v438 c256_i32_199
  v439
def k0_mult10 (i : grid0.Coords) (k0_t1 : Fin (k0_t1_loop i).trips) : BitVec 32 :=
  let arg1 : BitVec 32 := BitVec.ofNat 32 (i 1).val
  let c2_i32_208 : BitVec 32 := 2#32
  let v452 : BitVec 32 := Scalar.subi arg1 c2_i32_208
  let c2_i32_209 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let c0_i32_207 : BitVec 32 := 0#32
  let c0_i32_194 : BitVec 32 := 0#32
  let c4_i32_193 : BitVec 32 := 4#32
  let c0_i32_47 : BitVec 32 := 0#32
  let c1_i32_49 : BitVec 32 := 1#32
  let arg10 : BitVec 32 := Scf.iv c0_i32_47 c1_i32_49 k0_t1
  let v430 : BitVec 32 := Scalar.muli c4_i32_193 arg10
  let v431 : BitVec 32 := Scalar.addi c0_i32_194 v430
  let c3_i32 : BitVec 32 := 3#32
  let v432 : BitVec 32 := Scalar.addi v431 c3_i32
  let c1_i32_206 : BitVec 32 := 1#32
  let v449 : BitVec 32 := Scalar.subi v432 c1_i32_206
  let v450 : BitVec 32 := Scalar.maxsi c0_i32_207 v449
  let v451 : BitVec 32 := Scalar.minsi v64 v450
  let v453 : BitVec 32 := Scalar.muli c2_i32_209 v451
  let v454 : BitVec 32 := Scalar.subi v452 v453
  let c0_i32_210 : BitVec 32 := 0#32
  let v455 : BitVec 32 := Scalar.maxsi v454 c0_i32_210
  let c256_i32_211 : BitVec 32 := 256#32
  let v456 : BitVec 32 := Scalar.muli v455 c256_i32_211
  v456
@[reducible] def k0_t2_loop (i : grid0.Coords) : Scf.Loop 32 :=
  let c0_i32_47 : BitVec 32 := 0#32
  let arg1 : BitVec 32 := BitVec.ofNat 32 (i 1).val
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let v118 : BitVec 32 := Scalar.subi v97 c0_i32_47
  let c1_i32_48 : BitVec 32 := 1#32
  let v120 : BitVec 32 := Scalar.divsi v118 c1_i32_48
  let v121 : BitVec 32 := Scalar.muli v120 c1_i32_48
  let v122 : BitVec 32 := Scalar.addi c0_i32_47 v121
  let v119 : BitVec 32 := Scalar.addi c0_i32_47 v118
  let c1_i32_50 : BitVec 32 := 1#32
  ⟨v122, v119, c1_i32_50⟩
def k0_mult11 (i : grid0.Coords) (k0_t2 : Fin (k0_t2_loop i).trips) : BitVec 32 :=
  let arg1 : BitVec 32 := BitVec.ofNat 32 (i 1).val
  let c2_i32_77 : BitVec 32 := 2#32
  let v165 : BitVec 32 := Scalar.subi arg1 c2_i32_77
  let c2_i32_78 : BitVec 32 := 2#32
  let c0_i32_74 : BitVec 32 := 0#32
  let c4_i32_73 : BitVec 32 := 4#32
  let c0_i32_47 : BitVec 32 := 0#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let v118 : BitVec 32 := Scalar.subi v97 c0_i32_47
  let c1_i32_48 : BitVec 32 := 1#32
  let v120 : BitVec 32 := Scalar.divsi v118 c1_i32_48
  let v121 : BitVec 32 := Scalar.muli v120 c1_i32_48
  let v122 : BitVec 32 := Scalar.addi c0_i32_47 v121
  let c1_i32_50 : BitVec 32 := 1#32
  let arg10 : BitVec 32 := Scf.iv v122 c1_i32_50 k0_t2
  let v160 : BitVec 32 := Scalar.muli c4_i32_73 arg10
  let v161 : BitVec 32 := Scalar.addi c0_i32_74 v160
  let c0_i32_75 : BitVec 32 := 0#32
  let v162 : BitVec 32 := Scalar.addi v161 c0_i32_75
  let c1_i32_76 : BitVec 32 := 1#32
  let v163 : BitVec 32 := Scalar.addi v162 c1_i32_76
  let c1_i32_19 : BitVec 32 := 1#32
  let v63 : BitVec 32 := Scalar.subi v62 c1_i32_19
  let c0_i32_20 : BitVec 32 := 0#32
  let v64 : BitVec 32 := Scalar.maxsi v63 c0_i32_20
  let v164 : BitVec 32 := Scalar.minsi v163 v64
  let v166 : BitVec 32 := Scalar.muli c2_i32_78 v164
  let v167 : BitVec 32 := Scalar.subi v165 v166
  let c0_i32_79 : BitVec 32 := 0#32
  let v168 : BitVec 32 := Scalar.maxsi v167 c0_i32_79
  let c256_i32_80 : BitVec 32 := 256#32
  let v169 : BitVec 32 := Scalar.muli v168 c256_i32_80
  v169
def k0_off5 (i : grid0.Coords) (k0_t2 : Fin (k0_t2_loop i).trips) (c0_i32_75 : BitVec 32) : Fin 2 → Nat :=
  let arg1 : BitVec 32 := BitVec.ofNat 32 (i 1).val
  let c2_i32_77 : BitVec 32 := 2#32
  let v165 : BitVec 32 := Scalar.subi arg1 c2_i32_77
  let c2_i32_78 : BitVec 32 := 2#32
  let c0_i32_74 : BitVec 32 := 0#32
  let c4_i32_73 : BitVec 32 := 4#32
  let c0_i32_47 : BitVec 32 := 0#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let v118 : BitVec 32 := Scalar.subi v97 c0_i32_47
  let c1_i32_48 : BitVec 32 := 1#32
  let v120 : BitVec 32 := Scalar.divsi v118 c1_i32_48
  let v121 : BitVec 32 := Scalar.muli v120 c1_i32_48
  let v122 : BitVec 32 := Scalar.addi c0_i32_47 v121
  let c1_i32_50 : BitVec 32 := 1#32
  let arg10 : BitVec 32 := Scf.iv v122 c1_i32_50 k0_t2
  let v160 : BitVec 32 := Scalar.muli c4_i32_73 arg10
  let v161 : BitVec 32 := Scalar.addi c0_i32_74 v160
  let v162 : BitVec 32 := Scalar.addi v161 c0_i32_75
  let c1_i32_76 : BitVec 32 := 1#32
  let v163 : BitVec 32 := Scalar.addi v162 c1_i32_76
  let c1_i32_19 : BitVec 32 := 1#32
  let v63 : BitVec 32 := Scalar.subi v62 c1_i32_19
  let c0_i32_20 : BitVec 32 := 0#32
  let v64 : BitVec 32 := Scalar.maxsi v63 c0_i32_20
  let v164 : BitVec 32 := Scalar.minsi v163 v64
  let v166 : BitVec 32 := Scalar.muli c2_i32_78 v164
  let v167 : BitVec 32 := Scalar.subi v165 v166
  let c0_i32_79 : BitVec 32 := 0#32
  let v168 : BitVec 32 := Scalar.maxsi v167 c0_i32_79
  let c256_i32_80 : BitVec 32 := 256#32
  let v169 : BitVec 32 := Scalar.muli v168 c256_i32_80
  let v170 : BitVec 32 := v169
  let v171 : Index := Scalar.indexCast v170
  let c0_81 : Index := 0#32
  ![v171.toNat, 0]
def k0_mult12 (i : grid0.Coords) (k0_t2 : Fin (k0_t2_loop i).trips) : BitVec 32 :=
  let arg1 : BitVec 32 := BitVec.ofNat 32 (i 1).val
  let c2_i32_89 : BitVec 32 := 2#32
  let v182 : BitVec 32 := Scalar.subi arg1 c2_i32_89
  let c2_i32_90 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let c0_i32_88 : BitVec 32 := 0#32
  let c0_i32_74 : BitVec 32 := 0#32
  let c4_i32_73 : BitVec 32 := 4#32
  let c0_i32_47 : BitVec 32 := 0#32
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let v118 : BitVec 32 := Scalar.subi v97 c0_i32_47
  let c1_i32_48 : BitVec 32 := 1#32
  let v120 : BitVec 32 := Scalar.divsi v118 c1_i32_48
  let v121 : BitVec 32 := Scalar.muli v120 c1_i32_48
  let v122 : BitVec 32 := Scalar.addi c0_i32_47 v121
  let c1_i32_50 : BitVec 32 := 1#32
  let arg10 : BitVec 32 := Scf.iv v122 c1_i32_50 k0_t2
  let v160 : BitVec 32 := Scalar.muli c4_i32_73 arg10
  let v161 : BitVec 32 := Scalar.addi c0_i32_74 v160
  let c0_i32_75 : BitVec 32 := 0#32
  let v162 : BitVec 32 := Scalar.addi v161 c0_i32_75
  let c1_i32_87 : BitVec 32 := 1#32
  let v179 : BitVec 32 := Scalar.subi v162 c1_i32_87
  let v180 : BitVec 32 := Scalar.maxsi c0_i32_88 v179
  let v181 : BitVec 32 := Scalar.minsi v64 v180
  let v183 : BitVec 32 := Scalar.muli c2_i32_90 v181
  let v184 : BitVec 32 := Scalar.subi v182 v183
  let c0_i32_91 : BitVec 32 := 0#32
  let v185 : BitVec 32 := Scalar.maxsi v184 c0_i32_91
  let c256_i32_92 : BitVec 32 := 256#32
  let v186 : BitVec 32 := Scalar.muli v185 c256_i32_92
  v186
def k0_off6 (i : grid0.Coords) (k0_t2 : Fin (k0_t2_loop i).trips) (c0_i32_75 : BitVec 32) : Fin 2 → Nat :=
  let arg1 : BitVec 32 := BitVec.ofNat 32 (i 1).val
  let c2_i32_89 : BitVec 32 := 2#32
  let v182 : BitVec 32 := Scalar.subi arg1 c2_i32_89
  let c2_i32_90 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let c0_i32_88 : BitVec 32 := 0#32
  let c0_i32_74 : BitVec 32 := 0#32
  let c4_i32_73 : BitVec 32 := 4#32
  let c0_i32_47 : BitVec 32 := 0#32
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let v118 : BitVec 32 := Scalar.subi v97 c0_i32_47
  let c1_i32_48 : BitVec 32 := 1#32
  let v120 : BitVec 32 := Scalar.divsi v118 c1_i32_48
  let v121 : BitVec 32 := Scalar.muli v120 c1_i32_48
  let v122 : BitVec 32 := Scalar.addi c0_i32_47 v121
  let c1_i32_50 : BitVec 32 := 1#32
  let arg10 : BitVec 32 := Scf.iv v122 c1_i32_50 k0_t2
  let v160 : BitVec 32 := Scalar.muli c4_i32_73 arg10
  let v161 : BitVec 32 := Scalar.addi c0_i32_74 v160
  let v162 : BitVec 32 := Scalar.addi v161 c0_i32_75
  let c1_i32_87 : BitVec 32 := 1#32
  let v179 : BitVec 32 := Scalar.subi v162 c1_i32_87
  let v180 : BitVec 32 := Scalar.maxsi c0_i32_88 v179
  let v181 : BitVec 32 := Scalar.minsi v64 v180
  let v183 : BitVec 32 := Scalar.muli c2_i32_90 v181
  let v184 : BitVec 32 := Scalar.subi v182 v183
  let c0_i32_91 : BitVec 32 := 0#32
  let v185 : BitVec 32 := Scalar.maxsi v184 c0_i32_91
  let c256_i32_92 : BitVec 32 := 256#32
  let v186 : BitVec 32 := Scalar.muli v185 c256_i32_92
  let v187 : BitVec 32 := v186
  let v188 : Index := Scalar.indexCast v187
  let c0_93 : Index := 0#32
  ![v188.toNat, 0]
def k0_mult13 (i : grid0.Coords) (k0_t2 : Fin (k0_t2_loop i).trips) : BitVec 32 :=
  let arg1 : BitVec 32 := BitVec.ofNat 32 (i 1).val
  let c2_i32_117 : BitVec 32 := 2#32
  let v255 : BitVec 32 := Scalar.subi arg1 c2_i32_117
  let c2_i32_118 : BitVec 32 := 2#32
  let c0_i32_114 : BitVec 32 := 0#32
  let c4_i32_113 : BitVec 32 := 4#32
  let c0_i32_47 : BitVec 32 := 0#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let v118 : BitVec 32 := Scalar.subi v97 c0_i32_47
  let c1_i32_48 : BitVec 32 := 1#32
  let v120 : BitVec 32 := Scalar.divsi v118 c1_i32_48
  let v121 : BitVec 32 := Scalar.muli v120 c1_i32_48
  let v122 : BitVec 32 := Scalar.addi c0_i32_47 v121
  let c1_i32_50 : BitVec 32 := 1#32
  let arg10 : BitVec 32 := Scf.iv v122 c1_i32_50 k0_t2
  let v250 : BitVec 32 := Scalar.muli c4_i32_113 arg10
  let v251 : BitVec 32 := Scalar.addi c0_i32_114 v250
  let c1_i32_115 : BitVec 32 := 1#32
  let v252 : BitVec 32 := Scalar.addi v251 c1_i32_115
  let c1_i32_116 : BitVec 32 := 1#32
  let v253 : BitVec 32 := Scalar.addi v252 c1_i32_116
  let c1_i32_19 : BitVec 32 := 1#32
  let v63 : BitVec 32 := Scalar.subi v62 c1_i32_19
  let c0_i32_20 : BitVec 32 := 0#32
  let v64 : BitVec 32 := Scalar.maxsi v63 c0_i32_20
  let v254 : BitVec 32 := Scalar.minsi v253 v64
  let v256 : BitVec 32 := Scalar.muli c2_i32_118 v254
  let v257 : BitVec 32 := Scalar.subi v255 v256
  let c0_i32_119 : BitVec 32 := 0#32
  let v258 : BitVec 32 := Scalar.maxsi v257 c0_i32_119
  let c256_i32_120 : BitVec 32 := 256#32
  let v259 : BitVec 32 := Scalar.muli v258 c256_i32_120
  v259
def k0_mult14 (i : grid0.Coords) (k0_t2 : Fin (k0_t2_loop i).trips) : BitVec 32 :=
  let arg1 : BitVec 32 := BitVec.ofNat 32 (i 1).val
  let c2_i32_129 : BitVec 32 := 2#32
  let v272 : BitVec 32 := Scalar.subi arg1 c2_i32_129
  let c2_i32_130 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let c0_i32_128 : BitVec 32 := 0#32
  let c0_i32_114 : BitVec 32 := 0#32
  let c4_i32_113 : BitVec 32 := 4#32
  let c0_i32_47 : BitVec 32 := 0#32
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let v118 : BitVec 32 := Scalar.subi v97 c0_i32_47
  let c1_i32_48 : BitVec 32 := 1#32
  let v120 : BitVec 32 := Scalar.divsi v118 c1_i32_48
  let v121 : BitVec 32 := Scalar.muli v120 c1_i32_48
  let v122 : BitVec 32 := Scalar.addi c0_i32_47 v121
  let c1_i32_50 : BitVec 32 := 1#32
  let arg10 : BitVec 32 := Scf.iv v122 c1_i32_50 k0_t2
  let v250 : BitVec 32 := Scalar.muli c4_i32_113 arg10
  let v251 : BitVec 32 := Scalar.addi c0_i32_114 v250
  let c1_i32_115 : BitVec 32 := 1#32
  let v252 : BitVec 32 := Scalar.addi v251 c1_i32_115
  let c1_i32_127 : BitVec 32 := 1#32
  let v269 : BitVec 32 := Scalar.subi v252 c1_i32_127
  let v270 : BitVec 32 := Scalar.maxsi c0_i32_128 v269
  let v271 : BitVec 32 := Scalar.minsi v64 v270
  let v273 : BitVec 32 := Scalar.muli c2_i32_130 v271
  let v274 : BitVec 32 := Scalar.subi v272 v273
  let c0_i32_131 : BitVec 32 := 0#32
  let v275 : BitVec 32 := Scalar.maxsi v274 c0_i32_131
  let c256_i32_132 : BitVec 32 := 256#32
  let v276 : BitVec 32 := Scalar.muli v275 c256_i32_132
  v276
def k0_mult15 (i : grid0.Coords) (k0_t2 : Fin (k0_t2_loop i).trips) : BitVec 32 :=
  let arg1 : BitVec 32 := BitVec.ofNat 32 (i 1).val
  let c2_i32_157 : BitVec 32 := 2#32
  let v345 : BitVec 32 := Scalar.subi arg1 c2_i32_157
  let c2_i32_158 : BitVec 32 := 2#32
  let c0_i32_154 : BitVec 32 := 0#32
  let c4_i32_153 : BitVec 32 := 4#32
  let c0_i32_47 : BitVec 32 := 0#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let v118 : BitVec 32 := Scalar.subi v97 c0_i32_47
  let c1_i32_48 : BitVec 32 := 1#32
  let v120 : BitVec 32 := Scalar.divsi v118 c1_i32_48
  let v121 : BitVec 32 := Scalar.muli v120 c1_i32_48
  let v122 : BitVec 32 := Scalar.addi c0_i32_47 v121
  let c1_i32_50 : BitVec 32 := 1#32
  let arg10 : BitVec 32 := Scf.iv v122 c1_i32_50 k0_t2
  let v340 : BitVec 32 := Scalar.muli c4_i32_153 arg10
  let v341 : BitVec 32 := Scalar.addi c0_i32_154 v340
  let c2_i32_155 : BitVec 32 := 2#32
  let v342 : BitVec 32 := Scalar.addi v341 c2_i32_155
  let c1_i32_156 : BitVec 32 := 1#32
  let v343 : BitVec 32 := Scalar.addi v342 c1_i32_156
  let c1_i32_19 : BitVec 32 := 1#32
  let v63 : BitVec 32 := Scalar.subi v62 c1_i32_19
  let c0_i32_20 : BitVec 32 := 0#32
  let v64 : BitVec 32 := Scalar.maxsi v63 c0_i32_20
  let v344 : BitVec 32 := Scalar.minsi v343 v64
  let v346 : BitVec 32 := Scalar.muli c2_i32_158 v344
  let v347 : BitVec 32 := Scalar.subi v345 v346
  let c0_i32_159 : BitVec 32 := 0#32
  let v348 : BitVec 32 := Scalar.maxsi v347 c0_i32_159
  let c256_i32_160 : BitVec 32 := 256#32
  let v349 : BitVec 32 := Scalar.muli v348 c256_i32_160
  v349
def k0_mult16 (i : grid0.Coords) (k0_t2 : Fin (k0_t2_loop i).trips) : BitVec 32 :=
  let arg1 : BitVec 32 := BitVec.ofNat 32 (i 1).val
  let c2_i32_169 : BitVec 32 := 2#32
  let v362 : BitVec 32 := Scalar.subi arg1 c2_i32_169
  let c2_i32_170 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let c0_i32_168 : BitVec 32 := 0#32
  let c0_i32_154 : BitVec 32 := 0#32
  let c4_i32_153 : BitVec 32 := 4#32
  let c0_i32_47 : BitVec 32 := 0#32
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let v118 : BitVec 32 := Scalar.subi v97 c0_i32_47
  let c1_i32_48 : BitVec 32 := 1#32
  let v120 : BitVec 32 := Scalar.divsi v118 c1_i32_48
  let v121 : BitVec 32 := Scalar.muli v120 c1_i32_48
  let v122 : BitVec 32 := Scalar.addi c0_i32_47 v121
  let c1_i32_50 : BitVec 32 := 1#32
  let arg10 : BitVec 32 := Scf.iv v122 c1_i32_50 k0_t2
  let v340 : BitVec 32 := Scalar.muli c4_i32_153 arg10
  let v341 : BitVec 32 := Scalar.addi c0_i32_154 v340
  let c2_i32_155 : BitVec 32 := 2#32
  let v342 : BitVec 32 := Scalar.addi v341 c2_i32_155
  let c1_i32_167 : BitVec 32 := 1#32
  let v359 : BitVec 32 := Scalar.subi v342 c1_i32_167
  let v360 : BitVec 32 := Scalar.maxsi c0_i32_168 v359
  let v361 : BitVec 32 := Scalar.minsi v64 v360
  let v363 : BitVec 32 := Scalar.muli c2_i32_170 v361
  let v364 : BitVec 32 := Scalar.subi v362 v363
  let c0_i32_171 : BitVec 32 := 0#32
  let v365 : BitVec 32 := Scalar.maxsi v364 c0_i32_171
  let c256_i32_172 : BitVec 32 := 256#32
  let v366 : BitVec 32 := Scalar.muli v365 c256_i32_172
  v366
def k0_mult17 (i : grid0.Coords) (k0_t2 : Fin (k0_t2_loop i).trips) : BitVec 32 :=
  let arg1 : BitVec 32 := BitVec.ofNat 32 (i 1).val
  let c2_i32_196 : BitVec 32 := 2#32
  let v435 : BitVec 32 := Scalar.subi arg1 c2_i32_196
  let c2_i32_197 : BitVec 32 := 2#32
  let c0_i32_194 : BitVec 32 := 0#32
  let c4_i32_193 : BitVec 32 := 4#32
  let c0_i32_47 : BitVec 32 := 0#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let v118 : BitVec 32 := Scalar.subi v97 c0_i32_47
  let c1_i32_48 : BitVec 32 := 1#32
  let v120 : BitVec 32 := Scalar.divsi v118 c1_i32_48
  let v121 : BitVec 32 := Scalar.muli v120 c1_i32_48
  let v122 : BitVec 32 := Scalar.addi c0_i32_47 v121
  let c1_i32_50 : BitVec 32 := 1#32
  let arg10 : BitVec 32 := Scf.iv v122 c1_i32_50 k0_t2
  let v430 : BitVec 32 := Scalar.muli c4_i32_193 arg10
  let v431 : BitVec 32 := Scalar.addi c0_i32_194 v430
  let c3_i32 : BitVec 32 := 3#32
  let v432 : BitVec 32 := Scalar.addi v431 c3_i32
  let c1_i32_195 : BitVec 32 := 1#32
  let v433 : BitVec 32 := Scalar.addi v432 c1_i32_195
  let c1_i32_19 : BitVec 32 := 1#32
  let v63 : BitVec 32 := Scalar.subi v62 c1_i32_19
  let c0_i32_20 : BitVec 32 := 0#32
  let v64 : BitVec 32 := Scalar.maxsi v63 c0_i32_20
  let v434 : BitVec 32 := Scalar.minsi v433 v64
  let v436 : BitVec 32 := Scalar.muli c2_i32_197 v434
  let v437 : BitVec 32 := Scalar.subi v435 v436
  let c0_i32_198 : BitVec 32 := 0#32
  let v438 : BitVec 32 := Scalar.maxsi v437 c0_i32_198
  let c256_i32_199 : BitVec 32 := 256#32
  let v439 : BitVec 32 := Scalar.muli v438 c256_i32_199
  v439
def k0_mult18 (i : grid0.Coords) (k0_t2 : Fin (k0_t2_loop i).trips) : BitVec 32 :=
  let arg1 : BitVec 32 := BitVec.ofNat 32 (i 1).val
  let c2_i32_208 : BitVec 32 := 2#32
  let v452 : BitVec 32 := Scalar.subi arg1 c2_i32_208
  let c2_i32_209 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let c0_i32_207 : BitVec 32 := 0#32
  let c0_i32_194 : BitVec 32 := 0#32
  let c4_i32_193 : BitVec 32 := 4#32
  let c0_i32_47 : BitVec 32 := 0#32
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let v118 : BitVec 32 := Scalar.subi v97 c0_i32_47
  let c1_i32_48 : BitVec 32 := 1#32
  let v120 : BitVec 32 := Scalar.divsi v118 c1_i32_48
  let v121 : BitVec 32 := Scalar.muli v120 c1_i32_48
  let v122 : BitVec 32 := Scalar.addi c0_i32_47 v121
  let c1_i32_50 : BitVec 32 := 1#32
  let arg10 : BitVec 32 := Scf.iv v122 c1_i32_50 k0_t2
  let v430 : BitVec 32 := Scalar.muli c4_i32_193 arg10
  let v431 : BitVec 32 := Scalar.addi c0_i32_194 v430
  let c3_i32 : BitVec 32 := 3#32
  let v432 : BitVec 32 := Scalar.addi v431 c3_i32
  let c1_i32_206 : BitVec 32 := 1#32
  let v449 : BitVec 32 := Scalar.subi v432 c1_i32_206
  let v450 : BitVec 32 := Scalar.maxsi c0_i32_207 v449
  let v451 : BitVec 32 := Scalar.minsi v64 v450
  let v453 : BitVec 32 := Scalar.muli c2_i32_209 v451
  let v454 : BitVec 32 := Scalar.subi v452 v453
  let c0_i32_210 : BitVec 32 := 0#32
  let v455 : BitVec 32 := Scalar.maxsi v454 c0_i32_210
  let c256_i32_211 : BitVec 32 := 256#32
  let v456 : BitVec 32 := Scalar.muli v455 c256_i32_211
  v456
@[reducible] def k0_t3_loop (i : grid0.Coords) : Scf.Loop 32 :=
  let c0_i32_51 : BitVec 32 := 0#32
  let arg1 : BitVec 32 := BitVec.ofNat 32 (i 1).val
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let c4_i32_38 : BitVec 32 := 4#32
  let v98 : BitVec 32 := Scalar.muli v97 c4_i32_38
  let v99 : BitVec 32 := Scalar.subi v62 v98
  let c1_i32_39 : BitVec 32 := 1#32
  let v100 : BitVec 32 := Scalar.addi v99 c1_i32_39
  let c0_i32_41 : BitVec 32 := 0#32
  let v102 : BitVec 1 := Scalar.cmpi .sgt v100 c0_i32_41
  let v103 : BitVec 32 := Scalar.extui v102
  let c0_i32_42 : BitVec 32 := 0#32
  let v104 : BitVec 1 := Scalar.cmpi .slt v100 c0_i32_42
  let v105 : BitVec 32 := Scalar.extui v104
  let v106 : BitVec 32 := Scalar.subi v103 v105
  let c2_i32_40 : BitVec 32 := 2#32
  let c0_i32_43 : BitVec 32 := 0#32
  let v107 : BitVec 1 := Scalar.cmpi .sgt c2_i32_40 c0_i32_43
  let v108 : BitVec 32 := Scalar.extui v107
  let c0_i32_44 : BitVec 32 := 0#32
  let v109 : BitVec 1 := Scalar.cmpi .slt c2_i32_40 c0_i32_44
  let v110 : BitVec 32 := Scalar.extui v109
  let v111 : BitVec 32 := Scalar.subi v108 v110
  let v112 : BitVec 1 := Scalar.cmpi .ne v106 v111
  let v113 : BitVec 32 := Scalar.remsi v100 c2_i32_40
  let c0_i32_45 : BitVec 32 := 0#32
  let v114 : BitVec 1 := Scalar.cmpi .ne v113 c0_i32_45
  let v115 : BitVec 1 := Scalar.andi v112 v114
  let v101 : BitVec 32 := Scalar.divsi v100 c2_i32_40
  let c1_i32_46 : BitVec 32 := 1#32
  let v116 : BitVec 32 := Scalar.subi v101 c1_i32_46
  let v117 : BitVec 32 := Scalar.select v115 v116 v101
  let v125 : BitVec 32 := Scalar.subi v117 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_53 : BitVec 32 := 1#32
  ⟨c0_i32_51, v129, c1_i32_53⟩
def k0_mult19 (i : grid0.Coords) (k0_t3 : Fin (k0_t3_loop i).trips) : BitVec 32 :=
  let arg1 : BitVec 32 := BitVec.ofNat 32 (i 1).val
  let c2_i32_76 : BitVec 32 := 2#32
  let v165 : BitVec 32 := Scalar.subi arg1 c2_i32_76
  let c2_i32_77 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let c4_i32_38 : BitVec 32 := 4#32
  let v98 : BitVec 32 := Scalar.muli v97 c4_i32_38
  let c2_i32_73 : BitVec 32 := 2#32
  let c0_i32_51 : BitVec 32 := 0#32
  let c1_i32_53 : BitVec 32 := 1#32
  let arg10 : BitVec 32 := Scf.iv c0_i32_51 c1_i32_53 k0_t3
  let v160 : BitVec 32 := Scalar.muli c2_i32_73 arg10
  let v161 : BitVec 32 := Scalar.addi v98 v160
  let c0_i32_74 : BitVec 32 := 0#32
  let v162 : BitVec 32 := Scalar.addi v161 c0_i32_74
  let c1_i32_75 : BitVec 32 := 1#32
  let v163 : BitVec 32 := Scalar.addi v162 c1_i32_75
  let c1_i32_19 : BitVec 32 := 1#32
  let v63 : BitVec 32 := Scalar.subi v62 c1_i32_19
  let c0_i32_20 : BitVec 32 := 0#32
  let v64 : BitVec 32 := Scalar.maxsi v63 c0_i32_20
  let v164 : BitVec 32 := Scalar.minsi v163 v64
  let v166 : BitVec 32 := Scalar.muli c2_i32_77 v164
  let v167 : BitVec 32 := Scalar.subi v165 v166
  let c0_i32_78 : BitVec 32 := 0#32
  let v168 : BitVec 32 := Scalar.maxsi v167 c0_i32_78
  let c256_i32_79 : BitVec 32 := 256#32
  let v169 : BitVec 32 := Scalar.muli v168 c256_i32_79
  v169
def k0_off7 (i : grid0.Coords) (k0_t3 : Fin (k0_t3_loop i).trips) (c0_i32_74 : BitVec 32) : Fin 2 → Nat :=
  let arg1 : BitVec 32 := BitVec.ofNat 32 (i 1).val
  let c2_i32_76 : BitVec 32 := 2#32
  let v165 : BitVec 32 := Scalar.subi arg1 c2_i32_76
  let c2_i32_77 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let c4_i32_38 : BitVec 32 := 4#32
  let v98 : BitVec 32 := Scalar.muli v97 c4_i32_38
  let c2_i32_73 : BitVec 32 := 2#32
  let c0_i32_51 : BitVec 32 := 0#32
  let c1_i32_53 : BitVec 32 := 1#32
  let arg10 : BitVec 32 := Scf.iv c0_i32_51 c1_i32_53 k0_t3
  let v160 : BitVec 32 := Scalar.muli c2_i32_73 arg10
  let v161 : BitVec 32 := Scalar.addi v98 v160
  let v162 : BitVec 32 := Scalar.addi v161 c0_i32_74
  let c1_i32_75 : BitVec 32 := 1#32
  let v163 : BitVec 32 := Scalar.addi v162 c1_i32_75
  let c1_i32_19 : BitVec 32 := 1#32
  let v63 : BitVec 32 := Scalar.subi v62 c1_i32_19
  let c0_i32_20 : BitVec 32 := 0#32
  let v64 : BitVec 32 := Scalar.maxsi v63 c0_i32_20
  let v164 : BitVec 32 := Scalar.minsi v163 v64
  let v166 : BitVec 32 := Scalar.muli c2_i32_77 v164
  let v167 : BitVec 32 := Scalar.subi v165 v166
  let c0_i32_78 : BitVec 32 := 0#32
  let v168 : BitVec 32 := Scalar.maxsi v167 c0_i32_78
  let c256_i32_79 : BitVec 32 := 256#32
  let v169 : BitVec 32 := Scalar.muli v168 c256_i32_79
  let v170 : BitVec 32 := v169
  let v171 : Index := Scalar.indexCast v170
  let c0_80 : Index := 0#32
  ![v171.toNat, 0]
def k0_mult20 (i : grid0.Coords) (k0_t3 : Fin (k0_t3_loop i).trips) : BitVec 32 :=
  let arg1 : BitVec 32 := BitVec.ofNat 32 (i 1).val
  let c2_i32_88 : BitVec 32 := 2#32
  let v182 : BitVec 32 := Scalar.subi arg1 c2_i32_88
  let c2_i32_89 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let c0_i32_87 : BitVec 32 := 0#32
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let c4_i32_38 : BitVec 32 := 4#32
  let v98 : BitVec 32 := Scalar.muli v97 c4_i32_38
  let c2_i32_73 : BitVec 32 := 2#32
  let c0_i32_51 : BitVec 32 := 0#32
  let c1_i32_53 : BitVec 32 := 1#32
  let arg10 : BitVec 32 := Scf.iv c0_i32_51 c1_i32_53 k0_t3
  let v160 : BitVec 32 := Scalar.muli c2_i32_73 arg10
  let v161 : BitVec 32 := Scalar.addi v98 v160
  let c0_i32_74 : BitVec 32 := 0#32
  let v162 : BitVec 32 := Scalar.addi v161 c0_i32_74
  let c1_i32_86 : BitVec 32 := 1#32
  let v179 : BitVec 32 := Scalar.subi v162 c1_i32_86
  let v180 : BitVec 32 := Scalar.maxsi c0_i32_87 v179
  let v181 : BitVec 32 := Scalar.minsi v64 v180
  let v183 : BitVec 32 := Scalar.muli c2_i32_89 v181
  let v184 : BitVec 32 := Scalar.subi v182 v183
  let c0_i32_90 : BitVec 32 := 0#32
  let v185 : BitVec 32 := Scalar.maxsi v184 c0_i32_90
  let c256_i32_91 : BitVec 32 := 256#32
  let v186 : BitVec 32 := Scalar.muli v185 c256_i32_91
  v186
def k0_off8 (i : grid0.Coords) (k0_t3 : Fin (k0_t3_loop i).trips) (c0_i32_74 : BitVec 32) : Fin 2 → Nat :=
  let arg1 : BitVec 32 := BitVec.ofNat 32 (i 1).val
  let c2_i32_88 : BitVec 32 := 2#32
  let v182 : BitVec 32 := Scalar.subi arg1 c2_i32_88
  let c2_i32_89 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let c0_i32_87 : BitVec 32 := 0#32
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let c4_i32_38 : BitVec 32 := 4#32
  let v98 : BitVec 32 := Scalar.muli v97 c4_i32_38
  let c2_i32_73 : BitVec 32 := 2#32
  let c0_i32_51 : BitVec 32 := 0#32
  let c1_i32_53 : BitVec 32 := 1#32
  let arg10 : BitVec 32 := Scf.iv c0_i32_51 c1_i32_53 k0_t3
  let v160 : BitVec 32 := Scalar.muli c2_i32_73 arg10
  let v161 : BitVec 32 := Scalar.addi v98 v160
  let v162 : BitVec 32 := Scalar.addi v161 c0_i32_74
  let c1_i32_86 : BitVec 32 := 1#32
  let v179 : BitVec 32 := Scalar.subi v162 c1_i32_86
  let v180 : BitVec 32 := Scalar.maxsi c0_i32_87 v179
  let v181 : BitVec 32 := Scalar.minsi v64 v180
  let v183 : BitVec 32 := Scalar.muli c2_i32_89 v181
  let v184 : BitVec 32 := Scalar.subi v182 v183
  let c0_i32_90 : BitVec 32 := 0#32
  let v185 : BitVec 32 := Scalar.maxsi v184 c0_i32_90
  let c256_i32_91 : BitVec 32 := 256#32
  let v186 : BitVec 32 := Scalar.muli v185 c256_i32_91
  let v187 : BitVec 32 := v186
  let v188 : Index := Scalar.indexCast v187
  let c0_92 : Index := 0#32
  ![v188.toNat, 0]
def k0_mult21 (i : grid0.Coords) (k0_t3 : Fin (k0_t3_loop i).trips) : BitVec 32 :=
  let arg1 : BitVec 32 := BitVec.ofNat 32 (i 1).val
  let c2_i32_115 : BitVec 32 := 2#32
  let v255 : BitVec 32 := Scalar.subi arg1 c2_i32_115
  let c2_i32_116 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let c4_i32_38 : BitVec 32 := 4#32
  let v98 : BitVec 32 := Scalar.muli v97 c4_i32_38
  let c2_i32_112 : BitVec 32 := 2#32
  let c0_i32_51 : BitVec 32 := 0#32
  let c1_i32_53 : BitVec 32 := 1#32
  let arg10 : BitVec 32 := Scf.iv c0_i32_51 c1_i32_53 k0_t3
  let v250 : BitVec 32 := Scalar.muli c2_i32_112 arg10
  let v251 : BitVec 32 := Scalar.addi v98 v250
  let c1_i32_113 : BitVec 32 := 1#32
  let v252 : BitVec 32 := Scalar.addi v251 c1_i32_113
  let c1_i32_114 : BitVec 32 := 1#32
  let v253 : BitVec 32 := Scalar.addi v252 c1_i32_114
  let c1_i32_19 : BitVec 32 := 1#32
  let v63 : BitVec 32 := Scalar.subi v62 c1_i32_19
  let c0_i32_20 : BitVec 32 := 0#32
  let v64 : BitVec 32 := Scalar.maxsi v63 c0_i32_20
  let v254 : BitVec 32 := Scalar.minsi v253 v64
  let v256 : BitVec 32 := Scalar.muli c2_i32_116 v254
  let v257 : BitVec 32 := Scalar.subi v255 v256
  let c0_i32_117 : BitVec 32 := 0#32
  let v258 : BitVec 32 := Scalar.maxsi v257 c0_i32_117
  let c256_i32_118 : BitVec 32 := 256#32
  let v259 : BitVec 32 := Scalar.muli v258 c256_i32_118
  v259
def k0_mult22 (i : grid0.Coords) (k0_t3 : Fin (k0_t3_loop i).trips) : BitVec 32 :=
  let arg1 : BitVec 32 := BitVec.ofNat 32 (i 1).val
  let c2_i32_127 : BitVec 32 := 2#32
  let v272 : BitVec 32 := Scalar.subi arg1 c2_i32_127
  let c2_i32_128 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let c0_i32_126 : BitVec 32 := 0#32
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let c4_i32_38 : BitVec 32 := 4#32
  let v98 : BitVec 32 := Scalar.muli v97 c4_i32_38
  let c2_i32_112 : BitVec 32 := 2#32
  let c0_i32_51 : BitVec 32 := 0#32
  let c1_i32_53 : BitVec 32 := 1#32
  let arg10 : BitVec 32 := Scf.iv c0_i32_51 c1_i32_53 k0_t3
  let v250 : BitVec 32 := Scalar.muli c2_i32_112 arg10
  let v251 : BitVec 32 := Scalar.addi v98 v250
  let c1_i32_113 : BitVec 32 := 1#32
  let v252 : BitVec 32 := Scalar.addi v251 c1_i32_113
  let c1_i32_125 : BitVec 32 := 1#32
  let v269 : BitVec 32 := Scalar.subi v252 c1_i32_125
  let v270 : BitVec 32 := Scalar.maxsi c0_i32_126 v269
  let v271 : BitVec 32 := Scalar.minsi v64 v270
  let v273 : BitVec 32 := Scalar.muli c2_i32_128 v271
  let v274 : BitVec 32 := Scalar.subi v272 v273
  let c0_i32_129 : BitVec 32 := 0#32
  let v275 : BitVec 32 := Scalar.maxsi v274 c0_i32_129
  let c256_i32_130 : BitVec 32 := 256#32
  let v276 : BitVec 32 := Scalar.muli v275 c256_i32_130
  v276
@[reducible] def k0_t4_loop (i : grid0.Coords) : Scf.Loop 32 :=
  let c0_i32_51 : BitVec 32 := 0#32
  let arg1 : BitVec 32 := BitVec.ofNat 32 (i 1).val
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let c4_i32_38 : BitVec 32 := 4#32
  let v98 : BitVec 32 := Scalar.muli v97 c4_i32_38
  let v99 : BitVec 32 := Scalar.subi v62 v98
  let c1_i32_39 : BitVec 32 := 1#32
  let v100 : BitVec 32 := Scalar.addi v99 c1_i32_39
  let c0_i32_41 : BitVec 32 := 0#32
  let v102 : BitVec 1 := Scalar.cmpi .sgt v100 c0_i32_41
  let v103 : BitVec 32 := Scalar.extui v102
  let c0_i32_42 : BitVec 32 := 0#32
  let v104 : BitVec 1 := Scalar.cmpi .slt v100 c0_i32_42
  let v105 : BitVec 32 := Scalar.extui v104
  let v106 : BitVec 32 := Scalar.subi v103 v105
  let c2_i32_40 : BitVec 32 := 2#32
  let c0_i32_43 : BitVec 32 := 0#32
  let v107 : BitVec 1 := Scalar.cmpi .sgt c2_i32_40 c0_i32_43
  let v108 : BitVec 32 := Scalar.extui v107
  let c0_i32_44 : BitVec 32 := 0#32
  let v109 : BitVec 1 := Scalar.cmpi .slt c2_i32_40 c0_i32_44
  let v110 : BitVec 32 := Scalar.extui v109
  let v111 : BitVec 32 := Scalar.subi v108 v110
  let v112 : BitVec 1 := Scalar.cmpi .ne v106 v111
  let v113 : BitVec 32 := Scalar.remsi v100 c2_i32_40
  let c0_i32_45 : BitVec 32 := 0#32
  let v114 : BitVec 1 := Scalar.cmpi .ne v113 c0_i32_45
  let v115 : BitVec 1 := Scalar.andi v112 v114
  let v101 : BitVec 32 := Scalar.divsi v100 c2_i32_40
  let c1_i32_46 : BitVec 32 := 1#32
  let v116 : BitVec 32 := Scalar.subi v101 c1_i32_46
  let v117 : BitVec 32 := Scalar.select v115 v116 v101
  let v125 : BitVec 32 := Scalar.subi v117 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let v126 : BitVec 32 := Scalar.addi c0_i32_51 v125
  let c1_i32_54 : BitVec 32 := 1#32
  ⟨v129, v126, c1_i32_54⟩
def k0_mult23 (i : grid0.Coords) (k0_t4 : Fin (k0_t4_loop i).trips) : BitVec 32 :=
  let arg1 : BitVec 32 := BitVec.ofNat 32 (i 1).val
  let c2_i32_76 : BitVec 32 := 2#32
  let v165 : BitVec 32 := Scalar.subi arg1 c2_i32_76
  let c2_i32_77 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let c4_i32_38 : BitVec 32 := 4#32
  let v98 : BitVec 32 := Scalar.muli v97 c4_i32_38
  let c2_i32_73 : BitVec 32 := 2#32
  let c0_i32_51 : BitVec 32 := 0#32
  let v99 : BitVec 32 := Scalar.subi v62 v98
  let c1_i32_39 : BitVec 32 := 1#32
  let v100 : BitVec 32 := Scalar.addi v99 c1_i32_39
  let c0_i32_41 : BitVec 32 := 0#32
  let v102 : BitVec 1 := Scalar.cmpi .sgt v100 c0_i32_41
  let v103 : BitVec 32 := Scalar.extui v102
  let c0_i32_42 : BitVec 32 := 0#32
  let v104 : BitVec 1 := Scalar.cmpi .slt v100 c0_i32_42
  let v105 : BitVec 32 := Scalar.extui v104
  let v106 : BitVec 32 := Scalar.subi v103 v105
  let c2_i32_40 : BitVec 32 := 2#32
  let c0_i32_43 : BitVec 32 := 0#32
  let v107 : BitVec 1 := Scalar.cmpi .sgt c2_i32_40 c0_i32_43
  let v108 : BitVec 32 := Scalar.extui v107
  let c0_i32_44 : BitVec 32 := 0#32
  let v109 : BitVec 1 := Scalar.cmpi .slt c2_i32_40 c0_i32_44
  let v110 : BitVec 32 := Scalar.extui v109
  let v111 : BitVec 32 := Scalar.subi v108 v110
  let v112 : BitVec 1 := Scalar.cmpi .ne v106 v111
  let v113 : BitVec 32 := Scalar.remsi v100 c2_i32_40
  let c0_i32_45 : BitVec 32 := 0#32
  let v114 : BitVec 1 := Scalar.cmpi .ne v113 c0_i32_45
  let v115 : BitVec 1 := Scalar.andi v112 v114
  let v101 : BitVec 32 := Scalar.divsi v100 c2_i32_40
  let c1_i32_46 : BitVec 32 := 1#32
  let v116 : BitVec 32 := Scalar.subi v101 c1_i32_46
  let v117 : BitVec 32 := Scalar.select v115 v116 v101
  let v125 : BitVec 32 := Scalar.subi v117 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_54 : BitVec 32 := 1#32
  let arg10 : BitVec 32 := Scf.iv v129 c1_i32_54 k0_t4
  let v160 : BitVec 32 := Scalar.muli c2_i32_73 arg10
  let v161 : BitVec 32 := Scalar.addi v98 v160
  let c0_i32_74 : BitVec 32 := 0#32
  let v162 : BitVec 32 := Scalar.addi v161 c0_i32_74
  let c1_i32_75 : BitVec 32 := 1#32
  let v163 : BitVec 32 := Scalar.addi v162 c1_i32_75
  let c1_i32_19 : BitVec 32 := 1#32
  let v63 : BitVec 32 := Scalar.subi v62 c1_i32_19
  let c0_i32_20 : BitVec 32 := 0#32
  let v64 : BitVec 32 := Scalar.maxsi v63 c0_i32_20
  let v164 : BitVec 32 := Scalar.minsi v163 v64
  let v166 : BitVec 32 := Scalar.muli c2_i32_77 v164
  let v167 : BitVec 32 := Scalar.subi v165 v166
  let c0_i32_78 : BitVec 32 := 0#32
  let v168 : BitVec 32 := Scalar.maxsi v167 c0_i32_78
  let c256_i32_79 : BitVec 32 := 256#32
  let v169 : BitVec 32 := Scalar.muli v168 c256_i32_79
  v169
def k0_off9 (i : grid0.Coords) (k0_t4 : Fin (k0_t4_loop i).trips) (c0_i32_74 : BitVec 32) : Fin 2 → Nat :=
  let arg1 : BitVec 32 := BitVec.ofNat 32 (i 1).val
  let c2_i32_76 : BitVec 32 := 2#32
  let v165 : BitVec 32 := Scalar.subi arg1 c2_i32_76
  let c2_i32_77 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let c4_i32_38 : BitVec 32 := 4#32
  let v98 : BitVec 32 := Scalar.muli v97 c4_i32_38
  let c2_i32_73 : BitVec 32 := 2#32
  let c0_i32_51 : BitVec 32 := 0#32
  let v99 : BitVec 32 := Scalar.subi v62 v98
  let c1_i32_39 : BitVec 32 := 1#32
  let v100 : BitVec 32 := Scalar.addi v99 c1_i32_39
  let c0_i32_41 : BitVec 32 := 0#32
  let v102 : BitVec 1 := Scalar.cmpi .sgt v100 c0_i32_41
  let v103 : BitVec 32 := Scalar.extui v102
  let c0_i32_42 : BitVec 32 := 0#32
  let v104 : BitVec 1 := Scalar.cmpi .slt v100 c0_i32_42
  let v105 : BitVec 32 := Scalar.extui v104
  let v106 : BitVec 32 := Scalar.subi v103 v105
  let c2_i32_40 : BitVec 32 := 2#32
  let c0_i32_43 : BitVec 32 := 0#32
  let v107 : BitVec 1 := Scalar.cmpi .sgt c2_i32_40 c0_i32_43
  let v108 : BitVec 32 := Scalar.extui v107
  let c0_i32_44 : BitVec 32 := 0#32
  let v109 : BitVec 1 := Scalar.cmpi .slt c2_i32_40 c0_i32_44
  let v110 : BitVec 32 := Scalar.extui v109
  let v111 : BitVec 32 := Scalar.subi v108 v110
  let v112 : BitVec 1 := Scalar.cmpi .ne v106 v111
  let v113 : BitVec 32 := Scalar.remsi v100 c2_i32_40
  let c0_i32_45 : BitVec 32 := 0#32
  let v114 : BitVec 1 := Scalar.cmpi .ne v113 c0_i32_45
  let v115 : BitVec 1 := Scalar.andi v112 v114
  let v101 : BitVec 32 := Scalar.divsi v100 c2_i32_40
  let c1_i32_46 : BitVec 32 := 1#32
  let v116 : BitVec 32 := Scalar.subi v101 c1_i32_46
  let v117 : BitVec 32 := Scalar.select v115 v116 v101
  let v125 : BitVec 32 := Scalar.subi v117 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_54 : BitVec 32 := 1#32
  let arg10 : BitVec 32 := Scf.iv v129 c1_i32_54 k0_t4
  let v160 : BitVec 32 := Scalar.muli c2_i32_73 arg10
  let v161 : BitVec 32 := Scalar.addi v98 v160
  let v162 : BitVec 32 := Scalar.addi v161 c0_i32_74
  let c1_i32_75 : BitVec 32 := 1#32
  let v163 : BitVec 32 := Scalar.addi v162 c1_i32_75
  let c1_i32_19 : BitVec 32 := 1#32
  let v63 : BitVec 32 := Scalar.subi v62 c1_i32_19
  let c0_i32_20 : BitVec 32 := 0#32
  let v64 : BitVec 32 := Scalar.maxsi v63 c0_i32_20
  let v164 : BitVec 32 := Scalar.minsi v163 v64
  let v166 : BitVec 32 := Scalar.muli c2_i32_77 v164
  let v167 : BitVec 32 := Scalar.subi v165 v166
  let c0_i32_78 : BitVec 32 := 0#32
  let v168 : BitVec 32 := Scalar.maxsi v167 c0_i32_78
  let c256_i32_79 : BitVec 32 := 256#32
  let v169 : BitVec 32 := Scalar.muli v168 c256_i32_79
  let v170 : BitVec 32 := v169
  let v171 : Index := Scalar.indexCast v170
  let c0_80 : Index := 0#32
  ![v171.toNat, 0]
def k0_mult24 (i : grid0.Coords) (k0_t4 : Fin (k0_t4_loop i).trips) : BitVec 32 :=
  let arg1 : BitVec 32 := BitVec.ofNat 32 (i 1).val
  let c2_i32_88 : BitVec 32 := 2#32
  let v182 : BitVec 32 := Scalar.subi arg1 c2_i32_88
  let c2_i32_89 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let c0_i32_87 : BitVec 32 := 0#32
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let c4_i32_38 : BitVec 32 := 4#32
  let v98 : BitVec 32 := Scalar.muli v97 c4_i32_38
  let c2_i32_73 : BitVec 32 := 2#32
  let c0_i32_51 : BitVec 32 := 0#32
  let v99 : BitVec 32 := Scalar.subi v62 v98
  let c1_i32_39 : BitVec 32 := 1#32
  let v100 : BitVec 32 := Scalar.addi v99 c1_i32_39
  let c0_i32_41 : BitVec 32 := 0#32
  let v102 : BitVec 1 := Scalar.cmpi .sgt v100 c0_i32_41
  let v103 : BitVec 32 := Scalar.extui v102
  let c0_i32_42 : BitVec 32 := 0#32
  let v104 : BitVec 1 := Scalar.cmpi .slt v100 c0_i32_42
  let v105 : BitVec 32 := Scalar.extui v104
  let v106 : BitVec 32 := Scalar.subi v103 v105
  let c2_i32_40 : BitVec 32 := 2#32
  let c0_i32_43 : BitVec 32 := 0#32
  let v107 : BitVec 1 := Scalar.cmpi .sgt c2_i32_40 c0_i32_43
  let v108 : BitVec 32 := Scalar.extui v107
  let c0_i32_44 : BitVec 32 := 0#32
  let v109 : BitVec 1 := Scalar.cmpi .slt c2_i32_40 c0_i32_44
  let v110 : BitVec 32 := Scalar.extui v109
  let v111 : BitVec 32 := Scalar.subi v108 v110
  let v112 : BitVec 1 := Scalar.cmpi .ne v106 v111
  let v113 : BitVec 32 := Scalar.remsi v100 c2_i32_40
  let c0_i32_45 : BitVec 32 := 0#32
  let v114 : BitVec 1 := Scalar.cmpi .ne v113 c0_i32_45
  let v115 : BitVec 1 := Scalar.andi v112 v114
  let v101 : BitVec 32 := Scalar.divsi v100 c2_i32_40
  let c1_i32_46 : BitVec 32 := 1#32
  let v116 : BitVec 32 := Scalar.subi v101 c1_i32_46
  let v117 : BitVec 32 := Scalar.select v115 v116 v101
  let v125 : BitVec 32 := Scalar.subi v117 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_54 : BitVec 32 := 1#32
  let arg10 : BitVec 32 := Scf.iv v129 c1_i32_54 k0_t4
  let v160 : BitVec 32 := Scalar.muli c2_i32_73 arg10
  let v161 : BitVec 32 := Scalar.addi v98 v160
  let c0_i32_74 : BitVec 32 := 0#32
  let v162 : BitVec 32 := Scalar.addi v161 c0_i32_74
  let c1_i32_86 : BitVec 32 := 1#32
  let v179 : BitVec 32 := Scalar.subi v162 c1_i32_86
  let v180 : BitVec 32 := Scalar.maxsi c0_i32_87 v179
  let v181 : BitVec 32 := Scalar.minsi v64 v180
  let v183 : BitVec 32 := Scalar.muli c2_i32_89 v181
  let v184 : BitVec 32 := Scalar.subi v182 v183
  let c0_i32_90 : BitVec 32 := 0#32
  let v185 : BitVec 32 := Scalar.maxsi v184 c0_i32_90
  let c256_i32_91 : BitVec 32 := 256#32
  let v186 : BitVec 32 := Scalar.muli v185 c256_i32_91
  v186
def k0_off10 (i : grid0.Coords) (k0_t4 : Fin (k0_t4_loop i).trips) (c0_i32_74 : BitVec 32) : Fin 2 → Nat :=
  let arg1 : BitVec 32 := BitVec.ofNat 32 (i 1).val
  let c2_i32_88 : BitVec 32 := 2#32
  let v182 : BitVec 32 := Scalar.subi arg1 c2_i32_88
  let c2_i32_89 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let c0_i32_87 : BitVec 32 := 0#32
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let c4_i32_38 : BitVec 32 := 4#32
  let v98 : BitVec 32 := Scalar.muli v97 c4_i32_38
  let c2_i32_73 : BitVec 32 := 2#32
  let c0_i32_51 : BitVec 32 := 0#32
  let v99 : BitVec 32 := Scalar.subi v62 v98
  let c1_i32_39 : BitVec 32 := 1#32
  let v100 : BitVec 32 := Scalar.addi v99 c1_i32_39
  let c0_i32_41 : BitVec 32 := 0#32
  let v102 : BitVec 1 := Scalar.cmpi .sgt v100 c0_i32_41
  let v103 : BitVec 32 := Scalar.extui v102
  let c0_i32_42 : BitVec 32 := 0#32
  let v104 : BitVec 1 := Scalar.cmpi .slt v100 c0_i32_42
  let v105 : BitVec 32 := Scalar.extui v104
  let v106 : BitVec 32 := Scalar.subi v103 v105
  let c2_i32_40 : BitVec 32 := 2#32
  let c0_i32_43 : BitVec 32 := 0#32
  let v107 : BitVec 1 := Scalar.cmpi .sgt c2_i32_40 c0_i32_43
  let v108 : BitVec 32 := Scalar.extui v107
  let c0_i32_44 : BitVec 32 := 0#32
  let v109 : BitVec 1 := Scalar.cmpi .slt c2_i32_40 c0_i32_44
  let v110 : BitVec 32 := Scalar.extui v109
  let v111 : BitVec 32 := Scalar.subi v108 v110
  let v112 : BitVec 1 := Scalar.cmpi .ne v106 v111
  let v113 : BitVec 32 := Scalar.remsi v100 c2_i32_40
  let c0_i32_45 : BitVec 32 := 0#32
  let v114 : BitVec 1 := Scalar.cmpi .ne v113 c0_i32_45
  let v115 : BitVec 1 := Scalar.andi v112 v114
  let v101 : BitVec 32 := Scalar.divsi v100 c2_i32_40
  let c1_i32_46 : BitVec 32 := 1#32
  let v116 : BitVec 32 := Scalar.subi v101 c1_i32_46
  let v117 : BitVec 32 := Scalar.select v115 v116 v101
  let v125 : BitVec 32 := Scalar.subi v117 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_54 : BitVec 32 := 1#32
  let arg10 : BitVec 32 := Scf.iv v129 c1_i32_54 k0_t4
  let v160 : BitVec 32 := Scalar.muli c2_i32_73 arg10
  let v161 : BitVec 32 := Scalar.addi v98 v160
  let v162 : BitVec 32 := Scalar.addi v161 c0_i32_74
  let c1_i32_86 : BitVec 32 := 1#32
  let v179 : BitVec 32 := Scalar.subi v162 c1_i32_86
  let v180 : BitVec 32 := Scalar.maxsi c0_i32_87 v179
  let v181 : BitVec 32 := Scalar.minsi v64 v180
  let v183 : BitVec 32 := Scalar.muli c2_i32_89 v181
  let v184 : BitVec 32 := Scalar.subi v182 v183
  let c0_i32_90 : BitVec 32 := 0#32
  let v185 : BitVec 32 := Scalar.maxsi v184 c0_i32_90
  let c256_i32_91 : BitVec 32 := 256#32
  let v186 : BitVec 32 := Scalar.muli v185 c256_i32_91
  let v187 : BitVec 32 := v186
  let v188 : Index := Scalar.indexCast v187
  let c0_92 : Index := 0#32
  ![v188.toNat, 0]
def k0_mult25 (i : grid0.Coords) (k0_t4 : Fin (k0_t4_loop i).trips) : BitVec 32 :=
  let arg1 : BitVec 32 := BitVec.ofNat 32 (i 1).val
  let c2_i32_115 : BitVec 32 := 2#32
  let v255 : BitVec 32 := Scalar.subi arg1 c2_i32_115
  let c2_i32_116 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let c4_i32_38 : BitVec 32 := 4#32
  let v98 : BitVec 32 := Scalar.muli v97 c4_i32_38
  let c2_i32_112 : BitVec 32 := 2#32
  let c0_i32_51 : BitVec 32 := 0#32
  let v99 : BitVec 32 := Scalar.subi v62 v98
  let c1_i32_39 : BitVec 32 := 1#32
  let v100 : BitVec 32 := Scalar.addi v99 c1_i32_39
  let c0_i32_41 : BitVec 32 := 0#32
  let v102 : BitVec 1 := Scalar.cmpi .sgt v100 c0_i32_41
  let v103 : BitVec 32 := Scalar.extui v102
  let c0_i32_42 : BitVec 32 := 0#32
  let v104 : BitVec 1 := Scalar.cmpi .slt v100 c0_i32_42
  let v105 : BitVec 32 := Scalar.extui v104
  let v106 : BitVec 32 := Scalar.subi v103 v105
  let c2_i32_40 : BitVec 32 := 2#32
  let c0_i32_43 : BitVec 32 := 0#32
  let v107 : BitVec 1 := Scalar.cmpi .sgt c2_i32_40 c0_i32_43
  let v108 : BitVec 32 := Scalar.extui v107
  let c0_i32_44 : BitVec 32 := 0#32
  let v109 : BitVec 1 := Scalar.cmpi .slt c2_i32_40 c0_i32_44
  let v110 : BitVec 32 := Scalar.extui v109
  let v111 : BitVec 32 := Scalar.subi v108 v110
  let v112 : BitVec 1 := Scalar.cmpi .ne v106 v111
  let v113 : BitVec 32 := Scalar.remsi v100 c2_i32_40
  let c0_i32_45 : BitVec 32 := 0#32
  let v114 : BitVec 1 := Scalar.cmpi .ne v113 c0_i32_45
  let v115 : BitVec 1 := Scalar.andi v112 v114
  let v101 : BitVec 32 := Scalar.divsi v100 c2_i32_40
  let c1_i32_46 : BitVec 32 := 1#32
  let v116 : BitVec 32 := Scalar.subi v101 c1_i32_46
  let v117 : BitVec 32 := Scalar.select v115 v116 v101
  let v125 : BitVec 32 := Scalar.subi v117 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_54 : BitVec 32 := 1#32
  let arg10 : BitVec 32 := Scf.iv v129 c1_i32_54 k0_t4
  let v250 : BitVec 32 := Scalar.muli c2_i32_112 arg10
  let v251 : BitVec 32 := Scalar.addi v98 v250
  let c1_i32_113 : BitVec 32 := 1#32
  let v252 : BitVec 32 := Scalar.addi v251 c1_i32_113
  let c1_i32_114 : BitVec 32 := 1#32
  let v253 : BitVec 32 := Scalar.addi v252 c1_i32_114
  let c1_i32_19 : BitVec 32 := 1#32
  let v63 : BitVec 32 := Scalar.subi v62 c1_i32_19
  let c0_i32_20 : BitVec 32 := 0#32
  let v64 : BitVec 32 := Scalar.maxsi v63 c0_i32_20
  let v254 : BitVec 32 := Scalar.minsi v253 v64
  let v256 : BitVec 32 := Scalar.muli c2_i32_116 v254
  let v257 : BitVec 32 := Scalar.subi v255 v256
  let c0_i32_117 : BitVec 32 := 0#32
  let v258 : BitVec 32 := Scalar.maxsi v257 c0_i32_117
  let c256_i32_118 : BitVec 32 := 256#32
  let v259 : BitVec 32 := Scalar.muli v258 c256_i32_118
  v259
def k0_mult26 (i : grid0.Coords) (k0_t4 : Fin (k0_t4_loop i).trips) : BitVec 32 :=
  let arg1 : BitVec 32 := BitVec.ofNat 32 (i 1).val
  let c2_i32_127 : BitVec 32 := 2#32
  let v272 : BitVec 32 := Scalar.subi arg1 c2_i32_127
  let c2_i32_128 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let c0_i32_126 : BitVec 32 := 0#32
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let c4_i32_38 : BitVec 32 := 4#32
  let v98 : BitVec 32 := Scalar.muli v97 c4_i32_38
  let c2_i32_112 : BitVec 32 := 2#32
  let c0_i32_51 : BitVec 32 := 0#32
  let v99 : BitVec 32 := Scalar.subi v62 v98
  let c1_i32_39 : BitVec 32 := 1#32
  let v100 : BitVec 32 := Scalar.addi v99 c1_i32_39
  let c0_i32_41 : BitVec 32 := 0#32
  let v102 : BitVec 1 := Scalar.cmpi .sgt v100 c0_i32_41
  let v103 : BitVec 32 := Scalar.extui v102
  let c0_i32_42 : BitVec 32 := 0#32
  let v104 : BitVec 1 := Scalar.cmpi .slt v100 c0_i32_42
  let v105 : BitVec 32 := Scalar.extui v104
  let v106 : BitVec 32 := Scalar.subi v103 v105
  let c2_i32_40 : BitVec 32 := 2#32
  let c0_i32_43 : BitVec 32 := 0#32
  let v107 : BitVec 1 := Scalar.cmpi .sgt c2_i32_40 c0_i32_43
  let v108 : BitVec 32 := Scalar.extui v107
  let c0_i32_44 : BitVec 32 := 0#32
  let v109 : BitVec 1 := Scalar.cmpi .slt c2_i32_40 c0_i32_44
  let v110 : BitVec 32 := Scalar.extui v109
  let v111 : BitVec 32 := Scalar.subi v108 v110
  let v112 : BitVec 1 := Scalar.cmpi .ne v106 v111
  let v113 : BitVec 32 := Scalar.remsi v100 c2_i32_40
  let c0_i32_45 : BitVec 32 := 0#32
  let v114 : BitVec 1 := Scalar.cmpi .ne v113 c0_i32_45
  let v115 : BitVec 1 := Scalar.andi v112 v114
  let v101 : BitVec 32 := Scalar.divsi v100 c2_i32_40
  let c1_i32_46 : BitVec 32 := 1#32
  let v116 : BitVec 32 := Scalar.subi v101 c1_i32_46
  let v117 : BitVec 32 := Scalar.select v115 v116 v101
  let v125 : BitVec 32 := Scalar.subi v117 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_54 : BitVec 32 := 1#32
  let arg10 : BitVec 32 := Scf.iv v129 c1_i32_54 k0_t4
  let v250 : BitVec 32 := Scalar.muli c2_i32_112 arg10
  let v251 : BitVec 32 := Scalar.addi v98 v250
  let c1_i32_113 : BitVec 32 := 1#32
  let v252 : BitVec 32 := Scalar.addi v251 c1_i32_113
  let c1_i32_125 : BitVec 32 := 1#32
  let v269 : BitVec 32 := Scalar.subi v252 c1_i32_125
  let v270 : BitVec 32 := Scalar.maxsi c0_i32_126 v269
  let v271 : BitVec 32 := Scalar.minsi v64 v270
  let v273 : BitVec 32 := Scalar.muli c2_i32_128 v271
  let v274 : BitVec 32 := Scalar.subi v272 v273
  let c0_i32_129 : BitVec 32 := 0#32
  let v275 : BitVec 32 := Scalar.maxsi v274 c0_i32_129
  let c256_i32_130 : BitVec 32 := 256#32
  let v276 : BitVec 32 := Scalar.muli v275 c256_i32_130
  v276
def k0_mult27 (i : grid0.Coords) : BitVec 32 :=
  let arg1 : BitVec 32 := BitVec.ofNat 32 (i 1).val
  let c2_i32_60 : BitVec 32 := 2#32
  let v138 : BitVec 32 := Scalar.subi arg1 c2_i32_60
  let c2_i32_61 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let c0_i32_59 : BitVec 32 := 0#32
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let c4_i32_38 : BitVec 32 := 4#32
  let v98 : BitVec 32 := Scalar.muli v97 c4_i32_38
  let c2_i32_57 : BitVec 32 := 2#32
  let v99 : BitVec 32 := Scalar.subi v62 v98
  let c1_i32_39 : BitVec 32 := 1#32
  let v100 : BitVec 32 := Scalar.addi v99 c1_i32_39
  let c0_i32_41 : BitVec 32 := 0#32
  let v102 : BitVec 1 := Scalar.cmpi .sgt v100 c0_i32_41
  let v103 : BitVec 32 := Scalar.extui v102
  let c0_i32_42 : BitVec 32 := 0#32
  let v104 : BitVec 1 := Scalar.cmpi .slt v100 c0_i32_42
  let v105 : BitVec 32 := Scalar.extui v104
  let v106 : BitVec 32 := Scalar.subi v103 v105
  let c2_i32_40 : BitVec 32 := 2#32
  let c0_i32_43 : BitVec 32 := 0#32
  let v107 : BitVec 1 := Scalar.cmpi .sgt c2_i32_40 c0_i32_43
  let v108 : BitVec 32 := Scalar.extui v107
  let c0_i32_44 : BitVec 32 := 0#32
  let v109 : BitVec 1 := Scalar.cmpi .slt c2_i32_40 c0_i32_44
  let v110 : BitVec 32 := Scalar.extui v109
  let v111 : BitVec 32 := Scalar.subi v108 v110
  let v112 : BitVec 1 := Scalar.cmpi .ne v106 v111
  let v113 : BitVec 32 := Scalar.remsi v100 c2_i32_40
  let c0_i32_45 : BitVec 32 := 0#32
  let v114 : BitVec 1 := Scalar.cmpi .ne v113 c0_i32_45
  let v115 : BitVec 1 := Scalar.andi v112 v114
  let v101 : BitVec 32 := Scalar.divsi v100 c2_i32_40
  let c1_i32_46 : BitVec 32 := 1#32
  let v116 : BitVec 32 := Scalar.subi v101 c1_i32_46
  let v117 : BitVec 32 := Scalar.select v115 v116 v101
  let v133 : BitVec 32 := Scalar.muli c2_i32_57 v117
  let v134 : BitVec 32 := Scalar.addi v98 v133
  let c1_i32_58 : BitVec 32 := 1#32
  let v135 : BitVec 32 := Scalar.subi v134 c1_i32_58
  let v136 : BitVec 32 := Scalar.maxsi c0_i32_59 v135
  let v137 : BitVec 32 := Scalar.minsi v64 v136
  let v139 : BitVec 32 := Scalar.muli c2_i32_61 v137
  let v140 : BitVec 32 := Scalar.subi v138 v139
  let c0_i32_62 : BitVec 32 := 0#32
  let v141 : BitVec 32 := Scalar.maxsi v140 c0_i32_62
  let c256_i32_63 : BitVec 32 := 256#32
  let v142 : BitVec 32 := Scalar.muli v141 c256_i32_63
  v142
def k0_off11 (i : grid0.Coords) : Fin 2 → Nat :=
  let arg1 : BitVec 32 := BitVec.ofNat 32 (i 1).val
  let c2_i32_60 : BitVec 32 := 2#32
  let v138 : BitVec 32 := Scalar.subi arg1 c2_i32_60
  let c2_i32_61 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let c1_i32_19 : BitVec 32 := 1#32
  let v63 : BitVec 32 := Scalar.subi v62 c1_i32_19
  let c0_i32_20 : BitVec 32 := 0#32
  let v64 : BitVec 32 := Scalar.maxsi v63 c0_i32_20
  let c0_i32_59 : BitVec 32 := 0#32
  let c0_i32_32 : BitVec 32 := 0#32
  let v82 : BitVec 1 := Scalar.cmpi .sgt v62 c0_i32_32
  let v83 : BitVec 32 := Scalar.extui v82
  let c0_i32_33 : BitVec 32 := 0#32
  let v84 : BitVec 1 := Scalar.cmpi .slt v62 c0_i32_33
  let v85 : BitVec 32 := Scalar.extui v84
  let v86 : BitVec 32 := Scalar.subi v83 v85
  let c4_i32 : BitVec 32 := 4#32
  let c0_i32_34 : BitVec 32 := 0#32
  let v87 : BitVec 1 := Scalar.cmpi .sgt c4_i32 c0_i32_34
  let v88 : BitVec 32 := Scalar.extui v87
  let c0_i32_35 : BitVec 32 := 0#32
  let v89 : BitVec 1 := Scalar.cmpi .slt c4_i32 c0_i32_35
  let v90 : BitVec 32 := Scalar.extui v89
  let v91 : BitVec 32 := Scalar.subi v88 v90
  let v92 : BitVec 1 := Scalar.cmpi .ne v86 v91
  let v93 : BitVec 32 := Scalar.remsi v62 c4_i32
  let c0_i32_36 : BitVec 32 := 0#32
  let v94 : BitVec 1 := Scalar.cmpi .ne v93 c0_i32_36
  let v95 : BitVec 1 := Scalar.andi v92 v94
  let v81 : BitVec 32 := Scalar.divsi v62 c4_i32
  let c1_i32_37 : BitVec 32 := 1#32
  let v96 : BitVec 32 := Scalar.subi v81 c1_i32_37
  let v97 : BitVec 32 := Scalar.select v95 v96 v81
  let c4_i32_38 : BitVec 32 := 4#32
  let v98 : BitVec 32 := Scalar.muli v97 c4_i32_38
  let c2_i32_57 : BitVec 32 := 2#32
  let v99 : BitVec 32 := Scalar.subi v62 v98
  let c1_i32_39 : BitVec 32 := 1#32
  let v100 : BitVec 32 := Scalar.addi v99 c1_i32_39
  let c0_i32_41 : BitVec 32 := 0#32
  let v102 : BitVec 1 := Scalar.cmpi .sgt v100 c0_i32_41
  let v103 : BitVec 32 := Scalar.extui v102
  let c0_i32_42 : BitVec 32 := 0#32
  let v104 : BitVec 1 := Scalar.cmpi .slt v100 c0_i32_42
  let v105 : BitVec 32 := Scalar.extui v104
  let v106 : BitVec 32 := Scalar.subi v103 v105
  let c2_i32_40 : BitVec 32 := 2#32
  let c0_i32_43 : BitVec 32 := 0#32
  let v107 : BitVec 1 := Scalar.cmpi .sgt c2_i32_40 c0_i32_43
  let v108 : BitVec 32 := Scalar.extui v107
  let c0_i32_44 : BitVec 32 := 0#32
  let v109 : BitVec 1 := Scalar.cmpi .slt c2_i32_40 c0_i32_44
  let v110 : BitVec 32 := Scalar.extui v109
  let v111 : BitVec 32 := Scalar.subi v108 v110
  let v112 : BitVec 1 := Scalar.cmpi .ne v106 v111
  let v113 : BitVec 32 := Scalar.remsi v100 c2_i32_40
  let c0_i32_45 : BitVec 32 := 0#32
  let v114 : BitVec 1 := Scalar.cmpi .ne v113 c0_i32_45
  let v115 : BitVec 1 := Scalar.andi v112 v114
  let v101 : BitVec 32 := Scalar.divsi v100 c2_i32_40
  let c1_i32_46 : BitVec 32 := 1#32
  let v116 : BitVec 32 := Scalar.subi v101 c1_i32_46
  let v117 : BitVec 32 := Scalar.select v115 v116 v101
  let v133 : BitVec 32 := Scalar.muli c2_i32_57 v117
  let v134 : BitVec 32 := Scalar.addi v98 v133
  let c1_i32_58 : BitVec 32 := 1#32
  let v135 : BitVec 32 := Scalar.subi v134 c1_i32_58
  let v136 : BitVec 32 := Scalar.maxsi c0_i32_59 v135
  let v137 : BitVec 32 := Scalar.minsi v64 v136
  let v139 : BitVec 32 := Scalar.muli c2_i32_61 v137
  let v140 : BitVec 32 := Scalar.subi v138 v139
  let c0_i32_62 : BitVec 32 := 0#32
  let v141 : BitVec 32 := Scalar.maxsi v140 c0_i32_62
  let c256_i32_63 : BitVec 32 := 256#32
  let v142 : BitVec 32 := Scalar.muli v141 c256_i32_63
  let v143 : BitVec 32 := v142
  let v144 : Index := Scalar.indexCast v143
  let c0_64 : Index := 0#32
  ![v144.toNat, 0]
@[reducible] def k0_t5_loop (i : grid0.Coords) : Scf.Loop 32 :=
  let c0_i32_67 : BitVec 32 := 0#32
  let arg1 : BitVec 32 := BitVec.ofNat 32 (i 1).val
  let c2_i32_66 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let v149 : BitVec 32 := Scalar.muli c2_i32_66 v62
  let v150 : BitVec 32 := Scalar.subi arg1 v149
  let v151 : BitVec 32 := Scalar.subi v150 c0_i32_67
  let c1_i32_68 : BitVec 32 := 1#32
  let v153 : BitVec 32 := Scalar.divsi v151 c1_i32_68
  let v154 : BitVec 32 := Scalar.muli v153 c1_i32_68
  let v155 : BitVec 32 := Scalar.addi c0_i32_67 v154
  let c1_i32_69 : BitVec 32 := 1#32
  ⟨c0_i32_67, v155, c1_i32_69⟩
@[reducible] def k0_t6_loop (i : grid0.Coords) : Scf.Loop 32 :=
  let c0_i32_67 : BitVec 32 := 0#32
  let arg1 : BitVec 32 := BitVec.ofNat 32 (i 1).val
  let c2_i32_66 : BitVec 32 := 2#32
  let c0_i32 : BitVec 32 := 0#32
  let v47 : BitVec 1 := Scalar.cmpi .sgt arg1 c0_i32
  let v48 : BitVec 32 := Scalar.extui v47
  let c0_i32_15 : BitVec 32 := 0#32
  let v49 : BitVec 1 := Scalar.cmpi .slt arg1 c0_i32_15
  let v50 : BitVec 32 := Scalar.extui v49
  let v51 : BitVec 32 := Scalar.subi v48 v50
  let c2_i32 : BitVec 32 := 2#32
  let c0_i32_16 : BitVec 32 := 0#32
  let v52 : BitVec 1 := Scalar.cmpi .sgt c2_i32 c0_i32_16
  let v53 : BitVec 32 := Scalar.extui v52
  let c0_i32_17 : BitVec 32 := 0#32
  let v54 : BitVec 1 := Scalar.cmpi .slt c2_i32 c0_i32_17
  let v55 : BitVec 32 := Scalar.extui v54
  let v56 : BitVec 32 := Scalar.subi v53 v55
  let v57 : BitVec 1 := Scalar.cmpi .ne v51 v56
  let v58 : BitVec 32 := Scalar.remsi arg1 c2_i32
  let c0_i32_18 : BitVec 32 := 0#32
  let v59 : BitVec 1 := Scalar.cmpi .ne v58 c0_i32_18
  let v60 : BitVec 1 := Scalar.andi v57 v59
  let v46 : BitVec 32 := Scalar.divsi arg1 c2_i32
  let c1_i32 : BitVec 32 := 1#32
  let v61 : BitVec 32 := Scalar.subi v46 c1_i32
  let v62 : BitVec 32 := Scalar.select v60 v61 v46
  let v149 : BitVec 32 := Scalar.muli c2_i32_66 v62
  let v150 : BitVec 32 := Scalar.subi arg1 v149
  let v151 : BitVec 32 := Scalar.subi v150 c0_i32_67
  let c1_i32_68 : BitVec 32 := 1#32
  let v153 : BitVec 32 := Scalar.divsi v151 c1_i32_68
  let v154 : BitVec 32 := Scalar.muli v153 c1_i32_68
  let v155 : BitVec 32 := Scalar.addi c0_i32_67 v154
  let v152 : BitVec 32 := Scalar.addi c0_i32_67 v151
  let c1_i32_70 : BitVec 32 := 1#32
  ⟨v155, v152, c1_i32_70⟩
def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S16384x12288 : Shape := ⟨2, ![16384, 12288]⟩
abbrev S16384x2048 : Shape := ⟨2, ![16384, 2048]⟩
abbrev S16384x8x256 : Shape := ⟨3, ![16384, 8, 256]⟩
abbrev S8x16384x256 : Shape := ⟨3, ![8, 16384, 256]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384x16384 : Shape := ⟨3, ![8, 16384, 16384]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S16384x12288, .f32⟩
  | .hbm, ⟨1, _⟩ => ⟨S16384x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x8x256, .f32⟩
  | .hbm, ⟨8, _⟩ => ⟨S8x16384x256, .f32⟩
  | .hbm, ⟨9, _⟩ => ⟨S16384x8x256, .f32⟩
  | .hbm, ⟨10, _⟩ => ⟨S8x16384x256, .f32⟩
  | .hbm, ⟨11, _⟩ => ⟨S16384x8x256, .f32⟩
  | .hbm, ⟨12, _⟩ => ⟨S8x16384x256, .f32⟩
  | .hbm, ⟨13, _⟩ => ⟨S16384, .i32⟩
  | .hbm, ⟨14, _⟩ => ⟨S1x16384, .i32⟩
  | .hbm, ⟨15, _⟩ => ⟨S16384x1, .i32⟩
  | .hbm, ⟨16, _⟩ => ⟨S16384x16384, .i32⟩
  | .hbm, ⟨17, _⟩ => ⟨S16384x16384, .i32⟩
  | .hbm, ⟨18, _⟩ => ⟨S16384x16384, .i1⟩
  | .hbm, ⟨19, _⟩ => ⟨S16384x1, .i32⟩
  | .hbm, ⟨20, _⟩ => ⟨S1x16384, .i32⟩
  | .hbm, ⟨21, _⟩ => ⟨S16384x16384, .i32⟩
  | .hbm, ⟨22, _⟩ => ⟨S16384x16384, .i32⟩
  | .hbm, ⟨23, _⟩ => ⟨S16384x16384, .i1⟩
  | .hbm, ⟨24, _⟩ => ⟨S16384x16384, .f32⟩
  | .hbm, ⟨25, _⟩ => ⟨S8x16384x16384, .f32⟩
  | .hbm, ⟨26, _⟩ => ⟨S_, .f32⟩
  | .hbm, ⟨27, _⟩ => ⟨S8x16384x16384, .f32⟩
  | .hbm, ⟨28, _⟩ => ⟨S8x16384x16384, .f32⟩
  | .hbm, ⟨29, _⟩ => ⟨S8x16384x16384, .f32⟩
  | .hbm, ⟨30, _⟩ => ⟨S8x16384x16384, .f32⟩
  | .hbm, ⟨31, _⟩ => ⟨S_, .f32⟩
  | .hbm, ⟨32, _⟩ => ⟨S8x16384x16384, .f32⟩
  | .hbm, ⟨33, _⟩ => ⟨S8x16384x16384, .f32⟩
  | .hbm, ⟨34, _⟩ => ⟨S8x16384x16384, .f32⟩
  | .hbm, ⟨35, _⟩ => ⟨S8x16384x16384, .f32⟩
  | .hbm, ⟨36, _⟩ => ⟨S8x16384x16384, .i1⟩
  | .hbm, ⟨37, _⟩ => ⟨S8x16384x16384, .f32⟩
  | .hbm, ⟨38, _⟩ => ⟨S8x16384x16384, .f32⟩
  | .hbm, ⟨39, _⟩ => ⟨S8x16384x16384, .f32⟩
  | .hbm, ⟨40, _⟩ => ⟨S8x16384x16384, .f32⟩
  | .hbm, ⟨41, _⟩ => ⟨S8x16384x16384, .f32⟩
  | .hbm, ⟨42, _⟩ => ⟨S8x16384x16384, .f32⟩
  | .hbm, ⟨43, _⟩ => ⟨S8x16384x16384, .f32⟩
  | .hbm, ⟨44, _⟩ => ⟨S8x16384x16384, .f32⟩
  | .hbm, ⟨45, _⟩ => ⟨S8x16384x16384, .f32⟩
  | .hbm, ⟨46, _⟩ => ⟨S_, .f32⟩
  | .hbm, ⟨47, _⟩ => ⟨S_, .f32⟩
  | .hbm, ⟨48, _⟩ => ⟨S8x16384x16384, .i1⟩
  | .hbm, ⟨49, _⟩ => ⟨S8x16384x16384, .f32⟩
  | .hbm, ⟨50, _⟩ => ⟨S8x16384x16384, .f32⟩
  | .hbm, ⟨51, _⟩ => ⟨S8x16384x16384, .f32⟩
  | .hbm, ⟨52, _⟩ => ⟨S8x16384x16384, .f32⟩
  | .hbm, ⟨53, _⟩ => ⟨S8x16384x16384, .f32⟩
  | .hbm, ⟨54, _⟩ => ⟨S_, .f32⟩
  | .hbm, ⟨55, _⟩ => ⟨S_, .f32⟩
  | .hbm, ⟨56, _⟩ => ⟨S8x16384x16384, .i1⟩
  | .hbm, ⟨57, _⟩ => ⟨S8x16384x16384, .f32⟩
  | .hbm, ⟨58, _⟩ => ⟨S8x16384x16384, .f32⟩
  | .hbm, ⟨59, _⟩ => ⟨S8x16384x256, .f32⟩
  | .hbm, ⟨60, _⟩ => ⟨S16384x8x256, .f32⟩
  | .hbm, ⟨61, _⟩ => ⟨S16384x2048, .f32⟩
  | .hbm, ⟨62, _⟩ => ⟨S16384x2048, .bf16⟩
  | _, _ => ⟨S16384x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_cst : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v28 : Ref sig .tc := ⟨.hbm, 45, rfl⟩
abbrev main_cst_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_1 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]
-- ==== Kernel2.lean ====
abbrev S16384x8192 : Shape := ⟨2, ![16384, 8192]⟩
abbrev S8192x4096 : Shape := ⟨2, ![8192, 4096]⟩
abbrev S16384x4096 : Shape := ⟨2, ![16384, 4096]⟩
abbrev S512x8192 : Shape := ⟨2, ![512, 8192]⟩
abbrev S8192x512 : Shape := ⟨2, ![8192, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x8192, .bf16⟩
  | .hbm, ⟨1, _⟩ => ⟨S8192x4096, .f32⟩
  | .hbm, ⟨2, _⟩ => ⟨S8192x4096, .bf16⟩
  | .hbm, ⟨3, _⟩ => ⟨S16384x4096, .f32⟩
  | .local _ .vmem, ⟨0, _⟩ => ⟨S512x8192, .bf16⟩
  | .local _ .vmem, ⟨1, _⟩ => ⟨S512x8192, .bf16⟩
  | .local _ .vmem, ⟨2, _⟩ => ⟨S8192x512, .bf16⟩
  | .local _ .vmem, ⟨3, _⟩ => ⟨S8192x512, .bf16⟩
  | .local _ .vmem, ⟨4, _⟩ => ⟨S512x512, .f32⟩
  | .local _ .vmem, ⟨5, _⟩ => ⟨S512x512, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x8192 : Shape := ⟨2, ![16384, 8192]⟩
abbrev S8192x4096 : Shape := ⟨2, ![8192, 4096]⟩
abbrev S16384x4096 : Shape := ⟨2, ![16384, 4096]⟩

abbrev nBuf : Space → Nat
  | .hbm => 4
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S8192x4096, .f32⟩
  | .hbm, ⟨2, _⟩ => ⟨S16384x8192, .f32⟩
  | .hbm, ⟨3, _⟩ => ⟨S16384x4096, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel3.lean ====
abbrev S16384x4096 : Shape := ⟨2, ![16384, 4096]⟩
abbrev S4096x12288 : Shape := ⟨2, ![4096, 12288]⟩
abbrev S16384x12288 : Shape := ⟨2, ![16384, 12288]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .f32⟩
  | .hbm, ⟨2, _⟩ => ⟨S4096x12288, .bf16⟩
  | .hbm, ⟨3, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x4096 : Shape := ⟨2, ![16384, 4096]⟩
abbrev S4096x12288 : Shape := ⟨2, ![4096, 12288]⟩
abbrev S16384x12288 : Shape := ⟨2, ![16384, 12288]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .f32⟩
  | .hbm, ⟨2, _⟩ => ⟨S16384x4096, .f32⟩
  | .hbm, ⟨3, _⟩ => ⟨S16384x12288, .f32⟩
  | .hbm, ⟨4, _⟩ => ⟨S16384x12288, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S16384x2048 : Shape := ⟨2, ![16384, 2048]⟩
abbrev S4096x4096 : Shape := ⟨2, ![4096, 4096]⟩
abbrev S16384x4096 : Shape := ⟨2, ![16384, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S4096x4096, .bf16⟩
  | .hbm, ⟨4, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16384x2048 : Shape := ⟨2, ![16384, 2048]⟩
abbrev S4096x4096 : Shape := ⟨2, ![4096, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .bf16⟩
  | .hbm, ⟨4, _⟩ => ⟨S16384x4096, .f32⟩
  | .hbm, ⟨5, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S16384x4096 : Shape := ⟨2, ![16384, 4096]⟩
abbrev S4096x16384 : Shape := ⟨2, ![4096, 16384]⟩
abbrev S3x16384 : Shape := ⟨2, ![3, 16384]⟩
abbrev S16384x8192 : Shape := ⟨2, ![16384, 8192]⟩
abbrev S1024x4096 : Shape := ⟨2, ![1024, 4096]⟩
abbrev S4096x512 : Shape := ⟨2, ![4096, 512]⟩
abbrev S3x512 : Shape := ⟨2, ![3, 512]⟩
abbrev S1024x512 : Shape := ⟨2, ![1024, 512]⟩
abbrev S8x512 : Shape := ⟨2, ![8, 512]⟩
abbrev S1x512 : Shape := ⟨2, ![1, 512]⟩

abbrev nBuf : Space → Nat
  | .hbm => 5
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .f32⟩
  | .hbm, ⟨2, _⟩ => ⟨S3x16384, .f32⟩
  | .hbm, ⟨3, _⟩ => ⟨S4096x16384, .bf16⟩
  | .hbm, ⟨4, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1024x512, .bf16⟩
  | .local _ .vmem, ⟨11, _⟩ => ⟨S1024x512, .bf16⟩
  | .local _ .vmem, ⟨12, _⟩ => ⟨S8x512, .f32⟩
  | .local _ .vmem, ⟨13, _⟩ => ⟨S8x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16384x4096 : Shape := ⟨2, ![16384, 4096]⟩
abbrev S4096x16384 : Shape := ⟨2, ![4096, 16384]⟩
abbrev S3x16384 : Shape := ⟨2, ![3, 16384]⟩
abbrev S16384x16384 : Shape := ⟨2, ![16384, 16384]⟩
abbrev S_ : Shape := ⟨0, ![]⟩
abbrev S16386x16384 : Shape := ⟨2, ![16386, 16384]⟩
abbrev S1x16384 : Shape := ⟨2, ![1, 16384]⟩
abbrev S16384 : Shape := ⟨1, ![16384]⟩
abbrev S16384x8192 : Shape := ⟨2, ![16384, 8192]⟩

abbrev nBuf : Space → Nat
  | .hbm => 52
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .f32⟩
  | .hbm, ⟨2, _⟩ => ⟨S3x16384, .f32⟩
  | .hbm, ⟨3, _⟩ => ⟨S16384x4096, .f32⟩
  | .hbm, ⟨4, _⟩ => ⟨S16384x16384, .f32⟩
  | .hbm, ⟨5, _⟩ => ⟨S_, .i32⟩
  | .hbm, ⟨6, _⟩ => ⟨S_, .f32⟩
  | .hbm, ⟨7, _⟩ => ⟨S16386x16384, .f32⟩
  | .hbm, ⟨8, _⟩ => ⟨S16384x16384, .f32⟩
  | .hbm, ⟨9, _⟩ => ⟨S1x16384, .f32⟩
  | .hbm, ⟨10, _⟩ => ⟨S16384, .f32⟩
  | .hbm, ⟨11, _⟩ => ⟨S1x16384, .f32⟩
  | .hbm, ⟨12, _⟩ => ⟨S16384x16384, .f32⟩
  | .hbm, ⟨13, _⟩ => ⟨S16384x16384, .f32⟩
  | .hbm, ⟨14, _⟩ => ⟨S_, .f32⟩
  | .hbm, ⟨15, _⟩ => ⟨S16384x16384, .f32⟩
  | .hbm, ⟨16, _⟩ => ⟨S16384x16384, .f32⟩
  | .hbm, ⟨17, _⟩ => ⟨S16384x16384, .f32⟩
  | .hbm, ⟨18, _⟩ => ⟨S1x16384, .f32⟩
  | .hbm, ⟨19, _⟩ => ⟨S16384, .f32⟩
  | .hbm, ⟨20, _⟩ => ⟨S1x16384, .f32⟩
  | .hbm, ⟨21, _⟩ => ⟨S16384x16384, .f32⟩
  | .hbm, ⟨22, _⟩ => ⟨S16384x16384, .f32⟩
  | .hbm, ⟨23, _⟩ => ⟨S16384x16384, .f32⟩
  | .hbm, ⟨24, _⟩ => ⟨S16384x16384, .f32⟩
  | .hbm, ⟨25, _⟩ => ⟨S1x16384, .f32⟩
  | .hbm, ⟨26, _⟩ => ⟨S16384, .f32⟩
  | .hbm, ⟨27, _⟩ => ⟨S1x16384, .f32⟩
  | .hbm, ⟨28, _⟩ => ⟨S16384x16384, .f32⟩
  | .hbm, ⟨29, _⟩ => ⟨S16384x16384, .f32⟩
  | .hbm, ⟨30, _⟩ => ⟨S16384x16384, .f32⟩
  | .hbm, ⟨31, _⟩ => ⟨S16384x8192, .f32⟩
  | .hbm, ⟨32, _⟩ => ⟨S16384x8192, .f32⟩
  | .hbm, ⟨33, _⟩ => ⟨S16384x8192, .f32⟩
  | .hbm, ⟨34, _⟩ => ⟨S16384x8192, .f32⟩
  | .hbm, ⟨35, _⟩ => ⟨S_, .f32⟩
  | .hbm, ⟨36, _⟩ => ⟨S16384x8192, .f32⟩
  | .hbm, ⟨37, _⟩ => ⟨S16384x8192, .f32⟩
  | .hbm, ⟨38, _⟩ => ⟨S16384x8192, .f32⟩
  | .hbm, ⟨39, _⟩ => ⟨S_, .f32⟩
  | .hbm, ⟨40, _⟩ => ⟨S16384x8192, .f32⟩
  | .hbm, ⟨41, _⟩ => ⟨S16384x8192, .f32⟩
  | .hbm, ⟨42, _⟩ => ⟨S16384x8192, .f32⟩
  | .hbm, ⟨43, _⟩ => ⟨S_, .f32⟩
  | .hbm, ⟨44, _⟩ => ⟨S16384x8192, .f32⟩
  | .hbm, ⟨45, _⟩ => ⟨S16384x8192, .f32⟩
  | .hbm, ⟨46, _⟩ => ⟨S_, .f32⟩
  | .hbm, ⟨47, _⟩ => ⟨S16384x8192, .f32⟩
  | .hbm, ⟨48, _⟩ => ⟨S16384x8192, .f32⟩
  | .hbm, ⟨49, _⟩ => ⟨S16384x8192, .f32⟩
  | .hbm, ⟨50, _⟩ => ⟨S16384x8192, .f32⟩
  | .hbm, ⟨51, _⟩ => ⟨S16384x8192, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Kernel6.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S16384x4096, .f32⟩
  | .hbm, ⟨7, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x4096, .f32⟩
  | .hbm, ⟨33, _⟩ => ⟨S16384x4096, .f32⟩
  | .hbm, ⟨34, _⟩ => ⟨S1x4096, .f32⟩
  | .hbm, ⟨35, _⟩ => ⟨S16384x4096, .f32⟩
  | .hbm, ⟨36, _⟩ => ⟨S16384x4096, .f32⟩
  | .hbm, ⟨37, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel7.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel8.lean ====
abbrev S16384x4096 : Shape := ⟨2, ![16384, 4096]⟩
abbrev S4096x10752 : Shape := ⟨2, ![4096, 10752]⟩
abbrev S4096x96 : Shape := ⟨2, ![4096, 96]⟩
abbrev S_ : Shape := ⟨0, ![]⟩
abbrev S4096x128 : Shape := ⟨2, ![4096, 128]⟩
abbrev S4096x64 : Shape := ⟨2, ![4096, 64]⟩
abbrev S4096x256 : Shape := ⟨2, ![4096, 256]⟩
abbrev S4096x4096 : Shape := ⟨2, ![4096, 4096]⟩
abbrev S4096x6144 : Shape := ⟨2, ![4096, 6144]⟩
abbrev S4096x10880 : Shape := ⟨2, ![4096, 10880]⟩
abbrev S16384x10880 : Shape := ⟨2, ![16384, 10880]⟩
abbrev S1024x4096 : Shape := ⟨2, ![1024, 4096]⟩
abbrev S4096x640 : Shape := ⟨2, ![4096, 640]⟩
abbrev S1024x640 : Shape := ⟨2, ![1024, 640]⟩
abbrev S16384x6144 : Shape := ⟨2, ![16384, 6144]⟩
abbrev S16384x96 : Shape := ⟨2, ![16384, 96]⟩
abbrev S16384x64 : Shape := ⟨2, ![16384, 64]⟩
abbrev S16384x256 : Shape := ⟨2, ![16384, 256]⟩
abbrev S16384x10752 : Shape := ⟨2, ![16384, 10752]⟩

abbrev nBuf : Space → Nat
  | .hbm => 30
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x10752, .f32⟩
  | .hbm, ⟨2, _⟩ => ⟨S4096x96, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S4096x96, .f32⟩
  | .hbm, ⟨7, _⟩ => ⟨S_, .i32⟩
  | .hbm, ⟨8, _⟩ => ⟨S_, .f32⟩
  | .hbm, ⟨9, _⟩ => ⟨S4096x128, .f32⟩
  | .hbm, ⟨10, _⟩ => ⟨S4096x64, .f32⟩
  | .hbm, ⟨11, _⟩ => ⟨S_, .i32⟩
  | .hbm, ⟨12, _⟩ => ⟨S_, .f32⟩
  | .hbm, ⟨13, _⟩ => ⟨S4096x128, .f32⟩
  | .hbm, ⟨14, _⟩ => ⟨S4096x256, .f32⟩
  | .hbm, ⟨15, _⟩ => ⟨S_, .i32⟩
  | .hbm, ⟨16, _⟩ => ⟨S_, .f32⟩
  | .hbm, ⟨17, _⟩ => ⟨S4096x256, .f32⟩
  | .hbm, ⟨18, _⟩ => ⟨S4096x4096, .f32⟩
  | .hbm, ⟨19, _⟩ => ⟨S4096x6144, .f32⟩
  | .hbm, ⟨20, _⟩ => ⟨S4096x10880, .f32⟩
  | .hbm, ⟨21, _⟩ => ⟨S4096x10880, .bf16⟩
  | .hbm, ⟨22, _⟩ => ⟨S16384x10880, .f32⟩
  | .hbm, ⟨23, _⟩ => ⟨S16384x6144, .f32⟩
  | .hbm, ⟨24, _⟩ => ⟨S16384x96, .f32⟩
  | .hbm, ⟨25, _⟩ => ⟨S16384x96, .f32⟩
  | .hbm, ⟨26, _⟩ => ⟨S16384x64, .f32⟩
  | .hbm, ⟨27, _⟩ => ⟨S16384x256, .f32⟩
  | .hbm, ⟨28, _⟩ => ⟨S16384x4096, .f32⟩
  | .hbm, ⟨29, _⟩ => ⟨S16384x10752, .f32⟩
  | .local _ .vmem, ⟨0, _⟩ => ⟨S1024x4096, .bf16⟩
  | .local _ .vmem, ⟨1, _⟩ => ⟨S1024x4096, .bf16⟩
  | .local _ .vmem, ⟨2, _⟩ => ⟨S4096x640, .bf16⟩
  | .local _ .vmem, ⟨3, _⟩ => ⟨S4096x640, .bf16⟩
  | .local _ .vmem, ⟨4, _⟩ => ⟨S1024x640, .f32⟩
  | .local _ .vmem, ⟨5, _⟩ => ⟨S1024x640, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_call2_v0 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_call3_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S16384x4096 : Shape := ⟨2, ![16384, 4096]⟩
abbrev S4096x10752 : Shape := ⟨2, ![4096, 10752]⟩
abbrev S16384x10752 : Shape := ⟨2, ![16384, 10752]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x10752, .f32⟩
  | .hbm, ⟨2, _⟩ => ⟨S16384x4096, .f32⟩
  | .hbm, ⟨3, _⟩ => ⟨S16384x10752, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S16384x4096 : Shape := ⟨2, ![16384, 4096]⟩
abbrev S4096x10688 : Shape := ⟨2, ![4096, 10688]⟩
abbrev S4096x96 : Shape := ⟨2, ![4096, 96]⟩
abbrev S_ : Shape := ⟨0, ![]⟩
abbrev S4096x128 : Shape := ⟨2, ![4096, 128]⟩
abbrev S4096x256 : Shape := ⟨2, ![4096, 256]⟩
abbrev S4096x4096 : Shape := ⟨2, ![4096, 4096]⟩
abbrev S4096x6144 : Shape := ⟨2, ![4096, 6144]⟩
abbrev S4096x10880 : Shape := ⟨2, ![4096, 10880]⟩
abbrev S16384x10880 : Shape := ⟨2, ![16384, 10880]⟩
abbrev S1024x4096 : Shape := ⟨2, ![1024, 4096]⟩
abbrev S4096x640 : Shape := ⟨2, ![4096, 640]⟩
abbrev S1024x640 : Shape := ⟨2, ![1024, 640]⟩
abbrev S16384x6144 : Shape := ⟨2, ![16384, 6144]⟩
abbrev S16384x96 : Shape := ⟨2, ![16384, 96]⟩
abbrev S16384x256 : Shape := ⟨2, ![16384, 256]⟩
abbrev S16384x10688 : Shape := ⟨2, ![16384, 10688]⟩

abbrev nBuf : Space → Nat
  | .hbm => 27
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x10688, .f32⟩
  | .hbm, ⟨2, _⟩ => ⟨S4096x96, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S4096x96, .f32⟩
  | .hbm, ⟨7, _⟩ => ⟨S_, .i32⟩
  | .hbm, ⟨8, _⟩ => ⟨S_, .f32⟩
  | .hbm, ⟨9, _⟩ => ⟨S4096x128, .f32⟩
  | .hbm, ⟨10, _⟩ => ⟨S4096x256, .f32⟩
  | .hbm, ⟨11, _⟩ => ⟨S_, .i32⟩
  | .hbm, ⟨12, _⟩ => ⟨S_, .f32⟩
  | .hbm, ⟨13, _⟩ => ⟨S4096x256, .f32⟩
  | .hbm, ⟨14, _⟩ => ⟨S_, .f32⟩
  | .hbm, ⟨15, _⟩ => ⟨S4096x128, .f32⟩
  | .hbm, ⟨16, _⟩ => ⟨S4096x4096, .f32⟩
  | .hbm, ⟨17, _⟩ => ⟨S4096x6144, .f32⟩
  | .hbm, ⟨18, _⟩ => ⟨S4096x10880, .f32⟩
  | .hbm, ⟨19, _⟩ => ⟨S4096x10880, .bf16⟩
  | .hbm, ⟨20, _⟩ => ⟨S16384x10880, .f32⟩
  | .hbm, ⟨21, _⟩ => ⟨S16384x6144, .f32⟩
  | .hbm, ⟨22, _⟩ => ⟨S16384x96, .f32⟩
  | .hbm, ⟨23, _⟩ => ⟨S16384x96, .f32⟩
  | .hbm, ⟨24, _⟩ => ⟨S16384x256, .f32⟩
  | .hbm, ⟨25, _⟩ => ⟨S16384x4096, .f32⟩
  | .hbm, ⟨26, _⟩ => ⟨S16384x10688, .f32⟩
  | .local _ .vmem, ⟨0, _⟩ => ⟨S1024x4096, .bf16⟩
  | .local _ .vmem, ⟨1, _⟩ => ⟨S1024x4096, .bf16⟩
  | .local _ .vmem, ⟨2, _⟩ => ⟨S4096x640, .bf16⟩
  | .local _ .vmem, ⟨3, _⟩ => ⟨S4096x640, .bf16⟩
  | .local _ .vmem, ⟨4, _⟩ => ⟨S1024x640, .f32⟩
  | .local _ .vmem, ⟨5, _⟩ => ⟨S1024x640, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_call2_v0 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S16384x4096 : Shape := ⟨2, ![16384, 4096]⟩
abbrev S4096x10688 : Shape := ⟨2, ![4096, 10688]⟩
abbrev S16384x10688 : Shape := ⟨2, ![16384, 10688]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x10688, .f32⟩
  | .hbm, ⟨2, _⟩ => ⟨S16384x4096, .f32⟩
  | .hbm, ⟨3, _⟩ => ⟨S16384x10688, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S16384x4096 : Shape := ⟨2, ![16384, 4096]⟩
abbrev S4x2048 : Shape := ⟨2, ![4, 2048]⟩
abbrev S2048 : Shape := ⟨1, ![2048]⟩
abbrev S2x16x128x128 : Shape := ⟨4, ![2, 16, 128, 128]⟩
abbrev S2x2048 : Shape := ⟨2, ![2, 2048]⟩
abbrev S_ : Shape := ⟨0, ![]⟩
abbrev S16384x10880 : Shape := ⟨2, ![16384, 10880]⟩
abbrev S1x2048 : Shape := ⟨2, ![1, 2048]⟩
abbrev S16384x2048 : Shape := ⟨2, ![16384, 2048]⟩
abbrev S256x512 : Shape := ⟨2, ![256, 512]⟩
abbrev S8x512 : Shape := ⟨2, ![8, 512]⟩
abbrev S4x512 : Shape := ⟨2, ![4, 512]⟩
abbrev S1x512 : Shape := ⟨2, ![1, 512]⟩
abbrev S2x4x128x128 : Shape := ⟨4, ![2, 4, 128, 128]⟩
abbrev S2x512 : Shape := ⟨2, ![2, 512]⟩
abbrev S256x128 : Shape := ⟨2, ![256, 128]⟩
abbrev S1x1x128x128 : Shape := ⟨4, ![1, 1, 128, 128]⟩
abbrev S128x128 : Shape := ⟨2, ![128, 128]⟩

abbrev nBuf : Space → Nat
  | .hbm => 13
  | .vmem => 19
  | .smem => 0
  | _ => 0

abbrev bufTy : (tb : Table) → Fin (tcTables nBuf tb) → BufTy
  | .hbm, ⟨0, _⟩ => ⟨S16384x4096, .f32⟩
  | .hbm, ⟨1, _⟩ => ⟨S4x2048, .f32⟩
  | .hbm, ⟨2, _⟩ => ⟨S2048, .f32⟩
  | .hbm, ⟨3, _⟩ => ⟨S2x16x128x128, .f32⟩
  | .hbm, ⟨4, _⟩ => ⟨S2x2048, .f32⟩
  | .hbm, ⟨5, _⟩ => ⟨S2048, .f32⟩
  | .hbm, ⟨6, _⟩ => ⟨S_, .i32⟩
  | .hbm, ⟨7, _⟩ => ⟨S_, .f32⟩
  | .hbm, ⟨8, _⟩ => ⟨S16384x10880, .f32⟩
  | .hbm, ⟨9, _⟩ => ⟨S1x2048, .f32⟩
  | .hbm, ⟨10, _⟩ => ⟨S2x16x128x128, .bf16⟩
  | .hbm, ⟨11, _⟩ => ⟨S1x2048, .f32⟩
  | .hbm, ⟨12, _⟩ => ⟨S16384x2048, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S8x512, .f32⟩
  | .local _ .vmem, ⟨5, _⟩ => ⟨S8x512, .f32⟩
  | .local _ .vmem, ⟨6, _⟩ => ⟨S4x512, .f32⟩
  | .local _ .vmem, ⟨7, _⟩ => ⟨S4x512, .f32⟩
  | .local _ .vmem, ⟨8, _⟩ => ⟨S1x512, .f32⟩
  | .local _ .vmem, ⟨9, _⟩ => ⟨S1x512, .f32⟩
  | .local _ .vmem, ⟨10, _⟩ => ⟨S2x4x128x128, .bf16⟩
  | .local _ .vmem, ⟨11, _⟩ => ⟨S2x4x128x128, .bf16⟩
  | .local _ .vmem, ⟨12, _⟩ => ⟨S2x512, .f32⟩
  | .local _ .vmem, ⟨13, _⟩ => ⟨S2x512, .f32⟩
  | .local _ .vmem, ⟨14, _⟩ => ⟨S1x512, .f32⟩
  | .local _ .vmem, ⟨15, _⟩ => ⟨S1x512, .f32⟩
  | .local _ .vmem, ⟨16, _⟩ => ⟨S256x512, .bf16⟩
  | .local _ .vmem, ⟨17, _⟩ => ⟨S256x512, .bf16⟩
  | .local _ .vmem, ⟨18, _⟩ => ⟨S8x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x4x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S16384x4096 : Shape := ⟨2, ![16384, 4096]⟩
abbrev S4x2048 : Shape := ⟨2, ![4, 2048]⟩
abbrev S2048 : Shape := ⟨1, ![2048]⟩
abbrev S2x16x128x128 : Shape := ⟨4, ![2, 16, 128, 128]⟩
abbrev S2x2048 : Shape := ⟨2, ![2, 2048]⟩
abbrev S16384x2048 : Shape := ⟨2, ![16384, 2048]⟩
abbrev S_ : Shape := ⟨0, ![]⟩
abbrev S16387x2048 : Shape := ⟨2, ![16387, 2048]⟩
abbrev S1x2048 : Shape := ⟨2, ![1, 2048]⟩
abbrev S16384x16x128 : Shape := ⟨3, ![16384, 16, 128]⟩
abbrev S16x2x128x16384 : Shape := ⟨4, ![16, 2, 128, 16384]⟩
abbrev S2x16384x16x128 : Shape := ⟨4, ![2, 16384, 16, 128]⟩
abbrev S2x16384x2048 : Shape := ⟨3, ![2, 16384, 2048]⟩
abbrev S2x1x2048 : Shape := ⟨3, ![2, 1, 2048]⟩
abbrev S1x16384x2048 : Shape := ⟨3, ![1, 16384, 2048]⟩

abbrev nBuf : Space → Nat
  | .hbm => 145
  | .vmem => 0
  | .smem => 0
  | _ => 0

abbrev hbmTy0_0 (i : Nat) : BufTy := match i % 128 with
  | 0 => ⟨S16384x4096, .f32⟩
  | 1 => ⟨S4x2048, .f32⟩
  | 2 => ⟨S2048, .f32⟩
  | 3 => ⟨S2x16x128x128, .f32⟩
  | 4 => ⟨S2x2048, .f32⟩
  | 5 => ⟨S2048, .f32⟩
  | 6 => ⟨S16384x2048, .f32⟩
  | 7 => ⟨S16384x2048, .f32⟩
  | 8 => ⟨S_, .i32⟩
  | 9 => ⟨S_, .f32⟩
  | 10 => ⟨S16387x2048, .f32⟩
  | 11 => ⟨S16384x2048, .f32⟩
  | 12 => ⟨S1x2048, .f32⟩
  | 13 => ⟨S2048, .f32⟩
  | 14 => ⟨S1x2048, .f32⟩
  | 15 => ⟨S16384x2048, .f32⟩
  | 16 => ⟨S16384x2048, .f32⟩
  | 17 => ⟨S_, .f32⟩
  | 18 => ⟨S16384x2048, .f32⟩
  | 19 => ⟨S16384x2048, .f32⟩
  | 20 => ⟨S16384x2048, .f32⟩
  | 21 => ⟨S1x2048, .f32⟩
  | 22 => ⟨S2048, .f32⟩
  | 23 => ⟨S1x2048, .f32⟩
  | 24 => ⟨S16384x2048, .f32⟩
  | 25 => ⟨S16384x2048, .f32⟩
  | 26 => ⟨S16384x2048, .f32⟩
  | 27 => ⟨S16384x2048, .f32⟩
  | 28 => ⟨S1x2048, .f32⟩
  | 29 => ⟨S2048, .f32⟩
  | 30 => ⟨S1x2048, .f32⟩
  | 31 => ⟨S16384x2048, .f32⟩
  | 32 => ⟨S16384x2048, .f32⟩
  | 33 => ⟨S16384x2048, .f32⟩
  | 34 => ⟨S16384x2048, .f32⟩
  | 35 => ⟨S1x2048, .f32⟩
  | 36 => ⟨S2048, .f32⟩
  | 37 => ⟨S1x2048, .f32⟩
  | 38 => ⟨S16384x2048, .f32⟩
  | 39 => ⟨S16384x2048, .f32⟩
  | 40 => ⟨S16384x2048, .f32⟩
  | 41 => ⟨S1x2048, .f32⟩
  | 42 => ⟨S16384x2048, .f32⟩
  | 43 => ⟨S16384x2048, .f32⟩
  | 44 => ⟨S16384x16x128, .f32⟩
  | 45 => ⟨S16x2x128x16384, .f32⟩
  | 46 => ⟨S2x16384x16x128, .f32⟩
  | 47 => ⟨S2x16384x2048, .f32⟩
  | 48 => ⟨S2x1x2048, .f32⟩
  | 49 => ⟨S2x16384x2048, .f32⟩
  | 50 => ⟨S2x16384x2048, .f32⟩
  | 51 => ⟨S1x16384x2048, .f32⟩
  | 52 => ⟨S16384x2048, .f32⟩
  | 53 => ⟨S16384x2048, .f32⟩
  | 54 => ⟨S16384x2048, .f32⟩
  | 55 => ⟨S_, .f32⟩
  | 56 => ⟨S16384x2048, .f32⟩
  | 57 => ⟨S16384x2048, .f32⟩
  | 58 => ⟨S_, .f32⟩
  | 59 => ⟨S16384x2048, .f32⟩
  | 60 => ⟨S16384x2048, .f32⟩
  | 61 => ⟨S_, .f32⟩
  | 62 => ⟨S16384x2048, .f32⟩
  | 63 => ⟨S16384x2048, .f32⟩
  | 64 => ⟨S2048, .f32⟩
  | 65 => ⟨S_, .f32⟩
  | 66 => ⟨S2048, .f32⟩
  | 67 => ⟨S2048, .f32⟩
  | 68 => ⟨S2048, .f32⟩
  | 69 => ⟨S2048, .f32⟩
  | 70 => ⟨S2048, .i1⟩
  | 71 => ⟨S2048, .f32⟩
  | 72 => ⟨S2048, .f32⟩
  | 73 => ⟨S2048, .f32⟩
  | 74 => ⟨S2048, .f32⟩
  | 75 => ⟨S2048, .f32⟩
  | 76 => ⟨S2048, .f32⟩
  | 77 => ⟨S2048, .f32⟩
  | 78 => ⟨S2048, .f32⟩
  | 79 => ⟨S1x2048, .f32⟩
  | 80 => ⟨S16384x2048, .f32⟩
  | 81 => ⟨S16384x2048, .f32⟩
  | 82 => ⟨S16384x2048, .f32⟩
  | 83 => ⟨S_, .f32⟩
  | 84 => ⟨S16384x2048, .f32⟩
  | 85 => ⟨S16384x2048, .f32⟩
  | 86 => ⟨S16384x2048, .f32⟩
  | 87 => ⟨S16384x2048, .f32⟩
  | 88 => ⟨S16384x2048, .f32⟩
  | 89 => ⟨S1x16384x2048, .f32⟩
  | 90 => ⟨S16384x2048, .f32⟩
  | 91 => ⟨S16384x2048, .f32⟩
  | 92 => ⟨S16384x2048, .f32⟩
  | 93 => ⟨S_, .f32⟩
  | 94 => ⟨S16384x2048, .f32⟩
  | 95 => ⟨S16384x2048, .f32⟩
  | 96 => ⟨S_, .f32⟩
  | 97 => ⟨S16384x2048, .f32⟩
  | 98 => ⟨S16384x2048, .f32⟩
  | 99 => ⟨S16384x2048, .f32⟩
  | 100 => ⟨S16384x2048, .f32⟩
  | 101 => ⟨S_, .f32⟩
  | 102 => ⟨S2048, .f32⟩
  | 103 => ⟨S_, .f32⟩
  | 104 => ⟨S16384x2048, .f32⟩
  | 105 => ⟨S_, .i32⟩
  | 106 => ⟨S16384x2048, .f32⟩
  | 107 => ⟨S16384x2048, .f32⟩
  | 108 => ⟨S_, .i32⟩
  | 109 => ⟨S2048, .f32⟩
  | 110 => ⟨S16384x2048, .f32⟩
  | 111 => ⟨S_, .i32⟩
  | 112 => ⟨S_, .i1⟩
  | 113 => ⟨S_, .i32⟩
  | 114 => ⟨S1x2048, .f32⟩
  | 115 => ⟨S2048, .f32⟩
  | 116 => ⟨S_, .i32⟩
  | 117 => ⟨S1x2048, .f32⟩
  | 118 => ⟨S2048, .f32⟩
  | 119 => ⟨S2048, .f32⟩
  | 120 => ⟨S2048, .f32⟩
  | 121 => ⟨S1x2048, .f32⟩
  | 122 => ⟨S_, .i32⟩
  | 123 => ⟨S16384x2048, .f32⟩
  | 124 => ⟨S_, .i32⟩
  | 125 => ⟨S_, .i32⟩
  | 126 => ⟨S16384x2048, .f32⟩
  | 127 => ⟨S16384x2048, .f32⟩
  | _ => ⟨S16384x4096, .f32⟩

abbrev hbmTy0_1 (i : Nat) : BufTy := match i % 128 with
  | 0 => ⟨S_, .f32⟩
  | 1 => ⟨S16384x2048, .f32⟩
  | 2 => ⟨S16384x2048, .f32⟩
  | 3 => ⟨S16384x2048, .f32⟩
  | 4 => ⟨S_, .f32⟩
  | 5 => ⟨S16384x2048, .f32⟩
  | 6 => ⟨S16384x2048, .f32⟩
  | 7 => ⟨S16384x2048, .f32⟩
  | 8 => ⟨S_, .f32⟩
  | 9 => ⟨S16384x2048, .f32⟩
  | 10 => ⟨S16384x2048, .f32⟩
  | 11 => ⟨S_, .f32⟩
  | 12 => ⟨S16384x2048, .f32⟩
  | 13 => ⟨S16384x2048, .f32⟩
  | 14 => ⟨S16384x2048, .f32⟩
  | 15 => ⟨S16384x2048, .f32⟩
  | 16 => ⟨S16384x2048, .bf16⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_0 : Ref sig .tc := ⟨.hbm, 55, rfl⟩
abbrev main_v46 : Ref sig .tc := ⟨.hbm, 56, rfl⟩
abbrev main_v47 : Ref sig .tc := ⟨.hbm, 57, rfl⟩
abbrev main_cst_1 : Ref sig .tc := ⟨.hbm, 58, rfl⟩
abbrev main_v48 : Ref sig .tc := ⟨.hbm, 59, rfl⟩
abbrev main_v49 : Ref sig .tc := ⟨.hbm, 60, rfl⟩
abbrev main_cst_2 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_3 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_4 : Ref sig .tc := ⟨.hbm, 93, rfl⟩
abbrev main_v67 : Ref sig .tc := ⟨.hbm, 94, rfl⟩
abbrev main_v68 : Ref sig .tc := ⟨.hbm, 95, rfl⟩
abbrev main_cst_5 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_6 : Ref sig .tc := ⟨.hbm, 101, rfl⟩
abbrev main_v73 : Ref sig .tc := ⟨.hbm, 102, rfl⟩
abbrev main_cst_7 : Ref sig .tc := ⟨.hbm, 103, rfl⟩
abbrev main_v74 : Ref sig .tc := ⟨.hbm, 104, rfl⟩
abbrev main_c_8 : Ref sig .tc := ⟨.hbm, 105, rfl⟩
abbrev main_v75_0 : Ref sig .tc := ⟨.hbm, 106, rfl⟩
abbrev main_v75_1 : Ref sig .tc := ⟨.hbm, 107, rfl⟩
abbrev main_v75_2 : Ref sig .tc := ⟨.hbm, 108, rfl⟩
abbrev main_v75_3 : Ref sig .tc := ⟨.hbm, 109, rfl⟩
abbrev main_v75_4 : Ref sig .tc := ⟨.hbm, 110, rfl⟩
abbrev main_while0c_c_17 : Ref sig .tc := ⟨.hbm, 111, rfl⟩
abbrev main_while0c_v91 : Ref sig .tc := ⟨.hbm, 112, rfl⟩
abbrev main_while0b_call2_c : Ref sig .tc := ⟨.hbm, 113, rfl⟩
abbrev main_while0b_call2_v0 : Ref sig .tc := ⟨.hbm, 114, rfl⟩
abbrev main_while0b_v91 : Ref sig .tc := ⟨.hbm, 115, rfl⟩
abbrev main_while0b_call3_c : Ref sig .tc := ⟨.hbm, 116, rfl⟩
abbrev main_while0b_call3_v0 : Ref sig .tc := ⟨.hbm, 117, rfl⟩
abbrev main_while0b_v92 : Ref sig .tc := ⟨.hbm, 118, rfl⟩
abbrev main_while0b_v93 : Ref sig .tc := ⟨.hbm, 119, rfl⟩
abbrev main_while0b_v94 : Ref sig .tc := ⟨.hbm, 120, rfl⟩
abbrev main_while0b_call4_v0 : Ref sig .tc := ⟨.hbm, 121, rfl⟩
abbrev main_while0b_call4_c : Ref sig .tc := ⟨.hbm, 122, rfl⟩
abbrev main_while0b_v95 : Ref sig .tc := ⟨.hbm, 123, rfl⟩
abbrev main_while0b_c_17 : Ref sig .tc := ⟨.hbm, 124, rfl⟩
abbrev main_while0b_v96 : Ref sig .tc := ⟨.hbm, 125, rfl⟩
abbrev main_v76 : Ref sig .tc := ⟨.hbm, 126, rfl⟩
abbrev main_v77 : Ref sig .tc := ⟨.hbm, 127, rfl⟩
abbrev main_cst_9 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_10 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_cst_11 : Ref sig .tc := ⟨.hbm, 136, rfl⟩
abbrev main_v84 : Ref sig .tc := ⟨.hbm, 137, rfl⟩
abbrev main_v85 : Ref sig .tc := ⟨.hbm, 138, rfl⟩
abbrev main_cst_12 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩

abbrev nD : Nat := 1
abbrev τ : Topo := Topo.v7x

variable {F : FTy → Type} [FloatOps F]

abbrev main_while0_count : Scf.Loop 32 := ⟨0#32, 16384#32, 1#32⟩
-- ==== Kernel11.lean ====
abbrev S16384x2048 : Shape := ⟨2, ![16384, 2048]⟩
abbrev S2048 : Shape := ⟨1, ![2048]⟩
abbrev S1x2048 : Shape := ⟨2, ![1, 2048]⟩
abbrev S256x2048 : Shape := ⟨2, ![256, 2048]⟩
abbrev S256x256 : Shape := ⟨2, ![256, 256]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .bf16⟩
  | .local _ .vmem, ⟨9, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S16384x2048 : Shape := ⟨2, ![16384, 2048]⟩
abbrev S2048 : Shape := ⟨1, ![2048]⟩
abbrev S16384x32x64 : Shape := ⟨3, ![16384, 32, 64]⟩
abbrev S_ : Shape := ⟨0, ![]⟩
abbrev S16384x32 : Shape := ⟨2, ![16384, 32]⟩
abbrev S16384x32x1 : Shape := ⟨3, ![16384, 32, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S16384x32x64, .f32⟩
  | .hbm, ⟨6, _⟩ => ⟨S_, .f32⟩
  | .hbm, ⟨7, _⟩ => ⟨S16384x32, .f32⟩
  | .hbm, ⟨8, _⟩ => ⟨S16384x32x1, .f32⟩
  | .hbm, ⟨9, _⟩ => ⟨S_, .f32⟩
  | .hbm, ⟨10, _⟩ => ⟨S16384x32x1, .f32⟩
  | .hbm, ⟨11, _⟩ => ⟨S16384x32x1, .f32⟩
  | .hbm, ⟨12, _⟩ => ⟨S16384x32x64, .f32⟩
  | .hbm, ⟨13, _⟩ => ⟨S16384x32x64, .f32⟩
  | .hbm, ⟨14, _⟩ => ⟨S16384x32x64, .f32⟩
  | .hbm, ⟨15, _⟩ => ⟨S_, .f32⟩
  | .hbm, ⟨16, _⟩ => ⟨S16384x32, .f32⟩
  | .hbm, ⟨17, _⟩ => ⟨S16384x32x1, .f32⟩
  | .hbm, ⟨18, _⟩ => ⟨S_, .f32⟩
  | .hbm, ⟨19, _⟩ => ⟨S16384x32x1, .f32⟩
  | .hbm, ⟨20, _⟩ => ⟨S16384x32x1, .f32⟩
  | .hbm, ⟨21, _⟩ => ⟨S16384x32x64, .f32⟩
  | .hbm, ⟨22, _⟩ => ⟨S16384x32x64, .f32⟩
  | .hbm, ⟨23, _⟩ => ⟨S_, .f32⟩
  | .hbm, ⟨24, _⟩ => ⟨S16384x32x1, .f32⟩
  | .hbm, ⟨25, _⟩ => ⟨S16384x32x1, .f32⟩
  | .hbm, ⟨26, _⟩ => ⟨S16384x32x1, .f32⟩
  | .hbm, ⟨27, _⟩ => ⟨S16384x32x64, .f32⟩
  | .hbm, ⟨28, _⟩ => ⟨S16384x32x64, .f32⟩
  | .hbm, ⟨29, _⟩ => ⟨S16384x2048, .f32⟩
  | .hbm, ⟨30, _⟩ => ⟨S1x2048, .f32⟩
  | .hbm, ⟨31, _⟩ => ⟨S16384x2048, .f32⟩
  | .hbm, ⟨32, _⟩ => ⟨S16384x2048, .f32⟩
  | .hbm, ⟨33, _⟩ => ⟨S1x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Proof.SB.Words.lean ====
/- The loops of the stick-breaking kernel: how many trips each makes and which rows of the keys and the values
   each phase reads, as natural numbers, from the words the program computes them with. -/
module

public import proofs.«01_k».proof.Proof.Gen.KernelIdeal

@[expose] public section

namespace Cert.SB

open Idealize.ShloMosaic Cert.KernelIdeal Cert.KernelIdeal.Gen

/-- Floor division of a word by a positive literal, as the program spells it. -/
def fdiv (a b : BitVec 32) : BitVec 32 :=
  Scalar.select (Scalar.andi (Scalar.cmpi .ne (Scalar.subi (Scalar.extui (Scalar.cmpi .sgt a 0#32)) (Scalar.extui (Scalar.cmpi .slt a 0#32)))
      (Scalar.subi (Scalar.extui (Scalar.cmpi .sgt b 0#32)) (Scalar.extui (Scalar.cmpi .slt b 0#32))))
    (Scalar.cmpi .ne (Scalar.remsi a b) 0#32)) (Scalar.subi (Scalar.divsi a b) 1#32) (Scalar.divsi a b)

/-- The number of key pairs before row block `a`, as a word. -/
abbrev w62 (a : BitVec 32) : BitVec 32 := fdiv a 2#32
/-- The last pair's number, as a word. -/
abbrev w64 (a : BitVec 32) : BitVec 32 := Scalar.maxsi (Scalar.subi (w62 a) 1#32) 0#32
/-- The long loop's trip count, as a word. -/
abbrev w97 (a : BitVec 32) : BitVec 32 := fdiv (w62 a) 4#32
/-- The pairs the long loop has done, as a word. -/
abbrev w98 (a : BitVec 32) : BitVec 32 := Scalar.muli (w97 a) 4#32
/-- The short loop's trip count, as a word. -/
abbrev w117 (a : BitVec 32) : BitVec 32 := fdiv (Scalar.addi (Scalar.subi (w62 a) (w98 a)) 1#32) 2#32
/-- The first row of pair `t`, as a word. -/
def wrow (a t : BitVec 32) : BitVec 32 :=
  Scalar.muli (Scalar.maxsi (Scalar.subi (Scalar.subi a 2#32) (Scalar.muli 2#32 t)) 0#32) 256#32
/-- The pair whose keys phase `t` reads (the next one), as a word. -/
def wk (a t : BitVec 32) : BitVec 32 := Scalar.minsi (Scalar.addi t 1#32) (w64 a)
/-- The pair whose values phase `t` reads (the one before), as a word. -/
def wv (a t : BitVec 32) : BitVec 32 := Scalar.minsi (w64 a) (Scalar.maxsi 0#32 (Scalar.subi t 1#32))

/-- The first key block of pair `t` of row block `n`. -/
abbrev jb (n t : ℕ) : ℕ := n - 2 - 2 * t
/-- The pair whose keys phase `t` reads. -/
abbrev kp (n t : ℕ) : ℕ := min (t + 1) (n / 2 - 1)
/-- The pair whose values phase `t` reads. -/
abbrev vp (n t : ℕ) : ℕ := min (t - 1) (n / 2 - 1)
/-- The pairs the long loop does. -/
abbrev dn (n : ℕ) : ℕ := 4 * (n / 2 / 4)
/-- The phases both loops make. -/
abbrev ph (n : ℕ) : ℕ := dn n + 2 * ((n / 2 - dn n + 1) / 2)

theorem w62_eq : ∀ n : Fin 64, w62 (BitVec.ofNat 32 n.val) = BitVec.ofNat 32 (n.val / 2) := by decide +kernel
theorem wk_eq : ∀ (n : Fin 64) (t : Fin 36), (wrow (BitVec.ofNat 32 n.val) (wk (BitVec.ofNat 32 n.val) (BitVec.ofNat 32 t.val))).toNat
    = jb n.val (kp n.val t.val) * 256 := by decide +kernel
theorem wv_eq : ∀ (n : Fin 64) (t : Fin 36), (wrow (BitVec.ofNat 32 n.val) (wv (BitVec.ofNat 32 n.val) (BitVec.ofNat 32 t.val))).toNat
    = jb n.val (vp n.val t.val) * 256 := by decide +kernel
theorem w98_eq : ∀ n : Fin 64, w98 (BitVec.ofNat 32 n.val) = BitVec.ofNat 32 (dn n.val) := by decide +kernel
theorem w117_eq : ∀ n : Fin 64, w117 (BitVec.ofNat 32 n.val) = BitVec.ofNat 32 ((n.val / 2 - dn n.val + 1) / 2) := by decide +kernel
theorem valid_eq : ∀ (n : Fin 64) (t : Fin 36), Scalar.cmpi .slt (BitVec.ofNat 32 t.val) (w62 (BitVec.ofNat 32 n.val))
    = if t.val < n.val / 2 then 1#1 else 0#1 := by decide +kernel
theorem woff1_eq : ∀ n : Fin 64, (Scalar.muli (BitVec.ofNat 32 n.val) 256#32).toNat = n.val * 256 := by decide +kernel
theorem woff2_eq : ∀ n : Fin 64, (wrow (BitVec.ofNat 32 n.val) 0#32).toNat = jb n.val 0 * 256 := by decide +kernel

/-- A grid point with row block `n`. -/
def ic (n : Fin 64) : grid0.Coords := fun d => match d with | ⟨0, _⟩ => (0 : Fin 8) | ⟨1, _⟩ => n

theorem t1_trips_ic : ∀ n : Fin 64, (k0_t1_loop (ic n)).trips = n.val / 2 / 4 := by decide +kernel
theorem t2_trips_ic : ∀ n : Fin 64, (k0_t2_loop (ic n)).trips = 0 := by decide +kernel
theorem t3_trips_ic : ∀ n : Fin 64, (k0_t3_loop (ic n)).trips = (n.val / 2 - dn n.val + 1) / 2 := by decide +kernel
theorem t4_trips_ic : ∀ n : Fin 64, (k0_t4_loop (ic n)).trips = 0 := by decide +kernel
theorem t5_trips_ic : ∀ n : Fin 64, (k0_t5_loop (ic n)).trips = n.val - 2 * (n.val / 2) := by decide +kernel
theorem t6_trips_ic : ∀ n : Fin 64, (k0_t6_loop (ic n)).trips = 0 := by decide +kernel

variable (i : grid0.Coords)

theorem t1_trips : (k0_t1_loop i).trips = (i 1).val / 2 / 4 := t1_trips_ic (i 1)
theorem t2_trips : (k0_t2_loop i).trips = 0 := t2_trips_ic (i 1)
theorem t3_trips : (k0_t3_loop i).trips = ((i 1).val / 2 - dn (i 1).val + 1) / 2 := t3_trips_ic (i 1)
theorem t4_trips : (k0_t4_loop i).trips = 0 := t4_trips_ic (i 1)
theorem t5_trips : (k0_t5_loop i).trips = (i 1).val - 2 * ((i 1).val / 2) := t5_trips_ic (i 1)
theorem t6_trips : (k0_t6_loop i).trips = 0 := t6_trips_ic (i 1)

/-- The word of a long trip's phase. -/
abbrev tw1 (k : ℕ) (c : BitVec 32) : BitVec 32 := Scalar.addi (Scalar.addi 0#32 (Scalar.muli 4#32 (Scf.iv 0#32 1#32 k))) c
/-- The word of a short trip's phase. -/
abbrev tw3 (a : BitVec 32) (k : ℕ) (c : BitVec 32) : BitVec 32 := Scalar.addi (Scalar.addi (w98 a) (Scalar.muli 2#32 (Scf.iv 0#32 1#32 k))) c

theorem tw1_eq : ∀ (k : Fin 8) (r : Fin 4), tw1 k.val (BitVec.ofNat 32 r.val) = BitVec.ofNat 32 (4 * k.val + r.val) := by decide +kernel
theorem tw3_eq : ∀ (n : Fin 64) (k : Fin 3) (r : Fin 2), tw3 (BitVec.ofNat 32 n.val) k.val (BitVec.ofNat 32 r.val)
    = BitVec.ofNat 32 (dn n.val + 2 * k.val + r.val) := by decide +kernel
theorem wlast_eq : ∀ n : Fin 64, (wrow (BitVec.ofNat 32 n.val) (wv (BitVec.ofNat 32 n.val)
    (Scalar.addi (w98 (BitVec.ofNat 32 n.val)) (Scalar.muli 2#32 (w117 (BitVec.ofNat 32 n.val)))))).toNat = jb n.val (vp n.val (ph n.val)) * 256 := by
  decide +kernel

theorem off1_eq : k0_off1 i = ![(i 1).val * 256, 0] := congrArg (fun x => ![x, 0]) (woff1_eq (i 1))
theorem off2_eq : k0_off2 i = ![jb (i 1).val 0 * 256, 0] := congrArg (fun x => ![x, 0]) (woff2_eq (i 1))
theorem off11_eq : k0_off11 i = ![jb (i 1).val (vp (i 1).val (ph (i 1).val)) * 256, 0] := congrArg (fun x => ![x, 0]) (wlast_eq (i 1))

theorem off3_eq (k : Fin (k0_t1_loop i).trips) (r : Fin 4) :
    k0_off3 i k (BitVec.ofNat 32 r.val) = ![jb (i 1).val (kp (i 1).val (4 * k.val + r.val)) * 256, 0] := by
  have h8 : k.val < 8 := by have h1 := lt_of_lt_of_eq k.isLt (t1_trips i); have h2 : (i 1).val < 64 := (i 1).isLt; omega
  have h : k0_off3 i k (BitVec.ofNat 32 r.val)
      = ![(wrow (BitVec.ofNat 32 (i 1).val) (wk (BitVec.ofNat 32 (i 1).val) (tw1 k.val (BitVec.ofNat 32 r.val)))).toNat, 0] := rfl
  rw [h, tw1_eq ⟨k.val, h8⟩ r]
  exact congrArg (fun x => ![x, 0]) (wk_eq (i 1) ⟨4 * k.val + r.val, by omega⟩)

theorem off4_eq (k : Fin (k0_t1_loop i).trips) (r : Fin 4) :
    k0_off4 i k (BitVec.ofNat 32 r.val) = ![jb (i 1).val (vp (i 1).val (4 * k.val + r.val)) * 256, 0] := by
  have h8 : k.val < 8 := by have h1 := lt_of_lt_of_eq k.isLt (t1_trips i); have h2 : (i 1).val < 64 := (i 1).isLt; omega
  have h : k0_off4 i k (BitVec.ofNat 32 r.val)
      = ![(wrow (BitVec.ofNat 32 (i 1).val) (wv (BitVec.ofNat 32 (i 1).val) (tw1 k.val (BitVec.ofNat 32 r.val)))).toNat, 0] := rfl
  rw [h, tw1_eq ⟨k.val, h8⟩ r]
  exact congrArg (fun x => ![x, 0]) (wv_eq (i 1) ⟨4 * k.val + r.val, by omega⟩)

theorem off7_eq (k : Fin (k0_t3_loop i).trips) (r : Fin 2) :
    k0_off7 i k (BitVec.ofNat 32 r.val) = ![jb (i 1).val (kp (i 1).val (dn (i 1).val + 2 * k.val + r.val)) * 256, 0] := by
  have h2 : (i 1).val < 64 := (i 1).isLt
  have h8 : k.val < 3 := by have h1 := lt_of_lt_of_eq k.isLt (t3_trips i); simp only [dn] at h1; omega
  have h : k0_off7 i k (BitVec.ofNat 32 r.val)
      = ![(wrow (BitVec.ofNat 32 (i 1).val) (wk (BitVec.ofNat 32 (i 1).val) (tw3 (BitVec.ofNat 32 (i 1).val) k.val (BitVec.ofNat 32 r.val)))).toNat, 0] := rfl
  rw [h, tw3_eq (i 1) ⟨k.val, h8⟩ r]
  exact congrArg (fun x => ![x, 0]) (wk_eq (i 1) ⟨dn (i 1).val + 2 * k.val + r.val, by simp only [dn]; omega⟩)

theorem off8_eq (k : Fin (k0_t3_loop i).trips) (r : Fin 2) :
    k0_off8 i k (BitVec.ofNat 32 r.val) = ![jb (i 1).val (vp (i 1).val (dn (i 1).val + 2 * k.val + r.val)) * 256, 0] := by
  have h2 : (i 1).val < 64 := (i 1).isLt
  have h8 : k.val < 3 := by have h1 := lt_of_lt_of_eq k.isLt (t3_trips i); simp only [dn] at h1; omega
  have h : k0_off8 i k (BitVec.ofNat 32 r.val)
      = ![(wrow (BitVec.ofNat 32 (i 1).val) (wv (BitVec.ofNat 32 (i 1).val) (tw3 (BitVec.ofNat 32 (i 1).val) k.val (BitVec.ofNat 32 r.val)))).toNat, 0] := rfl
  rw [h, tw3_eq (i 1) ⟨k.val, h8⟩ r]
  exact congrArg (fun x => ![x, 0]) (wv_eq (i 1) ⟨dn (i 1).val + 2 * k.val + r.val, by simp only [dn]; omega⟩)

end Cert.SB
-- ==== Proof.SB.Phase.lean ====
/- The phases of the stick-breaking kernel's loops: each phase scores the next pair of key blocks, weighs the pair
   scored before, and adds the pair weighed before that; what a trip of each loop leaves is its phases in turn. -/
module

public import proofs.«01_k».proof.Proof.SB.Words
public import proofs.«01_k».proof.Proof.Gen.KernelIdeal.Loops
public import Idealize.ShloMosaic.Lib.VecWindow

@[expose] public section

set_option maxRecDepth 16384

noncomputable section

namespace Cert.SB

open Idealize.ShloMosaic Idealize.ShloMosaic.TcCoe Cert.KernelIdeal Cert.KernelIdeal.Gen

variable {F : FTy → Type} [FloatOps F] [Named F]

/-- 512 rows of the keys or the values, from row `o` on. -/
def rows (x : Vec F S16384x256 .bf16) (o : ℕ) : Vec F S512x256 .bf16 := fun y =>
  x (fun a => match a with
    | ⟨0, _⟩ => ⟨min (o + (y 0).val) 16383, by show min (o + (y 0).val) 16383 < 16384; omega⟩
    | ⟨1, _⟩ => ⟨(y 1).val, (y 1).isLt⟩)

/-- 256 rows of the keys or the values, from row `o` on. -/
def rows1 (x : Vec F S16384x256 .bf16) (o : ℕ) : Vec F S256x256 .bf16 := fun y =>
  x (fun a => match a with
    | ⟨0, _⟩ => ⟨min (o + (y 0).val) 16383, by show min (o + (y 0).val) 16383 < 16384; omega⟩
    | ⟨1, _⟩ => ⟨(y 1).val, (y 1).isLt⟩)

/-- A load of 512 rows reads those rows of what the view reads. -/
theorem readAt_rows (m : Memref sig .tc .vmem S16384x256 .bf16) (X : BufTy.Contents (Elt F) m.view.ty) {off : Fin 2 → ℕ}
    (inb : ∀ a, off a + S512x256.size a ≤ S16384x256.size a) {o : ℕ} (h : off = ![o, 0]) :
    m.view.readAt (Elt F) (Rect.unit (s := S16384x256) off S512x256.size inb).toLoadRect X = rows (m.view.read (Elt F) X) o := by
  subst h
  have h0 := inb 0
  funext y
  refine congrArg (m.view.read (Elt F) X) (funext fun a => ?_)
  have hy : (y 0).val < 512 := (y 0).isLt
  have h0' : o + 512 ≤ 16384 := h0
  match a with
  | ⟨0, _⟩ => exact Fin.ext (by show o + 1 * (y 0).val = min (o + (y 0).val) 16383; omega)
  | ⟨1, _⟩ => exact Fin.ext (by show 0 + 1 * (y 1).val = (y 1).val; omega)

/-- A load of 256 rows reads those rows of what the view reads. -/
theorem readAt_rows1 (m : Memref sig .tc .vmem S16384x256 .bf16) (X : BufTy.Contents (Elt F) m.view.ty) {off : Fin 2 → ℕ}
    (inb : ∀ a, off a + S256x256.size a ≤ S16384x256.size a) {o : ℕ} (h : off = ![o, 0]) :
    m.view.readAt (Elt F) (Rect.unit (s := S16384x256) off S256x256.size inb).toLoadRect X = rows1 (m.view.read (Elt F) X) o := by
  subst h
  have h0 := inb 0
  funext y
  refine congrArg (m.view.read (Elt F) X) (funext fun a => ?_)
  have hy : (y 0).val < 256 := (y 0).isLt
  have h0' : o + 256 ≤ 16384 := h0
  match a with
  | ⟨0, _⟩ => exact Fin.ext (by show o + 1 * (y 0).val = min (o + (y 0).val) 16383; omega)
  | ⟨1, _⟩ => exact Fin.ext (by show 0 + 1 * (y 1).val = (y 1).val; omega)

/-- A load of a whole scratch buffer reads what its view reads. -/
theorem readAt_scr {e : EltTy} (m : Memref sig .tc .vmem S256x512 e) (f : BufTy.Contents (Elt F) m.view.ty)
    (inb : ∀ a, (![0, 0] : Fin 2 → ℕ) a + (![256, 512] : Fin 2 → ℕ) a ≤ S256x512.size a) :
    m.view.readAt (Elt F) (Rect.unit (s := S256x512) ![0, 0] ![256, 512] inb).toLoadRect f = m.view.read (Elt F) f :=
  View.readAt_full m.view f inb

/-- A load of a whole scratch buffer after a store of it all reads what was stored. -/
theorem readCov_scr {e : EltTy} (m : Memref sig .tc .vmem S256x512 e)
    (inb inb' : ∀ a, (![0, 0] : Fin 2 → ℕ) a + (![256, 512] : Fin 2 → ℕ) a ≤ S256x512.size a)
    (w : Vec F S256x512 e) (L : List (View.Piece (Elt F) S256x512 e)) :
    m.view.readCov (⟨Rect.unit (s := S256x512) ![0, 0] ![256, 512] inb, w⟩ :: L) (Rect.unit (s := S256x512) ![0, 0] ![256, 512] inb').toLoadRect = w :=
  View.readCov_full m.view inb' inb w L

/-- What a scratch buffer's view reads after a store of it all. -/
theorem read_writes_scr {e : EltTy} (m : Memref sig .tc .vmem S256x512 e) (f : BufTy.Contents (Elt F) m.view.ty)
    (inb : ∀ a, (![0, 0] : Fin 2 → ℕ) a + (![256, 512] : Fin 2 → ℕ) a ≤ S256x512.size a)
    (w : Vec F S256x512 e) (L : List (View.Piece (Elt F) S256x512 e)) :
    m.view.read (Elt F) (m.view.writes (Elt F) f (⟨Rect.unit (s := S256x512) ![0, 0] ![256, 512] inb, w⟩ :: L)) = w :=
  View.read_writes_full m.view f inb w L

/-- What a phase finds and leaves: the accumulator, the log-weight of the keys after, the scores of the pair to weigh,
    the weights of the pair to add. -/
abbrev St (F : FTy → Type) [FloatOps F] : Type := FVec F S256x256 .f32 × FVec F S256x1 .f32 × Vec F S256x512 .f32 × Vec F S256x512 .bf16

/-- The scores of a pair. -/
def phZ (v1 : FVec F S256x256 .bf16) (kk : Vec F S512x256 .bf16) : Vec F S256x512 .f32 := k0_pay2 v1 kk
/-- The weights of a pair. -/
def phW (v8 : FVec F S256x256 .bf16) (v62 : BitVec 32) (l : FVec F S256x1 .f32) (tw : BitVec 32) (z : Vec F S256x512 .f32) : Vec F S256x512 .bf16 :=
  k0_pay13 (k0_pay7 v8 v62 l tw z) (k0_pay11 v8 v62 l tw z)
/-- The log-weight of the keys after, a pair later. -/
def phL (v62 : BitVec 32) (l : FVec F S256x1 .f32) (tw : BitVec 32) (z : Vec F S256x512 .f32) : FVec F S256x1 .f32 :=
  k0_pay14 l (Scalar.cmpi .slt tw v62) (k0_pay8 z) (k0_pay12 z)
/-- The accumulator with a pair added. -/
def phA (a : FVec F S256x256 .f32) (w : Vec F S256x512 .bf16) (vv : Vec F S512x256 .bf16) : FVec F S256x256 .f32 := k0_pay3 a w vv

/-- One phase: the words are the number of pairs and the pair to weigh, `kk` the keys to score, `vv` the values to add. -/
def step (v1 v8 : FVec F S256x256 .bf16) (v62 tw : BitVec 32) (kk vv : Vec F S512x256 .bf16) (s : St F) : St F :=
  (phA s.1 s.2.2.2 vv, phL v62 s.2.1 tw s.2.2.1, phZ v1 kk, phW v8 v62 s.2.1 tw s.2.2.1)

/-- Phase `t` of row block `n`. -/
def phase (v1 v8 : FVec F S256x256 .bf16) (x1 x2 : Vec F S16384x256 .bf16) (n t : ℕ) (s : St F) : St F :=
  step v1 v8 (BitVec.ofNat 32 (n / 2)) (BitVec.ofNat 32 t) (rows x1 (jb n (kp n t) * 256)) (rows x2 (jb n (vp n t) * 256)) s

/-- The first `t` phases of row block `n`. -/
def phases (v1 v8 : FVec F S256x256 .bf16) (x1 x2 : Vec F S16384x256 .bf16) (n : ℕ) (s : St F) : ℕ → St F
  | 0 => s
  | t + 1 => phase v1 v8 x1 x2 n t (phases v1 v8 x1 x2 n s t)

variable (𝒱 : Variants) (c : Dev nD) (bd : Option 𝒱.V) (i : grid0.Coords) (arg2 : Memref sig .tc .vmem S256x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S256x256 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x512 .bf16) (harg9 : arg9.IsWhole)
  (arg1 : BitVec 32) (v1 : FVec F S256x256 .bf16) (v8 : FVec F S256x256 .bf16) (v41 : FVec F S256x1 .f32) (v45 : FVec F S256x256 .f32) (v62 v64 v98 v117 c0 v118 c1 : BitVec 32)
  (X3 : BufTy.Contents (Elt F) arg3.view.ty) (X4 : BufTy.Contents (Elt F) arg4.view.ty)
  (acc : FVec F S256x256 .f32 × FVec F S256x1 .f32) (f6 : BufTy.Contents (Elt F) arg6.view.ty) (f7 : BufTy.Contents (Elt F) arg7.view.ty) (f8 : BufTy.Contents (Elt F) arg8.view.ty) (f9 : BufTy.Contents (Elt F) arg9.view.ty)

section t1
variable (k : Fin (k0_t1_loop i).trips)

theorem t1_r : (trip_k0_t1.sl.r (F := F) arg6 f6) = (arg6.view.read (Elt F) f6) := by
  simp only [trip_k0_t1.sl.r, readCov_scr, readAt_scr]

theorem t1_l1 : (trip_k0_t1.sl.v249 (F := F) i arg6 v62 c0 k acc f6) = phL v62 acc.2 (trip_k0_t1.sl.v162 i c0 k) (arg6.view.read (Elt F) f6) := by
  simp only [trip_k0_t1.sl.v249, trip_k0_t1.sl.v248, trip_k0_t1.sl.v246, trip_k0_t1.sl.v241, trip_k0_t1.sl.v247, trip_k0_t1.sl.r_2, trip_k0_t1.sl.r_4, t1_r, readCov_scr, readAt_scr]
  rfl

theorem t1_z1 : (trip_k0_t1.sl.v283 (F := F) i arg3 arg7 v1 X3 k) = phZ v1 (arg3.view.readAt (Elt F) (Rect.unit (s := S16384x256) (k0_off3 i k 0#32) S512x256.size (k0_off3_inb i k 0)).toLoadRect X3) := by
  simp only [trip_k0_t1.sl.v283, trip_k0_t1.sl.HW_arg7_1, t1_r, t1_l1, readCov_scr, readAt_scr]
  rfl

theorem t1_l2 : (trip_k0_t1.sl.v339 (F := F) i arg3 arg6 arg7 v1 v62 c0 X3 k acc f6) = phL v62 (phL v62 acc.2 (trip_k0_t1.sl.v162 i c0 k) (arg6.view.read (Elt F) f6)) (trip_k0_t1.sl.v252 i c0 k) (phZ v1 (arg3.view.readAt (Elt F) (Rect.unit (s := S16384x256) (k0_off3 i k 0#32) S512x256.size (k0_off3_inb i k 0)).toLoadRect X3)) := by
  simp only [trip_k0_t1.sl.v339, trip_k0_t1.sl.v338, trip_k0_t1.sl.v336, trip_k0_t1.sl.v331, trip_k0_t1.sl.v330, trip_k0_t1.sl.v322, trip_k0_t1.sl.v321, trip_k0_t1.sl.r_7, trip_k0_t1.sl.r_10, trip_k0_t1.sl.r_11, t1_r, t1_l1, t1_z1, readCov_scr, readAt_scr]
  rfl

theorem t1_z2 : (trip_k0_t1.sl.v373 (F := F) i arg3 arg6 v1 X3 k) = phZ v1 (arg3.view.readAt (Elt F) (Rect.unit (s := S16384x256) (k0_off3 i k 1#32) S512x256.size (k0_off3_inb i k 1)).toLoadRect X3) := by
  simp only [trip_k0_t1.sl.v373, trip_k0_t1.sl.HW_arg6_1, t1_r, t1_l1, t1_z1, t1_l2, readCov_scr, readAt_scr]
  rfl

theorem t1_l3 : (trip_k0_t1.sl.r_17 (F := F) i arg3 arg6 arg7 v1 v62 c0 X3 k acc f6) = phL v62 (phL v62 (phL v62 acc.2 (trip_k0_t1.sl.v162 i c0 k) (arg6.view.read (Elt F) f6)) (trip_k0_t1.sl.v252 i c0 k) (phZ v1 (arg3.view.readAt (Elt F) (Rect.unit (s := S16384x256) (k0_off3 i k 0#32) S512x256.size (k0_off3_inb i k 0)).toLoadRect X3))) (trip_k0_t1.sl.v342 i c0 k) (phZ v1 (arg3.view.readAt (Elt F) (Rect.unit (s := S16384x256) (k0_off3 i k 1#32) S512x256.size (k0_off3_inb i k 1)).toLoadRect X3)) := by
  simp only [trip_k0_t1.sl.r_17, trip_k0_t1.sl.r_14, trip_k0_t1.sl.r_15, t1_r, t1_l1, t1_z1, t1_l2, t1_z2, readCov_scr, readAt_scr]
  rfl

theorem t1_z3 : (trip_k0_t1.sl.v463 (F := F) i arg3 arg7 v1 X3 k) = phZ v1 (arg3.view.readAt (Elt F) (Rect.unit (s := S16384x256) (k0_off3 i k 2#32) S512x256.size (k0_off3_inb i k 2)).toLoadRect X3) := by
  simp only [trip_k0_t1.sl.v463, trip_k0_t1.sl.HW_arg7_2, t1_r, t1_l1, t1_z1, t1_l2, t1_z2, t1_l3, readCov_scr, readAt_scr]
  rfl

theorem t1_w1 : (trip_k0_t1.sl.v268 (F := F) i arg6 arg8 v8 v62 c0 k acc f6) = (phW v8 v62 acc.2 (trip_k0_t1.sl.v162 i c0 k) (arg6.view.read (Elt F) f6)) := by
  simp only [trip_k0_t1.sl.v268, trip_k0_t1.sl.HW_arg8_1, trip_k0_t1.sl.v245, trip_k0_t1.sl.v242, trip_k0_t1.sl.r_3, trip_k0_t1.sl.r_1, t1_r, t1_l1, t1_z1, t1_l2, t1_z2, t1_l3, t1_z3, readCov_scr, readAt_scr]
  refine congrArg₂ (k0_pay13 (F := F)) ?_ ?_ <;> first | (simp only [trip_k0_t1.sl.v268, trip_k0_t1.sl.HW_arg8_1, trip_k0_t1.sl.v245, trip_k0_t1.sl.v242, trip_k0_t1.sl.r_3, trip_k0_t1.sl.r_1, t1_r, t1_l1, t1_z1, t1_l2, t1_z2, t1_l3, t1_z3]; done) | (simp only [trip_k0_t1.sl.v268, trip_k0_t1.sl.HW_arg8_1, trip_k0_t1.sl.v245, trip_k0_t1.sl.v242, trip_k0_t1.sl.r_3, trip_k0_t1.sl.r_1, t1_r, t1_l1, t1_z1, t1_l2, t1_z2, t1_l3, t1_z3]; rfl) | rfl

theorem t1_w2 : (trip_k0_t1.sl.v358 (F := F) i arg3 arg6 arg7 arg9 v1 v8 v62 c0 X3 k acc f6) = (phW v8 v62 (phL v62 acc.2 (trip_k0_t1.sl.v162 i c0 k) (arg6.view.read (Elt F) f6)) (trip_k0_t1.sl.v252 i c0 k) (phZ v1 (arg3.view.readAt (Elt F) (Rect.unit (s := S16384x256) (k0_off3 i k 0#32) S512x256.size (k0_off3_inb i k 0)).toLoadRect X3))) := by
  simp only [trip_k0_t1.sl.v358, trip_k0_t1.sl.HW_arg9_1, trip_k0_t1.sl.v335, trip_k0_t1.sl.v332, trip_k0_t1.sl.v329, trip_k0_t1.sl.v328, trip_k0_t1.sl.v327, trip_k0_t1.sl.v326, trip_k0_t1.sl.v325, trip_k0_t1.sl.v324, trip_k0_t1.sl.v323, trip_k0_t1.sl.v322, trip_k0_t1.sl.v321, trip_k0_t1.sl.r_6, trip_k0_t1.sl.r_8, trip_k0_t1.sl.r_9, trip_k0_t1.sl.r_10, trip_k0_t1.sl.r_11, t1_r, t1_l1, t1_z1, t1_l2, t1_z2, t1_l3, t1_z3, t1_w1, readCov_scr, readAt_scr]
  refine congrArg₂ (k0_pay13 (F := F)) ?_ ?_ <;> first | (simp only [trip_k0_t1.sl.v358, trip_k0_t1.sl.HW_arg9_1, trip_k0_t1.sl.v335, trip_k0_t1.sl.v332, trip_k0_t1.sl.v329, trip_k0_t1.sl.v328, trip_k0_t1.sl.v327, trip_k0_t1.sl.v326, trip_k0_t1.sl.v325, trip_k0_t1.sl.v324, trip_k0_t1.sl.v323, trip_k0_t1.sl.v322, trip_k0_t1.sl.v321, trip_k0_t1.sl.r_6, trip_k0_t1.sl.r_8, trip_k0_t1.sl.r_9, trip_k0_t1.sl.r_10, trip_k0_t1.sl.r_11, t1_r, t1_l1, t1_z1, t1_l2, t1_z2, t1_l3, t1_z3, t1_w1]; done) | (simp only [trip_k0_t1.sl.v358, trip_k0_t1.sl.HW_arg9_1, trip_k0_t1.sl.v335, trip_k0_t1.sl.v332, trip_k0_t1.sl.v329, trip_k0_t1.sl.v328, trip_k0_t1.sl.v327, trip_k0_t1.sl.v326, trip_k0_t1.sl.v325, trip_k0_t1.sl.v324, trip_k0_t1.sl.v323, trip_k0_t1.sl.v322, trip_k0_t1.sl.v321, trip_k0_t1.sl.r_6, trip_k0_t1.sl.r_8, trip_k0_t1.sl.r_9, trip_k0_t1.sl.r_10, trip_k0_t1.sl.r_11, t1_r, t1_l1, t1_z1, t1_l2, t1_z2, t1_l3, t1_z3, t1_w1]; rfl) | rfl

theorem t1_w3 : (trip_k0_t1.sl.v448 (F := F) i arg3 arg6 arg7 arg8 v1 v8 v62 c0 X3 k acc f6) = (phW v8 v62 (phL v62 (phL v62 acc.2 (trip_k0_t1.sl.v162 i c0 k) (arg6.view.read (Elt F) f6)) (trip_k0_t1.sl.v252 i c0 k) (phZ v1 (arg3.view.readAt (Elt F) (Rect.unit (s := S16384x256) (k0_off3 i k 0#32) S512x256.size (k0_off3_inb i k 0)).toLoadRect X3))) (trip_k0_t1.sl.v342 i c0 k) (phZ v1 (arg3.view.readAt (Elt F) (Rect.unit (s := S16384x256) (k0_off3 i k 1#32) S512x256.size (k0_off3_inb i k 1)).toLoadRect X3))) := by
  simp only [trip_k0_t1.sl.v448, trip_k0_t1.sl.HW_arg8_2, trip_k0_t1.sl.r_13, trip_k0_t1.sl.r_15, trip_k0_t1.sl.r_16, t1_r, t1_l1, t1_z1, t1_l2, t1_z2, t1_l3, t1_z3, t1_w1, t1_w2, readCov_scr, readAt_scr]
  refine congrArg₂ (k0_pay13 (F := F)) ?_ ?_ <;> first | (simp only [trip_k0_t1.sl.v448, trip_k0_t1.sl.HW_arg8_2, trip_k0_t1.sl.r_13, trip_k0_t1.sl.r_15, trip_k0_t1.sl.r_16, t1_r, t1_l1, t1_z1, t1_l2, t1_z2, t1_l3, t1_z3, t1_w1, t1_w2]; done) | (simp only [trip_k0_t1.sl.v448, trip_k0_t1.sl.HW_arg8_2, trip_k0_t1.sl.r_13, trip_k0_t1.sl.r_15, trip_k0_t1.sl.r_16, t1_r, t1_l1, t1_z1, t1_l2, t1_z2, t1_l3, t1_z3, t1_w1, t1_w2]; rfl) | rfl

theorem t1_a1 : (trip_k0_t1.sl.v192 (F := F) i arg4 arg9 X4 k acc f9) = (phA acc.1 (arg9.view.read (Elt F) f9) (arg4.view.readAt (Elt F) (Rect.unit (s := S16384x256) (k0_off4 i k 0#32) S512x256.size (k0_off4_inb i k 0)).toLoadRect X4)) := by
  simp only [trip_k0_t1.sl.v192, trip_k0_t1.sl.v191, trip_k0_t1.sl.v190, t1_r, t1_l1, t1_z1, t1_l2, t1_z2, t1_l3, t1_z3, t1_w1, t1_w2, t1_w3, readCov_scr, readAt_scr]
  rfl

theorem t1_a2 : (trip_k0_t1.sl.r_5 (F := F) i arg4 arg6 arg8 arg9 v8 v62 c0 X4 k acc f6 f9) = (phA (phA acc.1 (arg9.view.read (Elt F) f9) (arg4.view.readAt (Elt F) (Rect.unit (s := S16384x256) (k0_off4 i k 0#32) S512x256.size (k0_off4_inb i k 0)).toLoadRect X4)) (phW v8 v62 acc.2 (trip_k0_t1.sl.v162 i c0 k) (arg6.view.read (Elt F) f6)) (arg4.view.readAt (Elt F) (Rect.unit (s := S16384x256) (k0_off4 i k 1#32) S512x256.size (k0_off4_inb i k 1)).toLoadRect X4)) := by
  simp only [trip_k0_t1.sl.r_5, t1_r, t1_l1, t1_z1, t1_l2, t1_z2, t1_l3, t1_z3, t1_w1, t1_w2, t1_w3, t1_a1, readCov_scr, readAt_scr]
  rfl

theorem t1_a3 : (trip_k0_t1.sl.r_12 (F := F) i arg3 arg4 arg6 arg7 arg8 arg9 v1 v8 v62 c0 X3 X4 k acc f6 f9) = (phA (phA (phA acc.1 (arg9.view.read (Elt F) f9) (arg4.view.readAt (Elt F) (Rect.unit (s := S16384x256) (k0_off4 i k 0#32) S512x256.size (k0_off4_inb i k 0)).toLoadRect X4)) (phW v8 v62 acc.2 (trip_k0_t1.sl.v162 i c0 k) (arg6.view.read (Elt F) f6)) (arg4.view.readAt (Elt F) (Rect.unit (s := S16384x256) (k0_off4 i k 1#32) S512x256.size (k0_off4_inb i k 1)).toLoadRect X4)) (phW v8 v62 (phL v62 acc.2 (trip_k0_t1.sl.v162 i c0 k) (arg6.view.read (Elt F) f6)) (trip_k0_t1.sl.v252 i c0 k) (phZ v1 (arg3.view.readAt (Elt F) (Rect.unit (s := S16384x256) (k0_off3 i k 0#32) S512x256.size (k0_off3_inb i k 0)).toLoadRect X3))) (arg4.view.readAt (Elt F) (Rect.unit (s := S16384x256) (k0_off4 i k 2#32) S512x256.size (k0_off4_inb i k 2)).toLoadRect X4)) := by
  simp only [trip_k0_t1.sl.r_12, t1_r, t1_l1, t1_z1, t1_l2, t1_z2, t1_l3, t1_z3, t1_w1, t1_w2, t1_w3, t1_a1, t1_a2, readCov_scr, readAt_scr]
  rfl

theorem t1_a4 : (trip_k0_t1.sl.r_19 (F := F) i arg3 arg4 arg6 arg7 arg8 arg9 v1 v8 v62 c0 X3 X4 k acc f6 f9) = (phA (phA (phA (phA acc.1 (arg9.view.read (Elt F) f9) (arg4.view.readAt (Elt F) (Rect.unit (s := S16384x256) (k0_off4 i k 0#32) S512x256.size (k0_off4_inb i k 0)).toLoadRect X4)) (phW v8 v62 acc.2 (trip_k0_t1.sl.v162 i c0 k) (arg6.view.read (Elt F) f6)) (arg4.view.readAt (Elt F) (Rect.unit (s := S16384x256) (k0_off4 i k 1#32) S512x256.size (k0_off4_inb i k 1)).toLoadRect X4)) (phW v8 v62 (phL v62 acc.2 (trip_k0_t1.sl.v162 i c0 k) (arg6.view.read (Elt F) f6)) (trip_k0_t1.sl.v252 i c0 k) (phZ v1 (arg3.view.readAt (Elt F) (Rect.unit (s := S16384x256) (k0_off3 i k 0#32) S512x256.size (k0_off3_inb i k 0)).toLoadRect X3))) (arg4.view.readAt (Elt F) (Rect.unit (s := S16384x256) (k0_off4 i k 2#32) S512x256.size (k0_off4_inb i k 2)).toLoadRect X4)) (phW v8 v62 (phL v62 (phL v62 acc.2 (trip_k0_t1.sl.v162 i c0 k) (arg6.view.read (Elt F) f6)) (trip_k0_t1.sl.v252 i c0 k) (phZ v1 (arg3.view.readAt (Elt F) (Rect.unit (s := S16384x256) (k0_off3 i k 0#32) S512x256.size (k0_off3_inb i k 0)).toLoadRect X3))) (trip_k0_t1.sl.v342 i c0 k) (phZ v1 (arg3.view.readAt (Elt F) (Rect.unit (s := S16384x256) (k0_off3 i k 1#32) S512x256.size (k0_off3_inb i k 1)).toLoadRect X3))) (arg4.view.readAt (Elt F) (Rect.unit (s := S16384x256) (k0_off4 i k 3#32) S512x256.size (k0_off4_inb i k 3)).toLoadRect X4)) := by
  simp only [trip_k0_t1.sl.r_19, t1_r, t1_l1, t1_z1, t1_l2, t1_z2, t1_l3, t1_z3, t1_w1, t1_w2, t1_w3, t1_a1, t1_a2, t1_a3, readCov_scr, readAt_scr]
  rfl

theorem t1_l4 : k0_pay161 (trip_k0_t1.sl.r_17 (F := F) i arg3 arg6 arg7 v1 v62 c0 X3 k acc f6) (trip_k0_t1.sl.v463 (F := F) i arg3 arg7 v1 X3 k) (trip_k0_t1.sl.v464 i v62 c0 k) (trip_k0_t1.sl.r_22 (F := F) i arg3 arg7 v1 X3 k) = (phL v62 (phL v62 (phL v62 (phL v62 acc.2 (trip_k0_t1.sl.v162 i c0 k) (arg6.view.read (Elt F) f6)) (trip_k0_t1.sl.v252 i c0 k) (phZ v1 (arg3.view.readAt (Elt F) (Rect.unit (s := S16384x256) (k0_off3 i k 0#32) S512x256.size (k0_off3_inb i k 0)).toLoadRect X3))) (trip_k0_t1.sl.v342 i c0 k) (phZ v1 (arg3.view.readAt (Elt F) (Rect.unit (s := S16384x256) (k0_off3 i k 1#32) S512x256.size (k0_off3_inb i k 1)).toLoadRect X3))) (trip_k0_t1.sl.v432 i c0 k) (phZ v1 (arg3.view.readAt (Elt F) (Rect.unit (s := S16384x256) (k0_off3 i k 2#32) S512x256.size (k0_off3_inb i k 2)).toLoadRect X3))) := by
  simp only [trip_k0_t1.sl.v464, trip_k0_t1.sl.r_22, t1_r, t1_l1, t1_z1, t1_l2, t1_z2, t1_l3, t1_z3, t1_w1, t1_w2, t1_w3, t1_a1, t1_a2, t1_a3, t1_a4, readCov_scr, readAt_scr]
  rfl

theorem t1_w4 : k0_pay160 v8 (trip_k0_t1.sl.v463 (F := F) i arg3 arg7 v1 X3 k) (trip_k0_t1.sl.r_20 (F := F) i arg3 arg6 arg7 v1 v62 c0 X3 k acc f6) (trip_k0_t1.sl.r_21 (F := F) i arg3 arg7 v1 X3 k) (trip_k0_t1.sl.r_22 (F := F) i arg3 arg7 v1 X3 k) (trip_k0_t1.sl.r_23 (F := F) i arg3 arg7 v1 v8 X3 k) = (phW v8 v62 (phL v62 (phL v62 (phL v62 acc.2 (trip_k0_t1.sl.v162 i c0 k) (arg6.view.read (Elt F) f6)) (trip_k0_t1.sl.v252 i c0 k) (phZ v1 (arg3.view.readAt (Elt F) (Rect.unit (s := S16384x256) (k0_off3 i k 0#32) S512x256.size (k0_off3_inb i k 0)).toLoadRect X3))) (trip_k0_t1.sl.v342 i c0 k) (phZ v1 (arg3.view.readAt (Elt F) (Rect.unit (s := S16384x256) (k0_off3 i k 1#32) S512x256.size (k0_off3_inb i k 1)).toLoadRect X3))) (trip_k0_t1.sl.v432 i c0 k) (phZ v1 (arg3.view.readAt (Elt F) (Rect.unit (s := S16384x256) (k0_off3 i k 2#32) S512x256.size (k0_off3_inb i k 2)).toLoadRect X3))) := by
  simp only [trip_k0_t1.sl.r_20, trip_k0_t1.sl.r_21, trip_k0_t1.sl.r_22, trip_k0_t1.sl.r_23, t1_r, t1_l1, t1_z1, t1_l2, t1_z2, t1_l3, t1_z3, t1_w1, t1_w2, t1_w3, t1_a1, t1_a2, t1_a3, t1_a4, t1_l4, readCov_scr, readAt_scr]
  refine congrArg₂ (k0_pay13 (F := F)) ?_ ?_ <;> first | (simp only [trip_k0_t1.sl.r_20, trip_k0_t1.sl.r_21, trip_k0_t1.sl.r_22, trip_k0_t1.sl.r_23, t1_r, t1_l1, t1_z1, t1_l2, t1_z2, t1_l3, t1_z3, t1_w1, t1_w2, t1_w3, t1_a1, t1_a2, t1_a3, t1_a4, t1_l4]; done) | (simp only [trip_k0_t1.sl.r_20, trip_k0_t1.sl.r_21, trip_k0_t1.sl.r_22, trip_k0_t1.sl.r_23, t1_r, t1_l1, t1_z1, t1_l2, t1_z2, t1_l3, t1_z3, t1_w1, t1_w2, t1_w3, t1_a1, t1_a2, t1_a3, t1_a4, t1_l4]; rfl) | rfl

end t1

section t3
variable (k : Fin (k0_t3_loop i).trips)

theorem t3_r : (trip_k0_t3.sl.r (F := F) arg6 f6) = (arg6.view.read (Elt F) f6) := by
  simp only [trip_k0_t3.sl.r, readCov_scr, readAt_scr]

theorem t3_l1 : (trip_k0_t3.sl.v249 (F := F) i arg6 v62 v98 k acc f6) = phL v62 acc.2 (trip_k0_t3.sl.v162 i v98 k) (arg6.view.read (Elt F) f6) := by
  simp only [trip_k0_t3.sl.v249, trip_k0_t3.sl.v248, trip_k0_t3.sl.v246, trip_k0_t3.sl.v247, trip_k0_t3.sl.r_2, trip_k0_t3.sl.r_4, t3_r, readCov_scr, readAt_scr]
  rfl

theorem t3_z1 : (trip_k0_t3.sl.v283 (F := F) i arg3 arg7 v1 X3 k) = phZ v1 (arg3.view.readAt (Elt F) (Rect.unit (s := S16384x256) (k0_off7 i k 0#32) S512x256.size (k0_off7_inb i k 0)).toLoadRect X3) := by
  simp only [trip_k0_t3.sl.v283, trip_k0_t3.sl.HW_arg7_1, t3_r, t3_l1, readCov_scr, readAt_scr]
  rfl

theorem t3_w1 : (trip_k0_t3.sl.v268 (F := F) i arg6 arg8 v8 v62 v98 k acc f6) = (phW v8 v62 acc.2 (trip_k0_t3.sl.v162 i v98 k) (arg6.view.read (Elt F) f6)) := by
  simp only [trip_k0_t3.sl.v268, trip_k0_t3.sl.HW_arg8_1, trip_k0_t3.sl.v245, trip_k0_t3.sl.v242, trip_k0_t3.sl.r_3, trip_k0_t3.sl.r_1, trip_k0_t3.sl.v194, t3_r, t3_l1, t3_z1, readCov_scr, readAt_scr]
  refine congrArg₂ (k0_pay13 (F := F)) ?_ ?_ <;> first | (simp only [trip_k0_t3.sl.v268, trip_k0_t3.sl.HW_arg8_1, trip_k0_t3.sl.v245, trip_k0_t3.sl.v242, trip_k0_t3.sl.r_3, trip_k0_t3.sl.r_1, trip_k0_t3.sl.v194, t3_r, t3_l1, t3_z1]; done) | (simp only [trip_k0_t3.sl.v268, trip_k0_t3.sl.HW_arg8_1, trip_k0_t3.sl.v245, trip_k0_t3.sl.v242, trip_k0_t3.sl.r_3, trip_k0_t3.sl.r_1, trip_k0_t3.sl.v194, t3_r, t3_l1, t3_z1]; rfl) | rfl

theorem t3_a1 : (trip_k0_t3.sl.v192 (F := F) i arg4 arg9 X4 k acc f9) = (phA acc.1 (arg9.view.read (Elt F) f9) (arg4.view.readAt (Elt F) (Rect.unit (s := S16384x256) (k0_off8 i k 0#32) S512x256.size (k0_off8_inb i k 0)).toLoadRect X4)) := by
  simp only [trip_k0_t3.sl.v192, trip_k0_t3.sl.v191, trip_k0_t3.sl.v190, t3_r, t3_l1, t3_z1, t3_w1, readCov_scr, readAt_scr]
  rfl

theorem t3_a2 : (trip_k0_t3.sl.r_5 (F := F) i arg4 arg6 arg8 arg9 v8 v62 v98 X4 k acc f6 f9) = (phA (phA acc.1 (arg9.view.read (Elt F) f9) (arg4.view.readAt (Elt F) (Rect.unit (s := S16384x256) (k0_off8 i k 0#32) S512x256.size (k0_off8_inb i k 0)).toLoadRect X4)) (phW v8 v62 acc.2 (trip_k0_t3.sl.v162 i v98 k) (arg6.view.read (Elt F) f6)) (arg4.view.readAt (Elt F) (Rect.unit (s := S16384x256) (k0_off8 i k 1#32) S512x256.size (k0_off8_inb i k 1)).toLoadRect X4)) := by
  simp only [trip_k0_t3.sl.r_5, t3_r, t3_l1, t3_z1, t3_w1, t3_a1, readCov_scr, readAt_scr]
  rfl

theorem t3_l2 : k0_pay168 (trip_k0_t3.sl.v249 (F := F) i arg6 v62 v98 k acc f6) (trip_k0_t3.sl.v284 i v62 v98 k) (trip_k0_t3.sl.r_7 (F := F) i arg3 arg7 v1 X3 k) (trip_k0_t3.sl.r_10 (F := F) i arg3 arg7 v1 X3 k) = (phL v62 (phL v62 acc.2 (trip_k0_t3.sl.v162 i v98 k) (arg6.view.read (Elt F) f6)) (trip_k0_t3.sl.v252 i v98 k) (phZ v1 (arg3.view.readAt (Elt F) (Rect.unit (s := S16384x256) (k0_off7 i k 0#32) S512x256.size (k0_off7_inb i k 0)).toLoadRect X3))) := by
  simp only [trip_k0_t3.sl.v284, trip_k0_t3.sl.r_7, trip_k0_t3.sl.r_10, t3_r, t3_l1, t3_z1, t3_w1, t3_a1, t3_a2, readCov_scr, readAt_scr]
  rfl

theorem t3_w2 : k0_pay167 v8 (trip_k0_t3.sl.r_6 (F := F) i arg3 arg6 arg7 v1 v8 v62 v98 X3 k acc f6) (trip_k0_t3.sl.r_8 (F := F) i arg3 arg7 v1 X3 k) (trip_k0_t3.sl.r_9 (F := F) i arg3 arg6 arg7 v1 v62 v98 X3 k acc f6) (trip_k0_t3.sl.r_10 (F := F) i arg3 arg7 v1 X3 k) = (phW v8 v62 (phL v62 acc.2 (trip_k0_t3.sl.v162 i v98 k) (arg6.view.read (Elt F) f6)) (trip_k0_t3.sl.v252 i v98 k) (phZ v1 (arg3.view.readAt (Elt F) (Rect.unit (s := S16384x256) (k0_off7 i k 0#32) S512x256.size (k0_off7_inb i k 0)).toLoadRect X3))) := by
  simp only [trip_k0_t3.sl.r_6, trip_k0_t3.sl.r_8, trip_k0_t3.sl.r_9, trip_k0_t3.sl.r_10, t3_r, t3_l1, t3_z1, t3_w1, t3_a1, t3_a2, t3_l2, readCov_scr, readAt_scr]
  refine congrArg₂ (k0_pay13 (F := F)) ?_ ?_ <;> first | (simp only [trip_k0_t3.sl.r_6, trip_k0_t3.sl.r_8, trip_k0_t3.sl.r_9, trip_k0_t3.sl.r_10, t3_r, t3_l1, t3_z1, t3_w1, t3_a1, t3_a2, t3_l2]; done) | (simp only [trip_k0_t3.sl.r_6, trip_k0_t3.sl.r_8, trip_k0_t3.sl.r_9, trip_k0_t3.sl.r_10, t3_r, t3_l1, t3_z1, t3_w1, t3_a1, t3_a2, t3_l2]; rfl) | rfl

end t3

section t1
variable (k : Fin (k0_t1_loop i).trips)

/-- What the steps of a trip leave. -/
def t1_S : St F := (step v1 v8 v62 (trip_k0_t1.sl.v432 i c0 k) (arg3.view.readAt (Elt F) (Rect.unit (s := S16384x256) (k0_off3 i k 3#32) S512x256.size (k0_off3_inb i k 3)).toLoadRect X3) (arg4.view.readAt (Elt F) (Rect.unit (s := S16384x256) (k0_off4 i k 3#32) S512x256.size (k0_off4_inb i k 3)).toLoadRect X4) (step v1 v8 v62 (trip_k0_t1.sl.v342 i c0 k) (arg3.view.readAt (Elt F) (Rect.unit (s := S16384x256) (k0_off3 i k 2#32) S512x256.size (k0_off3_inb i k 2)).toLoadRect X3) (arg4.view.readAt (Elt F) (Rect.unit (s := S16384x256) (k0_off4 i k 2#32) S512x256.size (k0_off4_inb i k 2)).toLoadRect X4) (step v1 v8 v62 (trip_k0_t1.sl.v252 i c0 k) (arg3.view.readAt (Elt F) (Rect.unit (s := S16384x256) (k0_off3 i k 1#32) S512x256.size (k0_off3_inb i k 1)).toLoadRect X3) (arg4.view.readAt (Elt F) (Rect.unit (s := S16384x256) (k0_off4 i k 1#32) S512x256.size (k0_off4_inb i k 1)).toLoadRect X4) (step v1 v8 v62 (trip_k0_t1.sl.v162 i c0 k) (arg3.view.readAt (Elt F) (Rect.unit (s := S16384x256) (k0_off3 i k 0#32) S512x256.size (k0_off3_inb i k 0)).toLoadRect X3) (arg4.view.readAt (Elt F) (Rect.unit (s := S16384x256) (k0_off4 i k 0#32) S512x256.size (k0_off4_inb i k 0)).toLoadRect X4) (acc.1, acc.2, arg6.view.read (Elt F) f6, arg9.view.read (Elt F) f9)))))

/-- A trip returns its steps' accumulator and log-weight and leaves their scores and weights. -/
theorem t1_trip :
    tripR_k0_t1 (F := F) 𝒱 c bd i arg2 harg2 arg3 harg3 arg4 harg4 arg5 harg5 arg6 harg6 arg7 harg7 arg8 harg8 arg9 harg9 arg1 v1 v8 v41 v45 v62 v64 v98 v117 c0 v118 c1 X3 X4 k acc f6 f7 f8 f9 = ((t1_S i arg3 arg4 arg6 arg9 v1 v8 v62 c0 X3 X4 acc f6 f9 k).1, (t1_S i arg3 arg4 arg6 arg9 v1 v8 v62 c0 X3 X4 acc f6 f9 k).2.1)
    ∧ arg6.view.read (Elt F) (arg6.view.writes (Elt F) f6 (tripL_k0_t1 (F := F) 𝒱 c bd i arg2 harg2 arg3 harg3 arg4 harg4 arg5 harg5 arg6 harg6 arg7 harg7 arg8 harg8 arg9 harg9 arg1 v1 v8 v41 v45 v62 v64 v98 v117 c0 v118 c1 X3 X4 k acc f6 f7 f8 f9).1) = (t1_S i arg3 arg4 arg6 arg9 v1 v8 v62 c0 X3 X4 acc f6 f9 k).2.2.1
    ∧ arg9.view.read (Elt F) (arg9.view.writes (Elt F) f9 (tripL_k0_t1 (F := F) 𝒱 c bd i arg2 harg2 arg3 harg3 arg4 harg4 arg5 harg5 arg6 harg6 arg7 harg7 arg8 harg8 arg9 harg9 arg1 v1 v8 v41 v45 v62 v64 v98 v117 c0 v118 c1 X3 X4 k acc f6 f7 f8 f9).2.2.2) = (t1_S i arg3 arg4 arg6 arg9 v1 v8 v62 c0 X3 X4 acc f6 f9 k).2.2.2 := by
  unfold tripR_k0_t1 tripL_k0_t1 trip_k0_t1
  dsimp only
  refine ⟨Prod.ext ?_ ?_, ?_, ?_⟩
  · exact t1_a4 ..
  · dsimp only
    exact t1_l4 ..

  · exact (read_writes_scr arg6 f6 _ _ _).trans (by rfl)
  · refine (read_writes_scr arg9 f9 _ _ _).trans ?_
    exact t1_w4 ..

end t1

section t3
variable (k : Fin (k0_t3_loop i).trips)

/-- What the steps of a trip leave. -/
def t3_S : St F := (step v1 v8 v62 (trip_k0_t3.sl.v252 i v98 k) (arg3.view.readAt (Elt F) (Rect.unit (s := S16384x256) (k0_off7 i k 1#32) S512x256.size (k0_off7_inb i k 1)).toLoadRect X3) (arg4.view.readAt (Elt F) (Rect.unit (s := S16384x256) (k0_off8 i k 1#32) S512x256.size (k0_off8_inb i k 1)).toLoadRect X4) (step v1 v8 v62 (trip_k0_t3.sl.v162 i v98 k) (arg3.view.readAt (Elt F) (Rect.unit (s := S16384x256) (k0_off7 i k 0#32) S512x256.size (k0_off7_inb i k 0)).toLoadRect X3) (arg4.view.readAt (Elt F) (Rect.unit (s := S16384x256) (k0_off8 i k 0#32) S512x256.size (k0_off8_inb i k 0)).toLoadRect X4) (acc.1, acc.2, arg6.view.read (Elt F) f6, arg9.view.read (Elt F) f9)))

/-- A trip returns its steps' accumulator and log-weight and leaves their scores and weights. -/
theorem t3_trip :
    tripR_k0_t3 (F := F) 𝒱 c bd i arg2 harg2 arg3 harg3 arg4 harg4 arg5 harg5 arg6 harg6 arg7 harg7 arg8 harg8 arg9 harg9 arg1 v1 v8 v41 v45 v62 v64 v98 v117 c0 v118 c1 X3 X4 k acc f6 f7 f8 f9 = ((t3_S i arg3 arg4 arg6 arg9 v1 v8 v62 v98 X3 X4 acc f6 f9 k).1, (t3_S i arg3 arg4 arg6 arg9 v1 v8 v62 v98 X3 X4 acc f6 f9 k).2.1)
    ∧ arg6.view.read (Elt F) (arg6.view.writes (Elt F) f6 (tripL_k0_t3 (F := F) 𝒱 c bd i arg2 harg2 arg3 harg3 arg4 harg4 arg5 harg5 arg6 harg6 arg7 harg7 arg8 harg8 arg9 harg9 arg1 v1 v8 v41 v45 v62 v64 v98 v117 c0 v118 c1 X3 X4 k acc f6 f7 f8 f9).1) = (t3_S i arg3 arg4 arg6 arg9 v1 v8 v62 v98 X3 X4 acc f6 f9 k).2.2.1
    ∧ arg9.view.read (Elt F) (arg9.view.writes (Elt F) f9 (tripL_k0_t3 (F := F) 𝒱 c bd i arg2 harg2 arg3 harg3 arg4 harg4 arg5 harg5 arg6 harg6 arg7 harg7 arg8 harg8 arg9 harg9 arg1 v1 v8 v41 v45 v62 v64 v98 v117 c0 v118 c1 X3 X4 k acc f6 f7 f8 f9).2.2.2) = (t3_S i arg3 arg4 arg6 arg9 v1 v8 v62 v98 X3 X4 acc f6 f9 k).2.2.2 := by
  unfold tripR_k0_t3 tripL_k0_t3 trip_k0_t3
  dsimp only
  refine ⟨Prod.ext ?_ ?_, ?_, ?_⟩
  · exact t3_a2 ..
  · dsimp only
    exact t3_l2 ..

  · exact (read_writes_scr arg6 f6 _ _ _).trans (by rfl)
  · refine (read_writes_scr arg9 f9 _ _ _).trans ?_
    exact t3_w2 ..

end t3

end Cert.SB
end
-- ==== Proof.SB.Sweep.lean ====
module
public import proofs.«01_k».proof.Proof.SB.Phase

/-!
The loops of the stick-breaking kernel leave its phases: the long loop makes four a trip, the short one two, the
last one adds the block left over when the number of key blocks is odd.
-/

@[expose] public section
set_option maxRecDepth 16384
noncomputable section
namespace Cert.SB
open Idealize.ShloMosaic Idealize.ShloMosaic.TcCoe Cert.KernelIdeal Cert.KernelIdeal.Gen

variable {F : FTy → Type} [FloatOps F] [Named F]

/-- A step whose words and loads are a phase's is that phase. -/
theorem step_phase {v1 v8 : FVec F S256x256 .bf16} {x1 x2 : Vec F S16384x256 .bf16} {n t : ℕ} {v62 tw : BitVec 32} {kk vv : Vec F S512x256 .bf16}
    {s s' : St F} (h1 : v62 = BitVec.ofNat 32 (n / 2)) (h2 : tw = BitVec.ofNat 32 t) (h3 : kk = rows x1 (jb n (kp n t) * 256))
    (h4 : vv = rows x2 (jb n (vp n t) * 256)) (h5 : s = s') : step v1 v8 v62 tw kk vv s = phase v1 v8 x1 x2 n t s' := by
  subst h1 h2 h3 h4 h5; rfl

theorem phases_succ (v1 v8 : FVec F S256x256 .bf16) (x1 x2 : Vec F S16384x256 .bf16) (n : ℕ) (s : St F) (t : ℕ) :
    phases v1 v8 x1 x2 n s (t + 1) = phase v1 v8 x1 x2 n t (phases v1 v8 x1 x2 n s t) := rfl

variable (𝒱 : Variants) (c : Dev nD) (bd : Option 𝒱.V) (i : grid0.Coords) (arg2 : Memref sig .tc .vmem S256x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S256x256 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x512 .bf16) (harg9 : arg9.IsWhole)
  (arg1 : BitVec 32) (v1 : FVec F S256x256 .bf16) (v8 : FVec F S256x256 .bf16) (v41 : FVec F S256x1 .f32) (v45 : FVec F S256x256 .f32) (v62 v64 v98 v117 c0 v118 c1 : BitVec 32)
  (X3 : BufTy.Contents (Elt F) arg3.view.ty) (X4 : BufTy.Contents (Elt F) arg4.view.ty)
  (acc : FVec F S256x256 .f32 × FVec F S256x1 .f32) (f6 : BufTy.Contents (Elt F) arg6.view.ty) (f7 : BufTy.Contents (Elt F) arg7.view.ty) (f8 : BufTy.Contents (Elt F) arg8.view.ty) (f9 : BufTy.Contents (Elt F) arg9.view.ty)

/-- The steps of a trip are 4 phases. -/
theorem t1_S_eq {k : Fin (k0_t1_loop i).trips} (hv62 : v62 = BitVec.ofNat 32 ((i 1).val / 2)) (acc : FVec F S256x256 .f32 × FVec F S256x1 .f32)
    (f6 : BufTy.Contents (Elt F) arg6.view.ty) (f9 : BufTy.Contents (Elt F) arg9.view.ty) (s : St F)
    (hs : s = (acc.1, acc.2, arg6.view.read (Elt F) f6, arg9.view.read (Elt F) f9)) :
    (t1_S i arg3 arg4 arg6 arg9 v1 v8 v62 0#32 X3 X4 acc f6 f9 k) = (phase v1 v8 (arg3.view.read (Elt F) X3) (arg4.view.read (Elt F) X4) (i 1).val (4 * k.val + 3) (phase v1 v8 (arg3.view.read (Elt F) X3) (arg4.view.read (Elt F) X4) (i 1).val (4 * k.val + 2) (phase v1 v8 (arg3.view.read (Elt F) X3) (arg4.view.read (Elt F) X4) (i 1).val (4 * k.val + 1) (phase v1 v8 (arg3.view.read (Elt F) X3) (arg4.view.read (Elt F) X4) (i 1).val (4 * k.val + 0) s)))) := by
  have h8 : k.val < 8 := by have h1 := lt_of_lt_of_eq k.isLt (t1_trips i); have h2 : (i 1).val < 64 := (i 1).isLt; omega
  subst hs
  unfold t1_S
  exact (step_phase hv62 (tw1_eq ⟨k.val, h8⟩ 3) (readAt_rows arg3 X3 _ (off3_eq i k 3)) (readAt_rows arg4 X4 _ (off4_eq i k 3))
    (step_phase hv62 (tw1_eq ⟨k.val, h8⟩ 2) (readAt_rows arg3 X3 _ (off3_eq i k 2)) (readAt_rows arg4 X4 _ (off4_eq i k 2))
    (step_phase hv62 (tw1_eq ⟨k.val, h8⟩ 1) (readAt_rows arg3 X3 _ (off3_eq i k 1)) (readAt_rows arg4 X4 _ (off4_eq i k 1))
    (step_phase hv62 (tw1_eq ⟨k.val, h8⟩ 0) (readAt_rows arg3 X3 _ (off3_eq i k 0)) (readAt_rows arg4 X4 _ (off4_eq i k 0))
    rfl))))

/-- After `k` trips the loop's state and buffers are those of the phases made so far. -/
theorem t1_run (hv62 : v62 = BitVec.ofNat 32 ((i 1).val / 2))
    (G6 : BufTy.Contents (Elt F) arg6.view.ty) (G7 : BufTy.Contents (Elt F) arg7.view.ty) (G8 : BufTy.Contents (Elt F) arg8.view.ty) (G9 : BufTy.Contents (Elt F) arg9.view.ty)
    (init : FVec F S256x256 .f32 × FVec F S256x1 .f32) (s0 : St F)
    (hs : (init.1, init.2, arg6.view.read (Elt F) G6, arg9.view.read (Elt F) G9) = phases v1 v8 (arg3.view.read (Elt F) X3) (arg4.view.read (Elt F) X4) (i 1).val s0 (0)) :
    ∀ k : ℕ, k ≤ (k0_t1_loop i).trips →
      (st_k0_t1 (F := F) 𝒱 c bd i arg2 harg2 arg3 harg3 arg4 harg4 arg5 harg5 arg6 harg6 arg7 harg7 arg8 harg8 arg9 harg9 arg1 v1 v8 v41 v45 v62 v64 v98 v117 0#32 v118 c1 X3 X4 G6 G7 G8 G9 init k).1 = ((phases v1 v8 (arg3.view.read (Elt F) X3) (arg4.view.read (Elt F) X4) (i 1).val s0 (4 * k)).1, (phases v1 v8 (arg3.view.read (Elt F) X3) (arg4.view.read (Elt F) X4) (i 1).val s0 (4 * k)).2.1)
      ∧ arg6.view.read (Elt F) (arg6.view.writes (Elt F) G6 (st_k0_t1 (F := F) 𝒱 c bd i arg2 harg2 arg3 harg3 arg4 harg4 arg5 harg5 arg6 harg6 arg7 harg7 arg8 harg8 arg9 harg9 arg1 v1 v8 v41 v45 v62 v64 v98 v117 0#32 v118 c1 X3 X4 G6 G7 G8 G9 init k).2.1) = (phases v1 v8 (arg3.view.read (Elt F) X3) (arg4.view.read (Elt F) X4) (i 1).val s0 (4 * k)).2.2.1
      ∧ arg9.view.read (Elt F) (arg9.view.writes (Elt F) G9 (st_k0_t1 (F := F) 𝒱 c bd i arg2 harg2 arg3 harg3 arg4 harg4 arg5 harg5 arg6 harg6 arg7 harg7 arg8 harg8 arg9 harg9 arg1 v1 v8 v41 v45 v62 v64 v98 v117 0#32 v118 c1 X3 X4 G6 G7 G8 G9 init k).2.2.2.2) = (phases v1 v8 (arg3.view.read (Elt F) X3) (arg4.view.read (Elt F) X4) (i 1).val s0 (4 * k)).2.2.2 := by
  intro k
  induction k with
  | zero =>
    intro _
    have h : st_k0_t1 (F := F) 𝒱 c bd i arg2 harg2 arg3 harg3 arg4 harg4 arg5 harg5 arg6 harg6 arg7 harg7 arg8 harg8 arg9 harg9 arg1 v1 v8 v41 v45 v62 v64 v98 v117 0#32 v118 c1 X3 X4 G6 G7 G8 G9 init 0 = (init, [], [], [], []) := rfl
    rw [h]
    refine ⟨?_, ?_, ?_⟩
    · exact congrArg (fun s : St F => (s.1, s.2.1)) hs
    · exact congrArg (fun s : St F => s.2.2.1) hs
    · exact congrArg (fun s : St F => s.2.2.2) hs
  | succ k ih =>
    intro hk
    obtain ⟨h1, h2, h3⟩ := ih (by omega)
    have hS := st_k0_t1_succ (F := F) 𝒱 c bd i arg2 harg2 arg3 harg3 arg4 harg4 arg5 harg5 arg6 harg6 arg7 harg7 arg8 harg8 arg9 harg9 arg1 v1 v8 v41 v45 v62 v64 v98 v117 0#32 v118 c1 X3 X4 G6 G7 G8 G9 init ⟨k, hk⟩
    dsimp only at hS
    rw [hS]
    dsimp only
    rw [View.writes_append, View.writes_append]
    generalize st_k0_t1 (F := F) 𝒱 c bd i arg2 harg2 arg3 harg3 arg4 harg4 arg5 harg5 arg6 harg6 arg7 harg7 arg8 harg8 arg9 harg9 arg1 v1 v8 v41 v45 v62 v64 v98 v117 0#32 v118 c1 X3 X4 G6 G7 G8 G9 init k = q at h1 h2 h3 ⊢
    clear hS ih
    obtain ⟨e1, e2, e3⟩ := t1_trip 𝒱 c bd i arg2 harg2 arg3 harg3 arg4 harg4 arg5 harg5 arg6 harg6 arg7 harg7 arg8 harg8 arg9 harg9 arg1 v1 v8 v41 v45 v62 v64 v98 v117 0#32 v118 c1 X3 X4 q.1 (arg6.view.writes (Elt F) G6 q.2.1) (arg7.view.writes (Elt F) G7 q.2.2.1) (arg8.view.writes (Elt F) G8 q.2.2.2.1) (arg9.view.writes (Elt F) G9 q.2.2.2.2) ⟨k, hk⟩
    rw [e1, e2, e3]
    have hE : phases v1 v8 (arg3.view.read (Elt F) X3) (arg4.view.read (Elt F) X4) (i 1).val s0 (4 * k) = (q.1.1, q.1.2, arg6.view.read (Elt F) (arg6.view.writes (Elt F) G6 q.2.1), arg9.view.read (Elt F) (arg9.view.writes (Elt F) G9 q.2.2.2.2)) :=
      Prod.ext (by rw [h1]) (Prod.ext (by rw [h1]) (Prod.ext h2.symm h3.symm))
    have hP := t1_S_eq i arg3 arg4 arg6 arg9 v1 v8 v62 X3 X4 (k := ⟨k, hk⟩) hv62 q.1 (arg6.view.writes (Elt F) G6 q.2.1) (arg9.view.writes (Elt F) G9 q.2.2.2.2) _ hE
    have hQ : phases v1 v8 (arg3.view.read (Elt F) X3) (arg4.view.read (Elt F) X4) (i 1).val s0 (4 * (k + 1)) = t1_S i arg3 arg4 arg6 arg9 v1 v8 v62 0#32 X3 X4 q.1 (arg6.view.writes (Elt F) G6 q.2.1) (arg9.view.writes (Elt F) G9 q.2.2.2.2) ⟨k, hk⟩ := hP.symm
    rw [hQ]
    exact ⟨rfl, rfl, rfl⟩

/-- The steps of a trip are 2 phases. -/
theorem t3_S_eq {k : Fin (k0_t3_loop i).trips} (hv62 : v62 = BitVec.ofNat 32 ((i 1).val / 2)) (hv98 : v98 = w98 (BitVec.ofNat 32 (i 1).val)) (acc : FVec F S256x256 .f32 × FVec F S256x1 .f32)
    (f6 : BufTy.Contents (Elt F) arg6.view.ty) (f9 : BufTy.Contents (Elt F) arg9.view.ty) (s : St F)
    (hs : s = (acc.1, acc.2, arg6.view.read (Elt F) f6, arg9.view.read (Elt F) f9)) :
    (t3_S i arg3 arg4 arg6 arg9 v1 v8 v62 v98 X3 X4 acc f6 f9 k) = (phase v1 v8 (arg3.view.read (Elt F) X3) (arg4.view.read (Elt F) X4) (i 1).val (dn (i 1).val + 2 * k.val + 1) (phase v1 v8 (arg3.view.read (Elt F) X3) (arg4.view.read (Elt F) X4) (i 1).val (dn (i 1).val + 2 * k.val + 0) s)) := by
  have h8 : k.val < 3 := by have h1 := lt_of_lt_of_eq k.isLt (t3_trips i); have h2 : (i 1).val < 64 := (i 1).isLt; simp only [dn] at h1; omega
  subst hv98; subst hs
  unfold t3_S
  exact (step_phase hv62 (tw3_eq (i 1) ⟨k.val, h8⟩ 1) (readAt_rows arg3 X3 _ (off7_eq i k 1)) (readAt_rows arg4 X4 _ (off8_eq i k 1))
    (step_phase hv62 (tw3_eq (i 1) ⟨k.val, h8⟩ 0) (readAt_rows arg3 X3 _ (off7_eq i k 0)) (readAt_rows arg4 X4 _ (off8_eq i k 0))
    rfl))

/-- After `k` trips the loop's state and buffers are those of the phases made so far. -/
theorem t3_run (hv62 : v62 = BitVec.ofNat 32 ((i 1).val / 2)) (hv98 : v98 = w98 (BitVec.ofNat 32 (i 1).val))
    (G6 : BufTy.Contents (Elt F) arg6.view.ty) (G7 : BufTy.Contents (Elt F) arg7.view.ty) (G8 : BufTy.Contents (Elt F) arg8.view.ty) (G9 : BufTy.Contents (Elt F) arg9.view.ty)
    (init : FVec F S256x256 .f32 × FVec F S256x1 .f32) (s0 : St F)
    (hs : (init.1, init.2, arg6.view.read (Elt F) G6, arg9.view.read (Elt F) G9) = phases v1 v8 (arg3.view.read (Elt F) X3) (arg4.view.read (Elt F) X4) (i 1).val s0 (dn (i 1).val)) :
    ∀ k : ℕ, k ≤ (k0_t3_loop i).trips →
      (st_k0_t3 (F := F) 𝒱 c bd i arg2 harg2 arg3 harg3 arg4 harg4 arg5 harg5 arg6 harg6 arg7 harg7 arg8 harg8 arg9 harg9 arg1 v1 v8 v41 v45 v62 v64 v98 v117 0#32 v118 c1 X3 X4 G6 G7 G8 G9 init k).1 = ((phases v1 v8 (arg3.view.read (Elt F) X3) (arg4.view.read (Elt F) X4) (i 1).val s0 (dn (i 1).val + 2 * k)).1, (phases v1 v8 (arg3.view.read (Elt F) X3) (arg4.view.read (Elt F) X4) (i 1).val s0 (dn (i 1).val + 2 * k)).2.1)
      ∧ arg6.view.read (Elt F) (arg6.view.writes (Elt F) G6 (st_k0_t3 (F := F) 𝒱 c bd i arg2 harg2 arg3 harg3 arg4 harg4 arg5 harg5 arg6 harg6 arg7 harg7 arg8 harg8 arg9 harg9 arg1 v1 v8 v41 v45 v62 v64 v98 v117 0#32 v118 c1 X3 X4 G6 G7 G8 G9 init k).2.1) = (phases v1 v8 (arg3.view.read (Elt F) X3) (arg4.view.read (Elt F) X4) (i 1).val s0 (dn (i 1).val + 2 * k)).2.2.1
      ∧ arg9.view.read (Elt F) (arg9.view.writes (Elt F) G9 (st_k0_t3 (F := F) 𝒱 c bd i arg2 harg2 arg3 harg3 arg4 harg4 arg5 harg5 arg6 harg6 arg7 harg7 arg8 harg8 arg9 harg9 arg1 v1 v8 v41 v45 v62 v64 v98 v117 0#32 v118 c1 X3 X4 G6 G7 G8 G9 init k).2.2.2.2) = (phases v1 v8 (arg3.view.read (Elt F) X3) (arg4.view.read (Elt F) X4) (i 1).val s0 (dn (i 1).val + 2 * k)).2.2.2 := by
  intro k
  induction k with
  | zero =>
    intro _
    have h : st_k0_t3 (F := F) 𝒱 c bd i arg2 harg2 arg3 harg3 arg4 harg4 arg5 harg5 arg6 harg6 arg7 harg7 arg8 harg8 arg9 harg9 arg1 v1 v8 v41 v45 v62 v64 v98 v117 0#32 v118 c1 X3 X4 G6 G7 G8 G9 init 0 = (init, [], [], [], []) := rfl
    rw [h]
    refine ⟨?_, ?_, ?_⟩
    · exact congrArg (fun s : St F => (s.1, s.2.1)) hs
    · exact congrArg (fun s : St F => s.2.2.1) hs
    · exact congrArg (fun s : St F => s.2.2.2) hs
  | succ k ih =>
    intro hk
    obtain ⟨h1, h2, h3⟩ := ih (by omega)
    have hS := st_k0_t3_succ (F := F) 𝒱 c bd i arg2 harg2 arg3 harg3 arg4 harg4 arg5 harg5 arg6 harg6 arg7 harg7 arg8 harg8 arg9 harg9 arg1 v1 v8 v41 v45 v62 v64 v98 v117 0#32 v118 c1 X3 X4 G6 G7 G8 G9 init ⟨k, hk⟩
    dsimp only at hS
    rw [hS]
    dsimp only
    rw [View.writes_append, View.writes_append]
    generalize st_k0_t3 (F := F) 𝒱 c bd i arg2 harg2 arg3 harg3 arg4 harg4 arg5 harg5 arg6 harg6 arg7 harg7 arg8 harg8 arg9 harg9 arg1 v1 v8 v41 v45 v62 v64 v98 v117 0#32 v118 c1 X3 X4 G6 G7 G8 G9 init k = q at h1 h2 h3 ⊢
    clear hS ih
    obtain ⟨e1, e2, e3⟩ := t3_trip 𝒱 c bd i arg2 harg2 arg3 harg3 arg4 harg4 arg5 harg5 arg6 harg6 arg7 harg7 arg8 harg8 arg9 harg9 arg1 v1 v8 v41 v45 v62 v64 v98 v117 0#32 v118 c1 X3 X4 q.1 (arg6.view.writes (Elt F) G6 q.2.1) (arg7.view.writes (Elt F) G7 q.2.2.1) (arg8.view.writes (Elt F) G8 q.2.2.2.1) (arg9.view.writes (Elt F) G9 q.2.2.2.2) ⟨k, hk⟩
    rw [e1, e2, e3]
    have hE : phases v1 v8 (arg3.view.read (Elt F) X3) (arg4.view.read (Elt F) X4) (i 1).val s0 (dn (i 1).val + 2 * k) = (q.1.1, q.1.2, arg6.view.read (Elt F) (arg6.view.writes (Elt F) G6 q.2.1), arg9.view.read (Elt F) (arg9.view.writes (Elt F) G9 q.2.2.2.2)) :=
      Prod.ext (by rw [h1]) (Prod.ext (by rw [h1]) (Prod.ext h2.symm h3.symm))
    have hP := t3_S_eq i arg3 arg4 arg6 arg9 v1 v8 v62 v98 X3 X4 (k := ⟨k, hk⟩) hv62 hv98 q.1 (arg6.view.writes (Elt F) G6 q.2.1) (arg9.view.writes (Elt F) G9 q.2.2.2.2) _ hE
    have hQ : phases v1 v8 (arg3.view.read (Elt F) X3) (arg4.view.read (Elt F) X4) (i 1).val s0 (dn (i 1).val + 2 * (k + 1)) = t3_S i arg3 arg4 arg6 arg9 v1 v8 v62 v98 X3 X4 q.1 (arg6.view.writes (Elt F) G6 q.2.1) (arg9.view.writes (Elt F) G9 q.2.2.2.2) ⟨k, hk⟩ := hP.symm
    rw [hQ]
    exact ⟨rfl, rfl, rfl⟩

end Cert.SB
end
-- ==== Proof.SB.Chain.lean ====
module
public import proofs.«01_k».proof.Proof.SB.Sweep

/-!
The whole run of the stick-breaking kernel's body at one grid point: the diagonal block, the phases, the last
weighted pair and the block left over, as one function of the three blocks the body reads.
-/

@[expose] public section
set_option maxRecDepth 16384
noncomputable section
namespace Cert.SB
open Idealize.ShloMosaic Idealize.ShloMosaic.TcCoe Cert.KernelIdeal Cert.KernelIdeal.Gen

variable {F : FTy → Type} [FloatOps F] [Named F]

/-- The state before the first phase: the diagonal block's sums, the first pair's scores, no weights. -/
def start (x0 : Vec F S256x256 .bf16) (x1 x2 : Vec F S16384x256 .bf16) (n : ℕ) : St F :=
  (k0_pay153 (k0_pay151 x0 (rows1 x1 (n * 256))) (rows1 x2 (n * 256)), k0_pay152 x0 (rows1 x1 (n * 256)),
    k0_pay154 (k0_pay146 x0) (rows x1 (jb n 0 * 256)), k0_pay156 k0_pay155)

/-- The sums after the last pair's weights have met their values. -/
def tail (v1 v8 : FVec F S256x256 .bf16) (x1 x2 : Vec F S16384x256 .bf16) (n : ℕ) (s : St F) : FVec F S256x256 .f32 × FVec F S256x1 .f32 :=
  (k0_pay171 s.1 s.2.2.2 (rows x2 (jb n (vp n (ph n)) * 256)), s.2.1)

/-- The block left over when the number of key blocks is odd. -/
def odd (v1 v8 : FVec F S256x256 .bf16) (x1 x2 : Vec F S16384x256 .bf16) (n : ℕ) (a : FVec F S256x256 .f32 × FVec F S256x1 .f32) : FVec F S256x256 .f32 :=
  if n % 2 = 1 then k0_pay174 v1 v8 a.1 a.2 (rows1 x1 0) (rows1 x2 0) else a.1

/-- The block the body writes at row block `n`, of the queries' block `x0`, the keys `x1` and the values `x2`. -/
def outBlock (n : ℕ) (x0 : Vec F S256x256 .bf16) (x1 x2 : Vec F S16384x256 .bf16) : Vec F S256x256 .bf16 :=
  k0_pay1 (odd (k0_pay146 x0) k0_pay147 x1 x2 n
    (tail (k0_pay146 x0) k0_pay147 x1 x2 n (phases (k0_pay146 x0) k0_pay147 x1 x2 n (start x0 x1 x2 n) (ph n))))

variable (𝒱 : Variants) (c : Dev nD) (bd : Option 𝒱.V) (i : grid0.Coords) (arg2 : Memref sig .tc .vmem S256x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S256x256 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x512 .bf16) (harg9 : arg9.IsWhole)
  (arg1 : BitVec 32) (v1 : FVec F S256x256 .bf16) (v8 : FVec F S256x256 .bf16) (v41 : FVec F S256x1 .f32) (v45 : FVec F S256x256 .f32) (v62 v64 v98 v117 c0 v118 c1 : BitVec 32)
  (X3 : BufTy.Contents (Elt F) arg3.view.ty) (X4 : BufTy.Contents (Elt F) arg4.view.ty)
  (acc : FVec F S256x256 .f32 × FVec F S256x1 .f32) (f6 : BufTy.Contents (Elt F) arg6.view.ty) (f7 : BufTy.Contents (Elt F) arg7.view.ty) (f8 : BufTy.Contents (Elt F) arg8.view.ty) (f9 : BufTy.Contents (Elt F) arg9.view.ty)

/-- The leftover loop makes one trip when the number of key blocks is odd, none when it is even. -/
theorem t5_run (init : FVec F S256x256 .f32 × FVec F S256x1 .f32) :
    (st_k0_t5 (F := F) 𝒱 c bd i arg2 harg2 arg3 harg3 arg4 harg4 arg5 harg5 arg6 harg6 arg7 harg7 arg8 harg8 arg9 harg9 arg1 v1 v8 v41 v45 v62 v64 v98 v117 0#32 v118 c1 X3 X4 init (k0_t5_loop i).trips).1 = odd v1 v8 (arg3.view.read (Elt F) X3) (arg4.view.read (Elt F) X4) (i 1).val init := by
  unfold odd
  rcases Nat.mod_two_eq_zero_or_one (i 1).val with h | h
  · rw [if_neg (by omega), show (k0_t5_loop i).trips = 0 from (t5_trips i).trans (by omega)]
    rfl
  · rw [if_pos h, show (k0_t5_loop i).trips = 1 from (t5_trips i).trans (by omega)]
    have hS := st_k0_t5_succ (F := F) 𝒱 c bd i arg2 harg2 arg3 harg3 arg4 harg4 arg5 harg5 arg6 harg6 arg7 harg7 arg8 harg8 arg9 harg9 arg1 v1 v8 v41 v45 v62 v64 v98 v117 0#32 v118 c1 X3 X4 init ⟨0, by rw [t5_trips]; omega⟩
    dsimp only at hS
    rw [show (1 : ℕ) = 0 + 1 from rfl, hS, st_k0_t5_zero]
    unfold tripR_k0_t5 trip_k0_t5
    dsimp only
    exact congrArg₂ (k0_pay174 v1 v8 init.1 init.2) (readAt_rows1 arg3 X3 _ rfl) (readAt_rows1 arg4 X4 _ rfl)

/-- The four pair loops in a row leave the phases' sums and, in the weights' buffer, the last pair's weights. -/
theorem chain (hv62 : v62 = BitVec.ofNat 32 ((i 1).val / 2)) (hv98 : v98 = w98 (BitVec.ofNat 32 (i 1).val)) (v122 v129 : BitVec 32)
    (L6 : List (View.Piece (Elt F) S256x512 .f32)) (L9 : List (View.Piece (Elt F) S256x512 .bf16))
    (J6 : BufTy.Contents (Elt F) arg6.view.ty) (J9 : BufTy.Contents (Elt F) arg9.view.ty)
    (f7 g7 h7 k7 : BufTy.Contents (Elt F) arg7.view.ty) (f8 g8 h8 k8 : BufTy.Contents (Elt F) arg8.view.ty)
    (init : FVec F S256x256 .f32 × FVec F S256x1 .f32) (s0 : St F)
    (hs : s0 = (init.1, init.2, arg6.view.read (Elt F) (arg6.view.writes (Elt F) J6 L6), arg9.view.read (Elt F) (arg9.view.writes (Elt F) J9 L9)))
    (q1 q2 q3 q4 : (FVec F S256x256 .f32 × FVec F S256x1 .f32) × List (View.Piece (Elt F) S256x512 .f32) × List (View.Piece (Elt F) S256x512 .f32) × List (View.Piece (Elt F) S256x512 .bf16) × List (View.Piece (Elt F) S256x512 .bf16))
    (h1 : q1 = st_k0_t1 (F := F) 𝒱 c bd i arg2 harg2 arg3 harg3 arg4 harg4 arg5 harg5 arg6 harg6 arg7 harg7 arg8 harg8 arg9 harg9 arg1 v1 v8 v41 v45 v62 v64 v98 v117 0#32 v118 c1 X3 X4 (arg6.view.writes (Elt F) J6 L6) f7 f8 (arg9.view.writes (Elt F) J9 L9) init (k0_t1_loop i).trips)
    (h2 : q2 = st_k0_t2 (F := F) 𝒱 c bd i arg2 harg2 arg3 harg3 arg4 harg4 arg5 harg5 arg6 harg6 arg7 harg7 arg8 harg8 arg9 harg9 arg1 v1 v8 v41 v45 v62 v64 v98 v117 0#32 v118 c1 v122 X3 X4 (arg6.view.writes (Elt F) J6 (q1.2.1 ++ L6)) g7 g8 (arg9.view.writes (Elt F) J9 (q1.2.2.2.2 ++ L9)) (q1.1.1, q1.1.2) (k0_t2_loop i).trips)
    (h3 : q3 = st_k0_t3 (F := F) 𝒱 c bd i arg2 harg2 arg3 harg3 arg4 harg4 arg5 harg5 arg6 harg6 arg7 harg7 arg8 harg8 arg9 harg9 arg1 v1 v8 v41 v45 v62 v64 v98 v117 0#32 v118 c1 X3 X4 (arg6.view.writes (Elt F) J6 (q2.2.1 ++ (q1.2.1 ++ L6))) h7 h8 (arg9.view.writes (Elt F) J9 (q2.2.2.2.2 ++ (q1.2.2.2.2 ++ L9))) (q2.1.1, q2.1.2) (k0_t3_loop i).trips)
    (h4 : q4 = st_k0_t4 (F := F) 𝒱 c bd i arg2 harg2 arg3 harg3 arg4 harg4 arg5 harg5 arg6 harg6 arg7 harg7 arg8 harg8 arg9 harg9 arg1 v1 v8 v41 v45 v62 v64 v98 v117 0#32 v118 c1 v129 X3 X4 (arg6.view.writes (Elt F) J6 (q3.2.1 ++ (q2.2.1 ++ (q1.2.1 ++ L6)))) k7 k8 (arg9.view.writes (Elt F) J9 (q3.2.2.2.2 ++ (q2.2.2.2.2 ++ (q1.2.2.2.2 ++ L9)))) (q3.1.1, q3.1.2) (k0_t4_loop i).trips) :
    q4.1 = ((phases v1 v8 (arg3.view.read (Elt F) X3) (arg4.view.read (Elt F) X4) (i 1).val s0 (ph (i 1).val)).1, (phases v1 v8 (arg3.view.read (Elt F) X3) (arg4.view.read (Elt F) X4) (i 1).val s0 (ph (i 1).val)).2.1)
    ∧ arg9.view.read (Elt F) (arg9.view.writes (Elt F) J9 (q4.2.2.2.2 ++ (q3.2.2.2.2 ++ (q2.2.2.2.2 ++ (q1.2.2.2.2 ++ L9))))) = (phases v1 v8 (arg3.view.read (Elt F) X3) (arg4.view.read (Elt F) X4) (i 1).val s0 (ph (i 1).val)).2.2.2 := by
  obtain ⟨a1, a2, a3⟩ := t1_run 𝒱 c bd i arg2 harg2 arg3 harg3 arg4 harg4 arg5 harg5 arg6 harg6 arg7 harg7 arg8 harg8 arg9 harg9 arg1 v1 v8 v41 v45 v62 v64 v98 v117 v118 c1 X3 X4 hv62 (arg6.view.writes (Elt F) J6 L6) f7 f8 (arg9.view.writes (Elt F) J9 L9) init s0 hs.symm _ le_rfl
  rw [← h1] at a1 a2 a3
  rw [show (k0_t1_loop i).trips = (i 1).val / 2 / 4 from t1_trips i] at a1 a2 a3
  clear h1
  rw [show (k0_t2_loop i).trips = 0 from t2_trips i] at h2
  replace h2 : q2 = ((q1.1.1, q1.1.2), [], [], [], []) := h2
  subst h2
  dsimp only [List.nil_append] at h3 h4 ⊢
  obtain ⟨b1, b2, b3⟩ := t3_run 𝒱 c bd i arg2 harg2 arg3 harg3 arg4 harg4 arg5 harg5 arg6 harg6 arg7 harg7 arg8 harg8 arg9 harg9 arg1 v1 v8 v41 v45 v62 v64 v98 v117 v118 c1 X3 X4 hv62 hv98 (arg6.view.writes (Elt F) J6 (q1.2.1 ++ L6)) h7 h8 (arg9.view.writes (Elt F) J9 (q1.2.2.2.2 ++ L9)) (q1.1.1, q1.1.2) s0
    (Prod.ext (by have h := congrArg Prod.fst a1; exact h) (Prod.ext (by have h := congrArg Prod.snd a1; exact h) (Prod.ext
      ((congrArg (arg6.view.read (Elt F)) (View.writes_append ..)).trans a2) ((congrArg (arg9.view.read (Elt F)) (View.writes_append ..)).trans a3)))) _ le_rfl
  rw [← h3] at b1 b2 b3
  rw [show (k0_t3_loop i).trips = ((i 1).val / 2 - dn (i 1).val + 1) / 2 from t3_trips i] at b1 b2 b3
  clear h3
  rw [show (k0_t4_loop i).trips = 0 from t4_trips i] at h4
  replace h4 : q4 = ((q3.1.1, q3.1.2), [], [], [], []) := h4
  subst h4
  dsimp only [List.nil_append]
  refine ⟨b1, ?_⟩
  rw [View.writes_append]
  exact b3

/-- The value the body stores is the model's block. -/
theorem final (x0 : Vec F S256x256 .bf16) (hv1 : v1 = k0_pay146 x0) (hv8 : v8 = k0_pay147) (hv62 : v62 = BitVec.ofNat 32 ((i 1).val / 2)) (hv98 : v98 = w98 (BitVec.ofNat 32 (i 1).val)) (v122 v129 : BitVec 32)
    (L6 : List (View.Piece (Elt F) S256x512 .f32)) (L9 : List (View.Piece (Elt F) S256x512 .bf16))
    (f7 g7 h7 k7 : BufTy.Contents (Elt F) arg7.view.ty) (f8 g8 h8 k8 : BufTy.Contents (Elt F) arg8.view.ty)
    (init : FVec F S256x256 .f32 × FVec F S256x1 .f32)
    (hs : (init.1, init.2, arg6.view.read (Elt F) (arg6.view.writes (Elt F) arg6.view.junk L6), arg9.view.read (Elt F) (arg9.view.writes (Elt F) arg9.view.junk L9)) = start x0 (arg3.view.read (Elt F) X3) (arg4.view.read (Elt F) X4) (i 1).val)
    (q1 q2 q3 q4 : (FVec F S256x256 .f32 × FVec F S256x1 .f32) × List (View.Piece (Elt F) S256x512 .f32) × List (View.Piece (Elt F) S256x512 .f32) × List (View.Piece (Elt F) S256x512 .bf16) × List (View.Piece (Elt F) S256x512 .bf16))
    (h1 : q1 = st_k0_t1 (F := F) 𝒱 c bd i arg2 harg2 arg3 harg3 arg4 harg4 arg5 harg5 arg6 harg6 arg7 harg7 arg8 harg8 arg9 harg9 arg1 v1 v8 v41 v45 v62 v64 v98 v117 0#32 v118 c1 X3 X4 (arg6.view.writes (Elt F) arg6.view.junk L6) f7 f8 (arg9.view.writes (Elt F) arg9.view.junk L9) init (k0_t1_loop i).trips)
    (h2 : q2 = st_k0_t2 (F := F) 𝒱 c bd i arg2 harg2 arg3 harg3 arg4 harg4 arg5 harg5 arg6 harg6 arg7 harg7 arg8 harg8 arg9 harg9 arg1 v1 v8 v41 v45 v62 v64 v98 v117 0#32 v118 c1 v122 X3 X4 (arg6.view.writes (Elt F) arg6.view.junk (q1.2.1 ++ L6)) g7 g8 (arg9.view.writes (Elt F) arg9.view.junk (q1.2.2.2.2 ++ L9)) (q1.1.1, q1.1.2) (k0_t2_loop i).trips)
    (h3 : q3 = st_k0_t3 (F := F) 𝒱 c bd i arg2 harg2 arg3 harg3 arg4 harg4 arg5 harg5 arg6 harg6 arg7 harg7 arg8 harg8 arg9 harg9 arg1 v1 v8 v41 v45 v62 v64 v98 v117 0#32 v118 c1 X3 X4 (arg6.view.writes (Elt F) arg6.view.junk (q2.2.1 ++ (q1.2.1 ++ L6))) h7 h8 (arg9.view.writes (Elt F) arg9.view.junk (q2.2.2.2.2 ++ (q1.2.2.2.2 ++ L9))) (q2.1.1, q2.1.2) (k0_t3_loop i).trips)
    (h4 : q4 = st_k0_t4 (F := F) 𝒱 c bd i arg2 harg2 arg3 harg3 arg4 harg4 arg5 harg5 arg6 harg6 arg7 harg7 arg8 harg8 arg9 harg9 arg1 v1 v8 v41 v45 v62 v64 v98 v117 0#32 v118 c1 v129 X3 X4 (arg6.view.writes (Elt F) arg6.view.junk (q3.2.1 ++ (q2.2.1 ++ (q1.2.1 ++ L6)))) k7 k8 (arg9.view.writes (Elt F) arg9.view.junk (q3.2.2.2.2 ++ (q2.2.2.2.2 ++ (q1.2.2.2.2 ++ L9)))) (q3.1.1, q3.1.2) (k0_t4_loop i).trips)
    (inb : ∀ a, (![0, 0] : Fin 2 → ℕ) a + S256x512.size a ≤ S256x512.size a) (inb' : ∀ a, k0_off11 i a + S512x256.size a ≤ S16384x256.size a) :
    k0_pay1 (st_k0_t6 (F := F) 𝒱 c bd i arg2 harg2 arg3 harg3 arg4 harg4 arg5 harg5 arg6 harg6 arg7 harg7 arg8 harg8 arg9 harg9 arg1 v1 v8 v41 v45 v62 v64 v98 v117 0#32 v118 c1 X3 X4 (st_k0_t5 (F := F) 𝒱 c bd i arg2 harg2 arg3 harg3 arg4 harg4 arg5 harg5 arg6 harg6 arg7 harg7 arg8 harg8 arg9 harg9 arg1 v1 v8 v41 v45 v62 v64 v98 v117 0#32 v118 c1 X3 X4
      (k0_pay171 q4.1.1 (arg9.view.readCov (q4.2.2.2.2 ++ (q3.2.2.2.2 ++ (q2.2.2.2.2 ++ (q1.2.2.2.2 ++ L9)))) (Rect.unit (s := S256x512) ![0, 0] S256x512.size inb).toLoadRect)
        (arg4.view.readAt (Elt F) (Rect.unit (s := S16384x256) (k0_off11 i) S512x256.size inb').toLoadRect X4), q4.1.2) (k0_t5_loop i).trips) (k0_t6_loop i).trips).1
      = outBlock (i 1).val x0 (arg3.view.read (Elt F) X3) (arg4.view.read (Elt F) X4) := by
  obtain ⟨a, b⟩ := chain 𝒱 c bd i arg2 harg2 arg3 harg3 arg4 harg4 arg5 harg5 arg6 harg6 arg7 harg7 arg8 harg8 arg9 harg9 arg1 v1 v8 v41 v45 v62 v64 v98 v117 v118 c1 X3 X4 hv62 hv98 v122 v129 L6 L9 arg6.view.junk arg9.view.junk f7 g7 h7 k7 f8 g8 h8 k8 init _ hs.symm q1 q2 q3 q4 h1 h2 h3 h4
  rw [show (k0_t6_loop i).trips = 0 from t6_trips i]
  refine congrArg k0_pay1 ((t5_run 𝒱 c bd i arg2 harg2 arg3 harg3 arg4 harg4 arg5 harg5 arg6 harg6 arg7 harg7 arg8 harg8 arg9 harg9 arg1 v1 v8 v41 v45 v62 v64 v98 v117 v118 c1 X3 X4 _).trans ?_)
  subst hv1 hv8
  refine congrArg (odd (k0_pay146 x0) k0_pay147 (arg3.view.read (Elt F) X3) (arg4.view.read (Elt F) X4) (i 1).val) (Prod.ext ?_ (by have h := congrArg Prod.snd a; exact h))
  have hb := (readAt_scr arg9 (arg9.view.writes (Elt F) arg9.view.junk (q4.2.2.2.2 ++ (q3.2.2.2.2 ++ (q2.2.2.2.2 ++ (q1.2.2.2.2 ++ L9))))) inb).trans b
  have e1 := congrArg Prod.fst a
  unfold tail
  dsimp only at e1 ⊢
  rw [e1, readAt_rows arg4 X4 _ (off11_eq i)]
  exact congrArg (fun w => k0_pay171 _ w _) hb

end Cert.SB
end
-- ==== Proof.SB.Body.lean ====
module

public import proofs.«01_k».proof.Proof.SB.Chain
public import proofs.«01_k».proof.Proof.Gen.KernelIdeal.Frame.Runs

/-!
The stick-breaking body run at any grid point and any buffers.
-/

@[expose] public section

-- membership in a rectangle of production extents (`View.cover_of_tiled`): the elaborator's structural look
-- recurses once per coordinate of the long axes
set_option maxRecDepth 16384

noncomputable section

namespace Cert.SB

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run: the three blocks it reads come back, the block it writes is the model's, the scratch buffers hold something. -/
theorem body (c : Dev nD) (i : grid0.Coords) (arg2 : Memref sig .tc .vmem S256x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S256x256 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x512 .bf16) (harg9 : arg9.IsWhole)
    (x0 : Vec F S256x256 .bf16) (x1 : Vec F S16384x256 .bf16) (x2 : Vec F S16384x256 .bf16) :
    ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare (outBlock (i 1).val x0 x1 x2) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_stickbreak i arg2 harg2 arg3 harg3 arg4 harg4 arg5 harg5 arg6 harg6 arg7 harg7 arg8 harg8 arg9 harg9) K := by
  intro E K
  simp only [cc0_stickbreak_eq_skeleton]; unfold cc0_stickbreak_skel
  simp only [k0_part25_eq_skeleton, k0_part26_eq_skeleton, k0_part27_eq_skeleton, k0_part28_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _
    isplitr; swap; · iexact H3
    ipureintro; dsimp only
    refine (View.read_writes_full ..).trans ?_
    unfold body.sl.r_5 body.sl.v132
    have e3 : arg3.view.read (Elt F) (harg3.unread x1) = x1 := harg3.read_unread x1
    have e4 : arg4.view.read (Elt F) (harg4.unread x2) = x2 := harg4.read_unread x2
    have e2 : arg2.view.readAt (Elt F) (Rect.unit (s := S256x256) ![0, 0] S256x256.size inb_S256x256_S256x256_0_0).toLoadRect (harg2.unread x0) = x0 :=
      (View.readAt_full ..).trans (harg2.read_unread x0)
    refine (final Variants.none c none i arg2 harg2 arg3 harg3 arg4 harg4 arg5 harg5 arg6 harg6 arg7 harg7 arg8 harg8 arg9 harg9 _ _ _ _ _ _ _ _ _ _ _ (harg3.unread x1) (harg4.unread x2)
      x0 ?_ rfl (w62_eq (i 1)) rfl _ _ _ _ _ _ _ _ _ _ _ _ _ ?_ _ _ _ _ rfl rfl rfl rfl _ _).trans ?_
    · exact congrArg k0_pay146 e2
    · unfold start body.sl.r_3 body.sl.r_2 body.sl.r_1 body.sl.HS0_1 body.sl.HS3_1 body.sl.r
      rw [e2, readAt_rows1 arg3 (harg3.unread x1) _ (off1_eq i), readAt_rows1 arg4 (harg4.unread x2) _ (off1_eq i), readAt_rows arg3 (harg3.unread x1) _ (off2_eq i)]
      exact Prod.ext rfl (Prod.ext rfl (Prod.ext (View.read_writes_full ..) (View.read_writes_full ..)))
    · rw [e3, e4]
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.SB
end
-- ==== Proof.SB.Frame.lean ====
module

public import proofs.«01_k».proof.Proof.SB.Body
public import Idealize.ShloMosaic.Lib.Claim

/-!
The launch of the stick-breaking kernel: every grid point's body writes the model's block, the arguments end unchanged.
-/

@[expose] public section

set_option maxRecDepth 16384

noncomputable section

namespace Cert.SB

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- What the output's buffer holds after the body at point `t`: the model's block of the point's input blocks. -/
def outsAt0 (c : Dev nD) (t : Fin cfg0.N) : Vec F S256x256 .bf16 :=
  outBlock (grid0.coords t 1).val (iblk m c 0 t) (iblk m c 1 t) (iblk m c 2 t)

/-! ## The pipeline's proof data -/

/-- The pipeline's proof data: the arrays as the launch finds them, each input's buffer at its block, the output's at the model's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q w := Pipeline.shareOf spec0 w
  owed _ := 0

/-- The proof data's arrays are the contents at the launch. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body gets at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What the body gives back at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point, from its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  iintro ⟨⟨⟨HS0, HS1, HS2, HS3⟩, Hg⟩, Ho, ⟨%d0, H0⟩, ⟨%d1, H1⟩, ⟨%d2, H2⟩, ⟨%d3, H3⟩⟩
  iapply (body c (grid0.coords t) _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  iexact H3

/-- The launch's body at point `t` is the body at the point's buffers. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array ends at what the proof data say, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument ends unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame: the argument ends unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.SB

end
-- ==== Proof.SB.K.Runs.lean ====
/- The kernel at words: the launch set-up and what its runs share. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.SBK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`. -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3] (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (V_main_arg0 m c)) h

/-! ## The kernel body on any staging memrefs: a subtype the run finds -/

/-- Each window's current staging memref at point `t`, spelled as the pipeline passes it (`bodyAt0`), and its wholeness. -/
abbrev ms0_0 (t : Fin cfg0.N) : Memref sig .tc .vmem S256x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16384x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S256x512 .f32 := Memref.whole cc0_scratch0
abbrev scM0_1 : Memref sig .tc .vmem S256x512 .f32 := Memref.whole cc0_scratch1
abbrev scM0_2 : Memref sig .tc .vmem S256x512 .bf16 := Memref.whole cc0_scratch2
abbrev scM0_3 : Memref sig .tc .vmem S256x512 .bf16 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.SBK

end
-- ==== Proof.SB.K.RunA.lean ====
/- The kernel at words: its body run once, at any contents of the scratch and the result's block. -/
module

public import proofs.«01_k».proof.Proof.SB.K.Runs

@[expose] public section

set_option maxRecDepth 16384

noncomputable section

namespace Cert.SBK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple: on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S256x256 .bf16) (harg2 : arg2.IsWhole) (arg3 : Memref sig .tc .vmem S16384x256 .bf16) (harg3 : arg3.IsWhole) (arg4 : Memref sig .tc .vmem S16384x256 .bf16) (harg4 : arg4.IsWhole) (arg5 : Memref sig .tc .vmem S256x256 .bf16) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .bf16) (harg8 : arg8.IsWhole) (arg9 : Memref sig .tc .vmem S256x512 .bf16) (harg9 : arg9.IsWhole)
    (x0 : Vec F S256x256 .bf16) (x1 : Vec F S16384x256 .bf16) (x2 : Vec F S16384x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_stickbreak i arg2 harg2 arg3 harg3 arg4 harg4 arg5 harg5 arg6 harg6 arg7 harg7 arg8 harg8 arg9 harg9) K := by
    intro E K
    simp only [cc0_stickbreak_eq_skeleton]; unfold cc0_stickbreak_skel
    simp only [k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.SBK

end
-- ==== Proof.SB.K.Frame.lean ====
/- The kernel at words: its frame. -/
module

public import proofs.«01_k».proof.Proof.SB.K.RunA
public import Idealize.ShloMosaic.Lib.Claim

@[expose] public section

set_option maxRecDepth 16384

noncomputable section

namespace Cert.SBK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows left unnamed (3): nothing reads what the kernel leaves in them, so nothing
    of it is named (Lib/Pipeline/Dat.lean `Dat.toRForget`). -/
def forgets0 : Fin 4 → Bool := fun w => w.val == 3

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩⟩
  iapply ((kernelRun0_A c (grid0.coords t) _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 3) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (fun c => (dats m 0 c).toRForget forgets0) (A_eq m) (run_main m ρ)

/-- The frame at any floats: the kernel runs, its argument ends unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.SBK

end
-- ==== Proof.SB.Claims.lean ====
/- The frames of the three programs and what the idealization preserves. -/
module

public import proofs.«01_k».proof.Defs
public import proofs.«01_k».proof.Proof.SB.Frame
public import proofs.«01_k».proof.Proof.SB.K.Frame
public import proofs.«01_k».proof.Proof.Gen.ReferenceIdeal.Run
public import Idealize.ShloMosaic.Adequacy
public import Idealize.ShloMosaic.Init

@[expose] public section

noncomputable section

namespace Cert.SB

open Idealize.ShloMosaic Idealize.SL.Sem

/-- The kernel's frame at `Bits`: it runs, its argument ends unchanged, and every semaphore counter ends at zero. -/
theorem frame_kernel : Cert.quiescent_Kernel (hKernel := Cert.Kernel.Gen.facts) := fun m ρ _ => Cert.SBK.frame m ρ

/-- The frame of the kernel over the reals. -/
theorem frame_kernelIdeal : Cert.quiescent_KernelIdeal (hKernelIdeal := Cert.KernelIdeal.Gen.facts) := fun m ρ _ => frame m ρ

/-- The frame of the reference over the reals: it declares no semaphore, so every counter is where it began. -/
theorem frame_referenceIdeal : Cert.quiescent_ReferenceIdeal (hReferenceIdeal := Cert.ReferenceIdeal.Gen.facts) := fun m ρ _ =>
  (θ_run _ _ _).mono (fun r h => ⟨fun c => (h c).2, Idealize.ShloMosaic.sem_eq_zero_of_no_sems (by decide) r.2⟩) (Cert.ReferenceIdeal.Value.run m ρ)

/-- The two named constants are of the values their names say: `log2e` the inverse of `log 2`, `mask` the bottom. -/
theorem preserves : Cert.preserves_Kernel_KernelIdeal :=
  ⟨IdealRules.named_const.statement Cert.KernelIdeal.κ "log2e" .f32 0x3FB8AA3B#32 _ rfl,
    IdealRules.named_const.statement Cert.KernelIdeal.κ "mask" .f32 0xF149F2CA#32 _ rfl⟩

end Cert.SB

end
-- ==== Proof.SB.Sums.lean ====
/- Sums over ranges of keys, over the extended reals: what a row of the stick-breaking attention adds up. -/
module

public import Idealize.ShloMosaic.Lib.Pointwise
public import Idealize.ShloMosaic.Lib.WordCmp

@[expose] public section

noncomputable section

namespace Cert.SB

open Idealize.ShloMosaic

/-- The kernel's logarithm, in base two, of one less the sigmoid of a score given in base two. -/
def lk2 (z : EReal) : EReal := min (0 - z) 0 - Ideal.log (1 + Ideal.exp2 (min z (0 - z))) * (((Real.log 2)⁻¹ : ℝ) : EReal)

/-- The sum of `g` over the keys from `a` up to `t`. -/
def between (g : ℕ → EReal) (a t : ℕ) : EReal := ∑ j ∈ Finset.Ico a t, g j

/-- The weight of key `s` for query `t`, of the scores `f`. -/
def weight (f : ℕ → EReal) (t s : ℕ) : EReal := Ideal.exp2 (f s + between (fun j => lk2 (f j)) s t)

/-- The values from key `a` on, mixed for query `t`. -/
def mix (f v : ℕ → EReal) (t a : ℕ) : EReal := ∑ s ∈ Finset.Ico a t, weight f t s * v s

/-- A sum over the positions of a block is the sum over its range. -/
theorem sum_block (N a : ℕ) (φ : ℕ → EReal) : ∑ j : Fin N, φ (a + j.val) = ∑ s ∈ Finset.Ico a (a + N), φ s := by
  rw [Finset.sum_Ico_eq_sum_range, Nat.add_sub_cancel_left, Finset.sum_range]

/-- A block's sum over the positions that a lower bound admits. -/
theorem sum_block_from (N a b : ℕ) (hb : b ≤ N) (φ : ℕ → EReal) :
    ∑ j : Fin N, (if b ≤ j.val then φ (a + j.val) else 0) = ∑ s ∈ Finset.Ico (a + b) (a + N), φ s := by
  have hf : (Finset.Ico a (a + N)).filter (fun s => a + b ≤ s) = Finset.Ico (a + b) (a + N) := by
    ext s; simp only [Finset.mem_filter, Finset.mem_Ico]; omega
  rw [← hf, Finset.sum_filter, ← sum_block N a (fun s => if a + b ≤ s then φ s else 0)]
  refine Finset.sum_congr rfl fun j _ => ?_
  by_cases hj : b ≤ j.val
  · rw [if_pos hj, if_pos (by omega)]
  · rw [if_neg hj, if_neg (by omega)]

/-- A block's sum over the positions between two bounds. -/
theorem sum_block_within (N a b e : ℕ) (he : e ≤ N) (φ : ℕ → EReal) :
    ∑ j : Fin N, (if b ≤ j.val then (if j.val < e then φ (a + j.val) else 0) else 0) = ∑ s ∈ Finset.Ico (a + b) (a + e), φ s := by
  have hf : (Finset.Ico a (a + N)).filter (fun s => a + b ≤ s ∧ s < a + e) = Finset.Ico (a + b) (a + e) := by
    ext s; simp only [Finset.mem_filter, Finset.mem_Ico]; omega
  rw [← hf, Finset.sum_filter, ← sum_block N a (fun s => if a + b ≤ s ∧ s < a + e then φ s else 0)]
  refine Finset.sum_congr rfl fun j _ => ?_
  by_cases hj : b ≤ j.val
  · by_cases hk : j.val < e
    · rw [if_pos hj, if_pos hk, if_pos (by omega)]
    · rw [if_pos hj, if_neg hk, if_neg (by omega)]
  · rw [if_neg hj, if_neg (by omega)]

/-- The signed comparison "at least" of two index words. -/
theorem sge_nat (a b : ℕ) (ha : a < 16384) (hb : b < 16384) :
    IntOp.cmpi .sge (BitVec.ofNat 32 a) (BitVec.ofNat 32 b) = if b ≤ a then 1#1 else 0#1 := by
  by_cases h : b ≤ a
  · rw [if_pos h]; word_cmp
  · rw [if_neg h]; word_cmp

/-- The signed comparison "less" of two index words. -/
theorem slt_nat (a b : ℕ) (ha : a < 16384) (hb : b < 16384) :
    IntOp.cmpi .slt (BitVec.ofNat 32 a) (BitVec.ofNat 32 b) = if a < b then 1#1 else 0#1 := by
  by_cases h : a < b
  · rw [if_pos h]; word_cmp
  · rw [if_neg h]; word_cmp

/-- Two ranges that meet. -/
theorem between_add (g : ℕ → EReal) {a b t : ℕ} (h1 : a ≤ b) (h2 : b ≤ t) : between g a b + between g b t = between g a t :=
  Finset.sum_Ico_consecutive g h1 h2

/-- A mixture with an earlier range added. -/
theorem mix_add (f v : ℕ → EReal) {a b t : ℕ} (h1 : a ≤ b) (h2 : b ≤ t) :
    mix f v t b + ∑ s ∈ Finset.Ico a b, weight f t s * v s = mix f v t a := by
  rw [add_comm]; exact Finset.sum_Ico_consecutive _ h1 h2

/-- A mixture with an earlier block of keys added. -/
theorem mix_block (f v : ℕ → EReal) {a N t : ℕ} (h2 : a + N ≤ t) :
    mix f v t (a + N) + ∑ j : Fin N, weight f t (a + j.val) * v (a + j.val) = mix f v t a := by
  rw [sum_block N a (fun s => weight f t s * v s)]
  exact mix_add f v (Nat.le_add_right _ _) h2

end Cert.SB

end
-- ==== Proof.SB.Ref.lean ====
/- What the reference computes over the extended reals, element by element. -/
module

public import proofs.«01_k».proof.Proof.Gen.ReferenceIdeal.Run
public import proofs.«01_k».proof.Proof.SB.Sums

@[expose] public section

set_option maxRecDepth 16384

noncomputable section

namespace Cert.SB.Ref

open Idealize.ShloMosaic Idealize.ShloMosaic.TcCoe Cert.ReferenceIdeal Cert.ReferenceIdeal.Gen

/-- The reference's result, of its argument. -/
def REF (X : FVec Ideal S16384x12288 .f32) : FVec Ideal S16384x2048 .bf16 :=
  truncf .bf16 (shapeCast _ (transpose S16384x8x256 [1, 0, 2] (Host.dotGeneral dot_S8x16384x16384_S8x16384x256_S8x16384x256_2_1_1_2_0_0 none (select (broadcastInDim S8x16384x16384 ![1, 2] bcast_S16384x16384_S8x16384x16384_1_2 (cmpi .slt (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))) (Host.exp (addf (mulf (Host.dotGeneral dot_S8x16384x256_S8x16384x256_S8x16384x16384_2_2_1_1_0_0 none (transpose S8x16384x256 [1, 0, 2] (shapeCast _ (extractStridedSlice S16384x2048 ![0, 6144] X slices_S16384x12288_S16384x2048_0_6144) shapeCasts_S16384x2048_S16384x8x256) transposes_S16384x8x256_S8x16384x256_1_0_2) (transpose S8x16384x256 [1, 0, 2] (shapeCast _ (extractStridedSlice S16384x2048 ![0, 8192] X slices_S16384x12288_S16384x2048_0_8192) shapeCasts_S16384x2048_S16384x8x256) transposes_S16384x8x256_S8x16384x256_1_0_2)) (broadcastInDim S8x16384x16384 ![] bcast_S_S8x16384x16384 (constant S_ .f32 0x3D800000#32))) (Host.dotGeneral dot_S8x16384x16384_S16384x16384_S8x16384x16384_2_0_01_1_n_n none (select (broadcastInDim S8x16384x16384 ![1, 2] bcast_S16384x16384_S8x16384x16384_1_2 (cmpi .slt (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))) (Host.negf (select (cmpf .une (subf (Host.negf (Host.negf (mulf (Host.dotGeneral dot_S8x16384x256_S8x16384x256_S8x16384x16384_2_2_1_1_0_0 none (transpose S8x16384x256 [1, 0, 2] (shapeCast _ (extractStridedSlice S16384x2048 ![0, 6144] X slices_S16384x12288_S16384x2048_0_6144) shapeCasts_S16384x2048_S16384x8x256) transposes_S16384x8x256_S8x16384x256_1_0_2) (transpose S8x16384x256 [1, 0, 2] (shapeCast _ (extractStridedSlice S16384x2048 ![0, 8192] X slices_S16384x12288_S16384x2048_0_8192) shapeCasts_S16384x2048_S16384x8x256) transposes_S16384x8x256_S8x16384x256_1_0_2)) (broadcastInDim S8x16384x16384 ![] bcast_S_S8x16384x16384 (constant S_ .f32 0x3D800000#32))))) (broadcastInDim S8x16384x16384 ![] bcast_S_S8x16384x16384 (constant S_ .f32 0x00000000#32))) (subf (Host.negf (Host.negf (mulf (Host.dotGeneral dot_S8x16384x256_S8x16384x256_S8x16384x16384_2_2_1_1_0_0 none (transpose S8x16384x256 [1, 0, 2] (shapeCast _ (extractStridedSlice S16384x2048 ![0, 6144] X slices_S16384x12288_S16384x2048_0_6144) shapeCasts_S16384x2048_S16384x8x256) transposes_S16384x8x256_S8x16384x256_1_0_2) (transpose S8x16384x256 [1, 0, 2] (shapeCast _ (extractStridedSlice S16384x2048 ![0, 8192] X slices_S16384x12288_S16384x2048_0_8192) shapeCasts_S16384x2048_S16384x8x256) transposes_S16384x8x256_S8x16384x256_1_0_2)) (broadcastInDim S8x16384x16384 ![] bcast_S_S8x16384x16384 (constant S_ .f32 0x3D800000#32))))) (broadcastInDim S8x16384x16384 ![] bcast_S_S8x16384x16384 (constant S_ .f32 0x00000000#32)))) (addf (Host.negf (Host.negf (mulf (Host.dotGeneral dot_S8x16384x256_S8x16384x256_S8x16384x16384_2_2_1_1_0_0 none (transpose S8x16384x256 [1, 0, 2] (shapeCast _ (extractStridedSlice S16384x2048 ![0, 6144] X slices_S16384x12288_S16384x2048_0_6144) shapeCasts_S16384x2048_S16384x8x256) transposes_S16384x8x256_S8x16384x256_1_0_2) (transpose S8x16384x256 [1, 0, 2] (shapeCast _ (extractStridedSlice S16384x2048 ![0, 8192] X slices_S16384x12288_S16384x2048_0_8192) shapeCasts_S16384x2048_S16384x8x256) transposes_S16384x8x256_S8x16384x256_1_0_2)) (broadcastInDim S8x16384x16384 ![] bcast_S_S8x16384x16384 (constant S_ .f32 0x3D800000#32))))) (broadcastInDim S8x16384x16384 ![] bcast_S_S8x16384x16384 (constant S_ .f32 0x00000000#32))) (addf (maximumf (Host.negf (Host.negf (mulf (Host.dotGeneral dot_S8x16384x256_S8x16384x256_S8x16384x16384_2_2_1_1_0_0 none (transpose S8x16384x256 [1, 0, 2] (shapeCast _ (extractStridedSlice S16384x2048 ![0, 6144] X slices_S16384x12288_S16384x2048_0_6144) shapeCasts_S16384x2048_S16384x8x256) transposes_S16384x8x256_S8x16384x256_1_0_2) (transpose S8x16384x256 [1, 0, 2] (shapeCast _ (extractStridedSlice S16384x2048 ![0, 8192] X slices_S16384x12288_S16384x2048_0_8192) shapeCasts_S16384x2048_S16384x8x256) transposes_S16384x8x256_S8x16384x256_1_0_2)) (broadcastInDim S8x16384x16384 ![] bcast_S_S8x16384x16384 (constant S_ .f32 0x3D800000#32))))) (broadcastInDim S8x16384x16384 ![] bcast_S_S8x16384x16384 (constant S_ .f32 0x00000000#32))) (Host.log1p (Host.exp (Host.negf (Host.absf (subf (Host.negf (Host.negf (mulf (Host.dotGeneral dot_S8x16384x256_S8x16384x256_S8x16384x16384_2_2_1_1_0_0 none (transpose S8x16384x256 [1, 0, 2] (shapeCast _ (extractStridedSlice S16384x2048 ![0, 6144] X slices_S16384x12288_S16384x2048_0_6144) shapeCasts_S16384x2048_S16384x8x256) transposes_S16384x8x256_S8x16384x256_1_0_2) (transpose S8x16384x256 [1, 0, 2] (shapeCast _ (extractStridedSlice S16384x2048 ![0, 8192] X slices_S16384x12288_S16384x2048_0_8192) shapeCasts_S16384x2048_S16384x8x256) transposes_S16384x8x256_S8x16384x256_1_0_2)) (broadcastInDim S8x16384x16384 ![] bcast_S_S8x16384x16384 (constant S_ .f32 0x3D800000#32))))) (broadcastInDim S8x16384x16384 ![] bcast_S_S8x16384x16384 (constant S_ .f32 0x00000000#32)))))))))) (broadcastInDim S8x16384x16384 ![] bcast_S_S8x16384x16384 (id (constant S_ .f32 0x00000000#32)))) (uitofp .f32 (cmpi .sge (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0)))))))) (broadcastInDim S8x16384x16384 ![] bcast_S_S8x16384x16384 (id (constant S_ .f32 0x00000000#32)))) (transpose S8x16384x256 [1, 0, 2] (shapeCast _ (extractStridedSlice S16384x2048 ![0, 10240] X slices_S16384x12288_S16384x2048_0_10240) shapeCasts_S16384x2048_S16384x8x256) transposes_S16384x8x256_S8x16384x256_1_0_2)) transposes_S8x16384x256_S16384x8x256_1_0_2) shapeCasts_S16384x8x256_S16384x2048) bitsLt_bf16_f32

/-- The reference's logarithm of one less the sigmoid of a score. -/
def ls (y : EReal) : EReal := -(max y 0 + Ideal.log1p (Ideal.exp (-(max y (-y)))))

/-- The reference's text of that logarithm. -/
theorem ls_form {y z : EReal} (h : y = z) : -(if - -y ≠ - -y then - -y else max (- -y) 0 + Ideal.log1p (Ideal.exp (-FloatOps.absf (F := Ideal) (φ := .f32) (- -y)))) = ls z := by
  subst h
  rw [if_neg (fun hn => hn rfl), neg_neg]
  rfl

/-- The reference's score of query `t` with key `s`, in head `h`. -/
def rscore (X : FVec Ideal S16384x12288 .f32) (h : Fin 8) (t : Fin 16384) (s : ℕ) : EReal :=
  (∑ e : Fin 256, (show EReal from X (ix2 t ⟨6144 + (h.val * 256 + e.val), by omega⟩))
    * (show EReal from X (ix2 (⟨min s 16383, by omega⟩ : Fin 16384) ⟨8192 + (h.val * 256 + e.val), by omega⟩))) * Ideal.ofBits .f32 0x3D800000#32

/-- The reference's values. -/
def rvalue (X : FVec Ideal S16384x12288 .f32) (c : Fin 2048) (s : ℕ) : EReal :=
  X (ix2 (⟨min s 16383, by omega⟩ : Fin 16384) ⟨10240 + c.val, by omega⟩)

/-- A mask of two index words, applied. -/
theorem sel_lt (a b : Fin 16384) (x y : EReal) :
    Scalar.select (IntOp.cmpi .slt (BitVec.ofNat 32 a.val) (BitVec.ofNat 32 b.val)) x y = if a.val < b.val then x else y := by
  rw [slt_nat a b a.isLt b.isLt]
  by_cases h : a.val < b.val
  · rw [if_pos h, if_pos h]; rfl
  · rw [if_neg h, if_neg h]; rfl

/-- A mask of two index words, as a number. -/
theorem num_ge (a b : Fin 16384) :
    FloatOps.uitofp (F := Ideal) .f32 (IntOp.cmpi .sge (BitVec.ofNat 32 a.val) (BitVec.ofNat 32 b.val)) = if b.val ≤ a.val then (1 : EReal) else 0 := by
  rw [sge_nat a b a.isLt b.isLt]
  by_cases h : b.val ≤ a.val
  · rw [if_pos h, if_pos h]; show (((1#1 : BitVec 1).toNat : ℝ) : EReal) = 1; norm_num
  · rw [if_neg h, if_neg h]; show (((0#1 : BitVec 1).toNat : ℝ) : EReal) = 0; norm_num

theorem zero_at : id (constant (F := Ideal) S_ .f32 0x00000000#32) ix0 = (0 : EReal) := by
  unfold id; pointwise

/-- The reference, element by element: every earlier key's weight times its value. -/
theorem ref_at (X : FVec Ideal S16384x12288 .f32) (t : Fin 16384) (c : Fin 2048) :
    REF X (ix2 t c) = ∑ s ∈ Finset.Ico 0 t.val,
      Ideal.exp (rscore X ⟨c.val / 256, by omega⟩ t s + between (fun j => ls (rscore X ⟨c.val / 256, by omega⟩ t j)) s t.val) * rvalue X c s := by
  have hs := sum_block_within 16384 0 0 t.val (by omega) (fun s =>
      Ideal.exp (rscore X ⟨c.val / 256, by omega⟩ t s + between (fun j => ls (rscore X ⟨c.val / 256, by omega⟩ t j)) s t.val) * rvalue X c s)
  simp only [Nat.zero_le, if_true, Nat.zero_add] at hs
  rw [← hs]
  have hk : ∀ s : Fin 16384, (⟨min s.val 16383, by omega⟩ : Fin 16384) = s := fun s => Fin.ext (by show min s.val 16383 = s.val; omega)
  have hr : ∀ s : Fin 16384, (∑ e : Fin 256, (show EReal from X (ix2 t ⟨6144 + (c.val / 256 * 256 + e.val), by omega⟩))
    * (show EReal from X (ix2 s ⟨8192 + (c.val / 256 * 256 + e.val), by omega⟩))) * Ideal.ofBits .f32 0x3D800000#32 = rscore X ⟨c.val / 256, by omega⟩ t s.val := by
    intro s; unfold rscore; rw [hk]
  pointwise [REF]
  refine Finset.sum_congr rfl fun s _ => ?_
  rw [sel_lt, zero_at]
  by_cases h : s.val < t.val
  · rw [if_pos h, if_pos h]
    refine Ideal.mul_congr (congrArg Ideal.exp (Ideal.add_congr (hr s) ?_)) (by unfold rvalue; rw [hk])
    have hb := sum_block_within 16384 0 s.val t.val (by omega) (fun j => ls (rscore X ⟨c.val / 256, by omega⟩ t j))
    simp only [Nat.zero_add] at hb
    refine Eq.trans (Finset.sum_congr rfl fun j _ => ?_) hb
    rw [num_ge, sel_lt]
    by_cases h1 : s.val ≤ j.val
    · rw [if_pos h1, if_pos h1, mul_one]
      by_cases h2 : j.val < t.val
      · rw [if_pos h2, if_pos h2]
        exact ls_form (hr j)
      · rw [if_neg h2, if_neg h2]
    · rw [if_neg h1, if_neg h1, mul_zero]
  · rw [if_neg h, if_neg h]
    exact zero_mul _

end Cert.SB.Ref

end
-- ==== Proof.SB.Bridge.lean ====
/- The kernel's powers of two and logarithms in base two, and the reference's natural ones. -/
module

public import proofs.«01_k».proof.Proof.SB.Ref

@[expose] public section

noncomputable section

namespace Cert.SB.Ref

open Idealize.ShloMosaic

/-- `1 / log 2`. -/
def L : ℝ := (Real.log 2)⁻¹

theorem log2_pos : 0 < Real.log 2 := Real.log_pos (by norm_num)
theorem L_pos : 0 < L := inv_pos.2 log2_pos

/-- Two to the power of a multiple of `1 / log 2`. -/
theorem rpow_L (y : ℝ) : Real.rpow 2 (y * L) = Real.exp y := by
  show (2 : ℝ) ^ (y * L) = _
  rw [Real.rpow_def_of_pos (by norm_num)]
  congr 1
  unfold L
  field_simp [log2_pos.ne']

/-- The same over the extended reals. -/
theorem exp2_L (y : EReal) : Ideal.exp2 (y * (L : EReal)) = Ideal.exp y := by
  induction y with
  | bot => rw [EReal.bot_mul_coe_of_pos L_pos]; rfl
  | top => rw [EReal.top_mul_coe_of_pos L_pos]; rfl
  | coe y =>
    rw [← EReal.coe_mul]
    show ((Real.rpow 2 (y * L) : ℝ) : EReal) = ((Real.exp y : ℝ) : EReal)
    rw [rpow_L]

/-- The logarithm of a real above zero. -/
theorem log_coe {y : ℝ} (h : 0 < y) : Ideal.log (y : EReal) = ((Real.log y : ℝ) : EReal) := by
  show (if y ≤ 0 then ⊥ else ((Real.log y : ℝ) : EReal)) = _
  rw [if_neg (not_le.2 h)]

theorem log_one : Ideal.log (1 : EReal) = 0 := by
  rw [← EReal.coe_one, log_coe one_pos, Real.log_one]; rfl

theorem min_coe (x y : ℝ) : ((min x y : ℝ) : EReal) = min (x : EReal) (y : EReal) := EReal.coe_strictMono.monotone.map_min
theorem max_coe (x y : ℝ) : ((max x y : ℝ) : EReal) = max (x : EReal) (y : EReal) := EReal.coe_strictMono.monotone.map_max

theorem min_neg_mul (y : ℝ) : min (-y * L) 0 = -(max y 0) * L := by
  rcases le_total y 0 with h | h
  · rw [max_eq_right h, neg_zero, zero_mul, min_eq_right (mul_nonneg (neg_nonneg.2 h) L_pos.le)]
  · rw [max_eq_left h, min_eq_left (by have := mul_nonneg h L_pos.le; linarith)]

/-- The logarithm of one less the sigmoid: the kernel's, of a score in base two, is the reference's in base two. -/
theorem lk2_L (y : EReal) : lk2 (y * (L : EReal)) = ls y * (L : EReal) := by
  have hL : (((Real.log 2)⁻¹ : ℝ) : EReal) = (L : EReal) := rfl
  unfold lk2 ls Ideal.log1p
  rw [hL]
  induction y with
  | bot =>
    rw [EReal.bot_mul_coe_of_pos L_pos]
    have h1 : Ideal.exp2 (min ⊥ (0 - ⊥)) = 0 := by rw [min_eq_left bot_le]; rfl
    have h2 : Ideal.exp (-(max (⊥ : EReal) (-⊥))) = 0 := by simp
    rw [h1, h2, add_zero, log_one]
    simp
  | top =>
    rw [EReal.top_mul_coe_of_pos L_pos]
    have h1 : Ideal.exp2 (min ⊤ (0 - ⊤)) = 0 := by simp
    have h2 : Ideal.exp (-(max (⊤ : EReal) (-⊤))) = 0 := by simp
    rw [h1, h2, add_zero, log_one]
    simp [EReal.bot_mul_coe_of_pos L_pos]
  | coe y =>
    have e1 : (0 : EReal) - (y : EReal) * (L : EReal) = ((-y * L : ℝ) : EReal) := by
      rw [← EReal.coe_mul, ← EReal.coe_zero, ← EReal.coe_sub]; congr 1; ring
    have e2 : min ((y : EReal) * (L : EReal)) (((-y * L : ℝ) : EReal)) = ((min y (-y) * L : ℝ) : EReal) := by
      rw [← EReal.coe_mul, ← min_coe, ← min_mul_of_nonneg _ _ L_pos.le]
    have e3 : min (((-y * L : ℝ) : EReal)) 0 = ((-(max y 0) * L : ℝ) : EReal) := by
      rw [← EReal.coe_zero, ← min_coe, min_neg_mul]
    rw [e1, e2, e3]
    have e4 : Ideal.exp2 ((min y (-y) * L : ℝ) : EReal) = ((Real.exp (min y (-y)) : ℝ) : EReal) := by
      show ((Real.rpow 2 _ : ℝ) : EReal) = _
      rw [rpow_L]
    have e5 : Ideal.exp (-(max (y : EReal) (-(y : EReal)))) = ((Real.exp (min y (-y)) : ℝ) : EReal) := by
      rw [← EReal.coe_neg, ← max_coe, ← EReal.coe_neg]
      show ((Real.exp _ : ℝ) : EReal) = _
      congr 2
      rw [← min_neg_neg, neg_neg, min_comm]
    have hp : (0 : ℝ) < 1 + Real.exp (min y (-y)) := by positivity
    have e6 : Ideal.log ((1 : EReal) + ((Real.exp (min y (-y)) : ℝ) : EReal)) = ((Real.log (1 + Real.exp (min y (-y))) : ℝ) : EReal) := by
      rw [← EReal.coe_one, ← EReal.coe_add, log_coe hp]
    rw [e4, e5, e6, ← EReal.coe_zero, ← max_coe, ← EReal.coe_add, ← EReal.coe_neg, ← EReal.coe_mul, ← EReal.coe_mul, ← EReal.coe_sub]
    congr 1
    ring

/-- A sum times a real at least zero is the sum of the products. -/
theorem sum_mul {ι : Type} (S : Finset ι) (φ : ι → EReal) (c : ℝ) (hc : 0 ≤ c) : (∑ i ∈ S, φ i) * (c : EReal) = ∑ i ∈ S, φ i * (c : EReal) := by
  classical
  induction S using Finset.induction_on with
  | empty => simp
  | insert i S hi ih =>
    rw [Finset.sum_insert hi, Finset.sum_insert hi, ← ih]
    exact EReal.right_distrib_of_nonneg_of_ne_top (EReal.coe_nonneg.2 hc) (EReal.coe_ne_top c) _ _

/-- Scores in base two weigh the keys as the reference's scores do. -/
theorem mix_L (f v : ℕ → EReal) (t a : ℕ) :
    mix (fun s => f s * (L : EReal)) v t a = ∑ s ∈ Finset.Ico a t, Ideal.exp (f s + between (fun j => ls (f j)) s t) * v s := by
  unfold mix
  refine Finset.sum_congr rfl fun s _ => Ideal.mul_congr ?_ rfl
  unfold weight
  have h : between (fun j => lk2 (f j * (L : EReal))) s t = between (fun j => ls (f j)) s t * (L : EReal) := by
    unfold between
    rw [sum_mul _ _ L L_pos.le]
    exact Finset.sum_congr rfl fun j _ => lk2_L _
  rw [h, ← EReal.right_distrib_of_nonneg_of_ne_top (EReal.coe_nonneg.2 L_pos.le) (EReal.coe_ne_top L), exp2_L]

end Cert.SB.Ref

end
-- ==== Proof.SB.Host.lean ====
/- What the host writes before the kernel: the projection with the queries' columns scaled. -/
module

public import proofs.«01_k».proof.Proof.SB.Frame
public import proofs.«01_k».proof.Proof.SB.Bridge
public import Idealize.ShloMosaic.Lib.Pipeline.ValueKit
public import Idealize.ShloMosaic.Lib.Pipeline.Value
public import Idealize.ShloMosaic.Lib.Claim

@[expose] public section

set_option maxRecDepth 16384

noncomputable section

namespace Cert.SB

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- One over the logarithm of two, as the host computes it. -/
def inv : FVec Ideal S_ .f32 := Host.divf (constant S_ .f32 0x3F800000#32) (Host.log (constant S_ .f32 0x40000000#32))

/-- The factor of every column of the projection. -/
def cols : FVec Ideal S12288 .f32 :=
  select (cmpi .slt (iotaInDim S12288 32 0) (broadcastInDim S12288 ![] bcast_S_S12288 (constantI S_ 32 2048#32)))
    (broadcastInDim S12288 ![] bcast_S_S12288 (mulf (constant S_ .f32 0x3DB504F3#32) inv))
    (select (andi (cmpi .sge (iotaInDim S12288 32 0) (broadcastInDim S12288 ![] bcast_S_S12288 (constantI S_ 32 6144#32)))
        (cmpi .slt (iotaInDim S12288 32 0) (broadcastInDim S12288 ![] bcast_S_S12288 (constantI S_ 32 8192#32))))
      (broadcastInDim S12288 ![] bcast_S_S12288 (mulf (constant S_ .f32 0x3D800000#32) inv))
      (broadcastInDim S12288 ![] bcast_S_S12288 (id (constant S_ .f32 0x3F800000#32))))

/-- What the kernel is given: the projection, every column times its factor. -/
theorem proj_at (c : Dev nD) (i : Fin 16384) (j : Fin 12288) :
    @Eq EReal (V (F := Ideal) m c main_v17 (ix2 i j)) ((show FVec Ideal S16384x12288 .f32 from m ((c : Thread nD τ).loc main_arg0)) (ix2 i j) * cols (ix1 j)) := by
  simp only [V, hostOps0, hostOps0_1, hostOps0_2, hostOps0_3, List.flatten_cons, List.flatten_nil, List.append_nil, List.cons_append, List.nil_append]
  after_results
  pointwise
  rfl

theorem ofBits_two : Ideal.ofBits .f32 0x40000000#32 = ((2 : ℝ) : EReal) := by
  simp [Ideal.ofBits, Ideal.ieee, -EReal.coe_mul]; norm_num

theorem ofBits_sixteenth : Ideal.ofBits .f32 0x3D800000#32 = (((1 : ℝ) / 16 : ℝ) : EReal) := by
  simp [Ideal.ofBits, Ideal.ieee, -EReal.coe_mul]; norm_num

/-- The host's one over the logarithm of two. -/
theorem inv_eq (j : S_.Idx) : inv j = (Ref.L : EReal) := by
  unfold inv
  pointwise
  rw [ofBits_two, Ref.log_coe (by norm_num), Ideal.div_coe Ref.log2_pos.ne', one_mul]
  unfold Ref.L
  rw [one_div]

/-- The columns of the queries are scaled by a sixteenth over the logarithm of two. -/
theorem cols_query (j : Fin 12288) (h1 : 6144 ≤ j.val) (h2 : j.val < 8192) : cols (ix1 j) = (((1 : ℝ) / 16 : ℝ) : EReal) * (Ref.L : EReal) := by
  unfold cols
  pointwise
  rw [slt_nat _ 2048 (by omega) (by omega), sge_nat _ 6144 (by omega) (by omega), slt_nat _ 8192 (by omega) (by omega),
    if_neg (by omega), if_pos (by omega), if_pos (by omega), inv_eq, ofBits_sixteenth]
  rfl

/-- The columns from 8192 are kept. -/
theorem cols_other (j : Fin 12288) (h1 : 8192 ≤ j.val) : cols (ix1 j) = 1 := by
  unfold cols
  pointwise
  rw [slt_nat _ 2048 (by omega) (by omega), sge_nat _ 6144 (by omega) (by omega), slt_nat _ 8192 (by omega) (by omega),
    if_neg (by omega), if_pos (by omega), if_neg (by omega)]
  exact Ideal.ofBits_one_f32

end Cert.SB

end
-- ==== Proof.SB.Vals.lean ====
/- What the pieces of the kernel's body compute over the extended reals, element by element. -/
module

public import proofs.«01_k».proof.Proof.SB.Chain
public import proofs.«01_k».proof.Proof.SB.Sums

@[expose] public section

set_option maxRecDepth 16384

noncomputable section

namespace Cert.SB

open Idealize.ShloMosaic Idealize.ShloMosaic.TcCoe Cert.KernelIdeal Cert.KernelIdeal.Gen

theorem named_log2e : Named.named (F := Ideal) (φ := .f32) κ "log2e" 0x3FB8AA3B#32 = (((Real.log 2)⁻¹ : ℝ) : EReal) :=
  IdealRules.named_const.ideal_named_scalar κ "log2e" _ _ rfl
theorem named_mask : Named.named (F := Ideal) (φ := .f32) κ "mask" 0xF149F2CA#32 = (⊥ : EReal) :=
  IdealRules.named_const.ideal_named_scalar κ "mask" _ _ rfl

/-- A row of 512 rows from `o`. -/
theorem rows_at (x : Vec Ideal S16384x256 .bf16) (o : ℕ) (j : Fin 512) (e : Fin 256) :
    rows x o (ix2 j e) = x (ix2 ⟨min (o + j.val) 16383, by omega⟩ e) := by
  unfold rows
  exact congrArg x (funext fun a => match a with | ⟨0, _⟩ => rfl | ⟨1, _⟩ => rfl)

/-- A row of 256 rows from `o`. -/
theorem rows1_at (x : Vec Ideal S16384x256 .bf16) (o : ℕ) (j : Fin 256) (e : Fin 256) :
    rows1 x o (ix2 j e) = x (ix2 ⟨min (o + j.val) 16383, by omega⟩ e) := by
  unfold rows1
  exact congrArg x (funext fun a => match a with | ⟨0, _⟩ => rfl | ⟨1, _⟩ => rfl)

/-- The scores, in base two, of query row `r` of a block with the keys. -/
def score (x0 : Vec Ideal S256x256 .bf16) (x1 : Vec Ideal S16384x256 .bf16) (r : Fin 256) (s : ℕ) : EReal :=
  ∑ e : Fin 256, (show EReal from x0 (ix2 r e)) * (show EReal from x1 (ix2 (⟨min s 16383, by omega⟩ : Fin 16384) e))

/-- Column `d` of the values. -/
def value (x2 : Vec Ideal S16384x256 .bf16) (d : Fin 256) (s : ℕ) : EReal := x2 (ix2 (⟨min s 16383, by omega⟩ : Fin 16384) d)

theorem pay146_at (x0 : Vec Ideal S256x256 .bf16) (r e : Fin 256) : k0_pay146 x0 (ix2 r e) = x0 (ix2 r e) := by
  pointwise [k0_pay146]

/-- The scores of a pair. -/
theorem scores_at (x0 : Vec Ideal S256x256 .bf16) (x1 : Vec Ideal S16384x256 .bf16) (o : ℕ) (r : Fin 256) (j : Fin 512) :
    k0_pay2 (k0_pay146 x0) (rows x1 o) (ix2 r j) = score x0 x1 r (o + j.val) := by
  pointwise [k0_pay2, k0_pay146, rows_at]
  rfl

/-- The scores of the pair scored before the loops. -/
theorem scores0_at (x0 : Vec Ideal S256x256 .bf16) (x1 : Vec Ideal S16384x256 .bf16) (o : ℕ) (r : Fin 256) (j : Fin 512) :
    k0_pay154 (k0_pay146 x0) (rows x1 o) (ix2 r j) = score x0 x1 r (o + j.val) := by
  pointwise [k0_pay154, k0_pay146, rows_at]
  rfl

/-- The scores of the diagonal block. -/
theorem scores149_at (x0 : Vec Ideal S256x256 .bf16) (x1 : Vec Ideal S16384x256 .bf16) (o : ℕ) (r j : Fin 256) :
    k0_pay149 x0 (rows1 x1 o) (ix2 r j) = score x0 x1 r (o + j.val) := by
  pointwise [k0_pay149, k0_pay146, rows1_at]
  rfl

/-- The scores of the odd last block. -/
theorem scores172_at (x0 : Vec Ideal S256x256 .bf16) (x1 : Vec Ideal S16384x256 .bf16) (o : ℕ) (r j : Fin 256) :
    k0_pay172 (k0_pay146 x0) (rows1 x1 o) (ix2 r j) = score x0 x1 r (o + j.val) := by
  pointwise [k0_pay172, k0_pay146, rows1_at]
  rfl

/-- The triangular matrix: one where the row is at or after the column. -/
theorem tri_at (x j : Fin 256) : k0_pay147 (F := Ideal) (ix2 x j) = if j.val ≤ x.val then (1 : EReal) else 0 := by
  pointwise [k0_pay147]
  rw [sge_nat x j (by omega) (by omega)]
  by_cases h : j.val ≤ x.val
  · rw [if_pos h, if_pos h]; rfl
  · rw [if_neg h, if_neg h]; rfl

/-- The diagonal's mask: one where the key is before the query. -/
theorem past_at (r j : Fin 256) : k0_pay148 (ix2 r j) = if j.val < r.val then 1#1 else 0#1 := by
  pointwise [k0_pay148]
  exact slt_nat j r (by omega) (by omega)

theorem lkhi_at (z : Vec Ideal S256x512 .f32) (r j : Fin 256) : k0_pay6 (F := Ideal) z (ix2 r j) = lk2 (z (ix2 r ⟨256 + j.val, by omega⟩)) := by
  pointwise [k0_pay6, k0_pay5, named_log2e]
  rfl

theorem lklo_at (z : Vec Ideal S256x512 .f32) (r j : Fin 256) : k0_pay10 (F := Ideal) z (ix2 r j) = lk2 (z (ix2 r ⟨j.val, by omega⟩)) := by
  pointwise [k0_pay10, k0_pay9, named_log2e]
  rfl

theorem lk150_at (x0 : Vec Ideal S256x256 .bf16) (x : Vec Ideal S256x256 .bf16) (r j : Fin 256) :
    k0_pay150 (F := Ideal) x0 x (ix2 r j) = if j.val < r.val then lk2 (k0_pay149 x0 x (ix2 r j)) else 0 := by
  have hp := past_at r j
  pointwise [k0_pay150, named_log2e]
  rw [hp]
  by_cases h : j.val < r.val
  · rw [if_pos h, if_pos h]; rfl
  · rw [if_neg h, if_neg h]; rfl

theorem lk173_at (v1 : Vec Ideal S256x256 .bf16) (x : Vec Ideal S256x256 .bf16) (r j : Fin 256) :
    k0_pay173 (F := Ideal) v1 x (ix2 r j) = lk2 (k0_pay172 v1 x (ix2 r j)) := by
  pointwise [k0_pay173, named_log2e]
  rfl

/-- A product with the triangular matrix sums the block from the column on. -/
theorem mul_tri (φ : Fin 256 → EReal) (j : Fin 256) :
    ∑ x : Fin 256, φ x * k0_pay147 (F := Ideal) (ix2 x j) = ∑ x : Fin 256, if j.val ≤ x.val then φ x else 0 := by
  refine Finset.sum_congr rfl fun x _ => ?_
  rw [tri_at]
  by_cases h : j.val ≤ x.val
  · rw [if_pos h, if_pos h, mul_one]
  · rw [if_neg h, if_neg h, mul_zero]

/-- The weights of a pair's upper block. -/
theorem hi_at (v62 tw : BitVec 32) (l : FVec Ideal S256x1 .f32) (z : Vec Ideal S256x512 .f32) (r j : Fin 256) :
    k0_pay7 (F := Ideal) k0_pay147 v62 l tw z (ix2 r j)
      = Ideal.exp2 (z (ix2 r ⟨256 + j.val, by omega⟩) + (∑ x : Fin 256, if j.val ≤ x.val then lk2 (z (ix2 r ⟨256 + x.val, by omega⟩)) else 0)
          + Scalar.select (Scalar.cmpi .slt tw v62) (l (ix2 r 0)) (⊥ : EReal)) := by
  rw [← mul_tri (fun x => lk2 (z (ix2 r ⟨256 + x.val, by omega⟩))) j]
  pointwise [k0_pay7, k0_pay6, k0_pay5, k0_pay4, named_log2e, named_mask]
  rfl

/-- The weights of a pair's lower block. -/
theorem lo_at (v62 tw : BitVec 32) (l : FVec Ideal S256x1 .f32) (z : Vec Ideal S256x512 .f32) (r j : Fin 256) :
    k0_pay11 (F := Ideal) k0_pay147 v62 l tw z (ix2 r j)
      = Ideal.exp2 (z (ix2 r ⟨j.val, by omega⟩) + (∑ x : Fin 256, if j.val ≤ x.val then lk2 (z (ix2 r ⟨x.val, by omega⟩)) else 0)
          + (Scalar.select (Scalar.cmpi .slt tw v62) (l (ix2 r 0)) (⊥ : EReal) + ∑ x : Fin 256, lk2 (z (ix2 r ⟨256 + x.val, by omega⟩)))) := by
  rw [← mul_tri (fun x => lk2 (z (ix2 r ⟨x.val, by omega⟩))) j]
  pointwise [k0_pay11, k0_pay10, k0_pay9, k0_pay8, k0_pay6, k0_pay5, k0_pay4, named_log2e, named_mask]
  rfl

end Cert.SB

end
-- ==== Proof.SB.Inv.lean ====
/- The phases' invariant over the extended reals, and the block of results that the body stores. -/
module

public import proofs.«01_k».proof.Proof.SB.Vals

@[expose] public section

set_option maxRecDepth 16384

noncomputable section

namespace Cert.SB

open Idealize.ShloMosaic Idealize.ShloMosaic.TcCoe Cert.KernelIdeal Cert.KernelIdeal.Gen

/-- A pair of value blocks added. -/
theorem add_at (a : FVec Ideal S256x256 .f32) (w : Vec Ideal S256x512 .bf16) (x2 : Vec Ideal S16384x256 .bf16) (o : ℕ) (r d : Fin 256) :
    k0_pay3 (F := Ideal) a w (rows x2 o) (ix2 r d) = a (ix2 r d) + ∑ j : Fin 512, (show EReal from w (ix2 r j)) * value x2 d (o + j.val) := by
  pointwise [k0_pay3, rows_at]
  rfl

/-- The last pair of value blocks added. -/
theorem add171_at (a : FVec Ideal S256x256 .f32) (w : Vec Ideal S256x512 .bf16) (x2 : Vec Ideal S16384x256 .bf16) (o : ℕ) (r d : Fin 256) :
    k0_pay171 (F := Ideal) a w (rows x2 o) (ix2 r d) = a (ix2 r d) + ∑ j : Fin 512, (show EReal from w (ix2 r j)) * value x2 d (o + j.val) := by
  pointwise [k0_pay171, rows_at]
  rfl

/-- A pair's weights are its lower block's, then its upper block's. -/
theorem cat_at (x y : FVec Ideal S256x256 .bf16) (r : Fin 256) (j : Fin 512) :
    k0_pay13 (F := Ideal) x y (ix2 r j) = if h : j.val < 256 then y (ix2 r ⟨j.val, h⟩) else x (ix2 r ⟨j.val - 256, by omega⟩) := by
  pointwise [k0_pay13]

/-- The later keys' total, a phase on. -/
theorem later_at (v62 tw : BitVec 32) (l : FVec Ideal S256x1 .f32) (z : Vec Ideal S256x512 .f32) (r : Fin 256) :
    phL (F := Ideal) v62 l tw z (ix2 r 0) = l (ix2 r 0) + Scalar.select (Scalar.cmpi .slt tw v62)
      ((∑ x : Fin 256, lk2 (z (ix2 r ⟨256 + x.val, by omega⟩))) + ∑ x : Fin 256, lk2 (z (ix2 r ⟨x.val, by omega⟩))) (0 : EReal) := by
  pointwise [phL, k0_pay14, k0_pay8, k0_pay12, lkhi_at, lklo_at]

/-- The scores' logarithms, key by key. -/
abbrev lks (f : ℕ → EReal) : ℕ → EReal := fun j => lk2 (f j)

/-- What the state holds after `T` phases of row block `n`. -/
structure Inv (x0 : Vec Ideal S256x256 .bf16) (x1 x2 : Vec Ideal S16384x256 .bf16) (n T : ℕ) (s : St Ideal) : Prop where
  acc : ∀ r d : Fin 256, s.1 (ix2 r d) = mix (score x0 x1 r) (value x2 d) (256 * n + r.val) (256 * (n - 2 * min (T - 1) (n / 2)))
  later : ∀ r : Fin 256, s.2.1 (ix2 r 0) = between (lks (score x0 x1 r)) (256 * (n - 2 * min T (n / 2))) (256 * n + r.val)
  scores : T < n / 2 → ∀ (r : Fin 256) (j : Fin 512), s.2.2.1 (ix2 r j) = score x0 x1 r (256 * (n - 2 - 2 * T) + j.val)
  weights : ∀ (r : Fin 256) (j : Fin 512), s.2.2.2 (ix2 r j)
    = if 1 ≤ T ∧ T ≤ n / 2 then weight (score x0 x1 r) (256 * n + r.val) (256 * (n - 2 * T) + j.val) else 0

variable (x0 : Vec Ideal S256x256 .bf16) (x1 x2 : Vec Ideal S16384x256 .bf16) (n : ℕ)

/-- The pair of weights in hand, added to the sum: the keys from the next pair on. -/
theorem acc_next {T : ℕ} {s : St Ideal} (h : Inv x0 x1 x2 n T s) (r d : Fin 256) :
    (show EReal from s.1 (ix2 r d)) + ∑ j : Fin 512, (show EReal from s.2.2.2 (ix2 r j)) * value x2 d (jb n (vp n T) * 256 + j.val)
      = mix (score x0 x1 r) (value x2 d) (256 * n + r.val) (256 * (n - 2 * min T (n / 2))) := by
  have ha := h.acc r d
  by_cases hT : 1 ≤ T ∧ T ≤ n / 2
  · have e1 : 256 * (n - 2 * min (T - 1) (n / 2)) = 256 * (n - 2 * T) + 512 := by omega
    have e2 : jb n (vp n T) * 256 = 256 * (n - 2 * T) := by unfold jb vp; omega
    have e3 : 256 * (n - 2 * min T (n / 2)) = 256 * (n - 2 * T) := by omega
    rw [e3, ← mix_block (score x0 x1 r) (value x2 d) (a := 256 * (n - 2 * T)) (N := 512) (by omega)]
    refine Ideal.add_congr (ha.trans (by rw [e1])) (Finset.sum_congr rfl fun j _ => ?_)
    rw [e2]
    exact Ideal.mul_congr ((h.weights r j).trans (if_pos hT)) rfl
  · have e1 : 256 * (n - 2 * min (T - 1) (n / 2)) = 256 * (n - 2 * min T (n / 2)) := by omega
    rw [e1] at ha
    rw [← ha]
    have hz : ∑ j : Fin 512, (show EReal from s.2.2.2 (ix2 r j)) * value x2 d (jb n (vp n T) * 256 + j.val) = 0 := by
      refine Finset.sum_eq_zero fun j _ => ?_
      exact (Ideal.mul_congr ((h.weights r j).trans (if_neg hT)) rfl).trans (zero_mul _)
    rw [hz]
    exact add_zero _

/-- The weights of a pair's upper block, from its scores and the later keys' total. -/
theorem hi_weight (f : ℕ → EReal) (b t j : ℕ) (hj : j < 256) (ht : b + 512 ≤ t) :
    Ideal.exp2 (f (b + (256 + j)) + (∑ x : Fin 256, if j ≤ x.val then lk2 (f (b + (256 + x.val))) else 0) + between (lks f) (b + 512) t)
      = weight f t (b + (256 + j)) := by
  have hs : (∑ x : Fin 256, if j ≤ x.val then lk2 (f (b + (256 + x.val))) else 0) = between (lks f) (b + (256 + j)) (b + 512) := by
    have := sum_block_from 256 (b + 256) j (by omega) (lks f)
    simp only [Nat.add_assoc] at this
    exact this
  rw [hs, add_assoc, between_add _ (by omega) ht]
  rfl

/-- The weights of a pair's lower block. -/
theorem lo_weight (f : ℕ → EReal) (b t j : ℕ) (hj : j < 256) (ht : b + 512 ≤ t) :
    Ideal.exp2 (f (b + j) + (∑ x : Fin 256, if j ≤ x.val then lk2 (f (b + x.val)) else 0)
      + (between (lks f) (b + 512) t + ∑ x : Fin 256, lk2 (f (b + (256 + x.val))))) = weight f t (b + j) := by
  have hs : (∑ x : Fin 256, if j ≤ x.val then lk2 (f (b + x.val)) else 0) = between (lks f) (b + j) (b + 256) :=
    sum_block_from 256 b j (by omega) (lks f)
  have hh : (∑ x : Fin 256, lk2 (f (b + (256 + x.val)))) = between (lks f) (b + 256) (b + 512) := by
    have := sum_block 256 (b + 256) (lks f)
    simp only [Nat.add_assoc] at this
    exact this
  rw [hs, hh, add_comm (between (lks f) (b + 512) t), between_add _ (by omega) ht, add_assoc, between_add _ (by omega) (by omega)]
  rfl

/-- A phase keeps the invariant. -/
theorem Inv.phase {T : ℕ} {s : St Ideal} (hn : n < 64) (hT : T < 36) (h : Inv x0 x1 x2 n T s) :
    Inv x0 x1 x2 n (T + 1) (phase (k0_pay146 x0) k0_pay147 x1 x2 n T s) := by
  have hv : Scalar.cmpi .slt (BitVec.ofNat 32 T) (BitVec.ofNat 32 (n / 2)) = if T < n / 2 then 1#1 else 0#1 := by
    rw [← w62_eq ⟨n, hn⟩]; exact valid_eq ⟨n, hn⟩ ⟨T, hT⟩
  constructor
  · intro r d
    exact (add_at _ _ x2 _ r d).trans (acc_next x0 x1 x2 n h r d)
  · intro r
    refine (later_at _ _ _ _ r).trans ?_
    rw [hv, h.later r]
    by_cases hc : T < n / 2
    · rw [if_pos hc]
      have e1 : 256 * (n - 2 * min T (n / 2)) = 256 * (n - 2 - 2 * T) + 512 := by omega
      have e2 : 256 * (n - 2 * min (T + 1) (n / 2)) = 256 * (n - 2 - 2 * T) := by omega
      have e3 : (∑ x : Fin 256, lk2 (s.2.2.1 (ix2 r ⟨256 + x.val, by omega⟩)))
          = between (lks (score x0 x1 r)) (256 * (n - 2 - 2 * T) + 256) (256 * (n - 2 - 2 * T) + 512) := by
        have := sum_block 256 (256 * (n - 2 - 2 * T) + 256) (lks (score x0 x1 r))
        simp only [Nat.add_assoc] at this
        refine Eq.trans (Finset.sum_congr rfl fun x _ => ?_) this
        exact congrArg lk2 (h.scores hc r ⟨256 + x.val, by omega⟩)
      have e4 : (∑ x : Fin 256, lk2 (s.2.2.1 (ix2 r ⟨x.val, by omega⟩)))
          = between (lks (score x0 x1 r)) (256 * (n - 2 - 2 * T)) (256 * (n - 2 - 2 * T) + 256) := by
        refine Eq.trans (Finset.sum_congr rfl fun x _ => ?_) (sum_block 256 (256 * (n - 2 - 2 * T)) (lks (score x0 x1 r)))
        exact congrArg lk2 (h.scores hc r ⟨x.val, by omega⟩)
      show between _ _ _ + (_ + _) = _
      rw [e3, e4, e1, e2, add_comm (between (lks (score x0 x1 r)) (256 * (n - 2 - 2 * T) + 256) (256 * (n - 2 - 2 * T) + 512)),
        between_add _ (by omega) (by omega), add_comm, between_add _ (by omega) (by omega)]
    · rw [if_neg hc]
      have e1 : 256 * (n - 2 * min T (n / 2)) = 256 * (n - 2 * min (T + 1) (n / 2)) := by omega
      rw [e1]
      exact add_zero _
  · intro hc r j
    have e : jb n (kp n T) * 256 = 256 * (n - 2 - 2 * (T + 1)) := by unfold jb kp; omega
    rw [← e]
    exact scores_at x0 x1 _ r j
  · intro r j
    refine (cat_at _ _ r j).trans ?_
    by_cases hc : T < n / 2
    · rw [if_pos (by omega)]
      have e1 : 256 * (n - 2 * min T (n / 2)) = 256 * (n - 2 - 2 * T) + 512 := by omega
      have e2 : 256 * (n - 2 * (T + 1)) = 256 * (n - 2 - 2 * T) := by omega
      have hl := h.later r
      rw [e1] at hl
      have hs := h.scores hc r
      rw [e2]
      by_cases hj : j.val < 256
      · rw [dif_pos hj]
        refine (lo_at _ _ _ _ r ⟨j.val, hj⟩).trans ?_
        rw [hv, if_pos hc, ← lo_weight (score x0 x1 r) (256 * (n - 2 - 2 * T)) (256 * n + r.val) j.val hj (by omega)]
        show Ideal.exp2 (_ + _ + (s.2.1 (ix2 r 0) + _)) = _
        rw [hl, hs]
        simp only [hs]
      · rw [dif_neg hj]
        refine (hi_at _ _ _ _ r ⟨j.val - 256, by omega⟩).trans ?_
        have ej : 256 * (n - 2 - 2 * T) + j.val = 256 * (n - 2 - 2 * T) + (256 + (j.val - 256)) := by omega
        rw [hv, if_pos hc, ej, ← hi_weight (score x0 x1 r) (256 * (n - 2 - 2 * T)) (256 * n + r.val) (j.val - 256) (by omega) (by omega)]
        show Ideal.exp2 (_ + _ + s.2.1 (ix2 r 0)) = _
        rw [hl, hs]
        simp only [hs]
    · rw [if_neg (by omega)]
      by_cases hj : j.val < 256
      · rw [dif_pos hj]
        refine (lo_at _ _ _ _ r ⟨j.val, hj⟩).trans ?_
        rw [hv, if_neg hc]
        show Ideal.exp2 (_ + ((⊥ : EReal) + _)) = _
        rw [EReal.bot_add, EReal.add_bot]
        rfl
      · rw [dif_neg hj]
        refine (hi_at _ _ _ _ r ⟨j.val - 256, by omega⟩).trans ?_
        rw [hv, if_neg hc]
        show Ideal.exp2 (_ + (⊥ : EReal)) = _
        rw [EReal.add_bot]
        rfl

end Cert.SB

end
-- ==== Proof.SB.Block.lean ====
/- The block of results that the body stores, over the extended reals: every earlier key's weight times its value. -/
module

public import proofs.«01_k».proof.Proof.SB.Inv

@[expose] public section

set_option maxRecDepth 16384

noncomputable section

namespace Cert.SB

open Idealize.ShloMosaic Idealize.ShloMosaic.TcCoe Cert.KernelIdeal Cert.KernelIdeal.Gen

/-- A product of weights with 256 rows of values. -/
theorem add153_at (w : FVec Ideal S256x256 .bf16) (x2 : Vec Ideal S16384x256 .bf16) (o : ℕ) (r d : Fin 256) :
    k0_pay153 (F := Ideal) w (rows1 x2 o) (ix2 r d) = ∑ j : Fin 256, (show EReal from w (ix2 r j)) * value x2 d (o + j.val) := by
  pointwise [k0_pay153, rows1_at]
  rfl

/-- The diagonal's weights. -/
theorem diag_at (x0 x : Vec Ideal S256x256 .bf16) (r j : Fin 256) :
    k0_pay151 (F := Ideal) x0 x (ix2 r j) = if j.val < r.val then Ideal.exp2 (k0_pay149 x0 x (ix2 r j)
      + (∑ y : Fin 256, if j.val ≤ y.val then (if y.val < r.val then lk2 (k0_pay149 x0 x (ix2 r y)) else 0) else 0)) else 0 := by
  have hp := past_at r j
  have hm := mul_tri (fun y => if y.val < r.val then lk2 (k0_pay149 x0 x (ix2 r y)) else 0) j
  rw [← hm]
  pointwise [k0_pay151, lk150_at]
  rw [hp]
  by_cases h : j.val < r.val
  · rw [if_pos h, if_pos h]; rfl
  · rw [if_neg h, if_neg h]; rfl

/-- The diagonal's later keys' total. -/
theorem later0_at (x0 x : Vec Ideal S256x256 .bf16) (r : Fin 256) :
    k0_pay152 (F := Ideal) x0 x (ix2 r 0) = ∑ y : Fin 256, if y.val < r.val then lk2 (k0_pay149 x0 x (ix2 r y)) else 0 := by
  pointwise [k0_pay152, lk150_at]

/-- The odd last block added. -/
theorem odd_at (v1 : Vec Ideal S256x256 .bf16) (a : FVec Ideal S256x256 .f32) (l : FVec Ideal S256x1 .f32) (x : Vec Ideal S256x256 .bf16)
    (x2 : Vec Ideal S16384x256 .bf16) (o : ℕ) (r d : Fin 256) :
    k0_pay174 (F := Ideal) v1 k0_pay147 a l x (rows1 x2 o) (ix2 r d) = a (ix2 r d)
      + ∑ j : Fin 256, Ideal.exp2 (k0_pay172 v1 x (ix2 r j) + (∑ y : Fin 256, if j.val ≤ y.val then lk2 (k0_pay172 v1 x (ix2 r y)) else 0) + l (ix2 r 0))
          * value x2 d (o + j.val) := by
  have hm := fun j => mul_tri (fun y => lk2 (k0_pay172 v1 x (ix2 r y))) j
  simp only [← hm]
  pointwise [k0_pay174, lk173_at, rows1_at]
  rfl

variable (x0 : Vec Ideal S256x256 .bf16) (x1 x2 : Vec Ideal S16384x256 .bf16) (n : ℕ)

/-- The state before the first phase: the diagonal block done, the first pair scored. -/
theorem inv_start : Inv x0 x1 x2 n 0 (start x0 x1 x2 n) := by
  have e0 : 256 * (n - 2 * min (0 - 1) (n / 2)) = 256 * n := by omega
  have e1 : 256 * (n - 2 * min 0 (n / 2)) = 256 * n := by omega
  constructor
  · intro r d
    rw [e0]
    refine (add153_at _ x2 _ r d).trans ?_
    have hs := sum_block_within 256 (256 * n) 0 r.val (by omega) (fun s => weight (score x0 x1 r) (256 * n + r.val) s * value x2 d s)
    simp only [Nat.zero_le, if_true, Nat.add_zero] at hs
    refine Eq.trans (Finset.sum_congr rfl fun j _ => ?_) hs
    rw [show n * 256 = 256 * n from Nat.mul_comm _ _]
    by_cases hj : j.val < r.val
    · rw [if_pos hj]
      refine Ideal.mul_congr ((diag_at x0 _ r j).trans ?_) rfl
      rw [if_pos hj]
      simp only [scores149_at]
      rw [sum_block_within 256 (256 * n) j.val r.val (by omega) (lks (score x0 x1 r))]
      rfl
    · rw [if_neg hj]
      refine (Ideal.mul_congr ((diag_at x0 _ r j).trans (if_neg hj)) rfl).trans (zero_mul _)
  · intro r
    rw [e1]
    refine (later0_at x0 _ r).trans ?_
    have hs := sum_block_within 256 (256 * n) 0 r.val (by omega) (lks (score x0 x1 r))
    simp only [Nat.zero_le, if_true, Nat.add_zero] at hs
    rw [show n * 256 = 256 * n from Nat.mul_comm _ _]
    simp only [scores149_at]
    exact hs
  · intro hc r j
    refine (scores0_at x0 x1 _ r j).trans ?_
    rw [show jb n 0 * 256 = 256 * (n - 2 - 2 * 0) from Nat.mul_comm _ _]
  · intro r j
    rw [if_neg (by omega)]
    show k0_pay156 (F := Ideal) k0_pay155 (ix2 r j) = 0
    pointwise [k0_pay156, k0_pay155]

/-- The state after `T` phases. -/
theorem inv_phases (hn : n < 64) : ∀ T, T ≤ 36 → Inv x0 x1 x2 n T (phases (k0_pay146 x0) k0_pay147 x1 x2 n (start x0 x1 x2 n) T)
  | 0, _ => inv_start x0 x1 x2 n
  | T + 1, h => (inv_phases hn T (by omega)).phase x0 x1 x2 n hn (by omega)

/-- The block the body stores: row `r`, column `d` mixes all the keys before the query with their values. -/
theorem outBlock_at (hn : n < 64) (r d : Fin 256) :
    outBlock (F := Ideal) n x0 x1 x2 (ix2 r d) = mix (score x0 x1 r) (value x2 d) (256 * n + r.val) 0 := by
  have hp := inv_phases x0 x1 x2 n hn (ph n) (by unfold ph dn; omega)
  have em : min (ph n) (n / 2) = n / 2 := by unfold ph dn; omega
  have ha : ∀ r d : Fin 256, (tail (F := Ideal) (k0_pay146 x0) k0_pay147 x1 x2 n (phases (k0_pay146 x0) k0_pay147 x1 x2 n (start x0 x1 x2 n) (ph n))).1 (ix2 r d)
      = mix (score x0 x1 r) (value x2 d) (256 * n + r.val) (256 * (n - 2 * (n / 2))) := by
    intro r d
    refine (add171_at _ _ x2 _ r d).trans ((acc_next x0 x1 x2 n hp r d).trans ?_)
    rw [em]
  have hl := hp.later r
  rw [em] at hl
  unfold outBlock
  pointwise [k0_pay1]
  unfold odd
  by_cases ho : n % 2 = 1
  · rw [if_pos ho]
    refine (odd_at _ _ _ _ x2 0 r d).trans ?_
    have e1 : 256 * (n - 2 * (n / 2)) = 0 + 256 := by omega
    rw [← mix_block (score x0 x1 r) (value x2 d) (a := 0) (N := 256) (by omega)]
    refine Ideal.add_congr ((ha r d).trans (by rw [e1])) (Finset.sum_congr rfl fun j _ => Ideal.mul_congr ?_ rfl)
    simp only [scores172_at]
    rw [e1] at hl
    have hs := sum_block_from 256 0 j.val (by omega) (lks (score x0 x1 r))
    rw [hs]
    show Ideal.exp2 (_ + _ + (phases (k0_pay146 x0) k0_pay147 x1 x2 n (start x0 x1 x2 n) (ph n)).2.1 (ix2 r 0)) = _
    rw [hl, add_assoc]
    have hb := between_add (lks (score x0 x1 r)) (a := 0 + j.val) (b := 0 + 256) (t := 256 * n + r.val) (by omega) (by omega)
    exact congrArg (fun y => Ideal.exp2 (score x0 x1 r (0 + j.val) + y)) hb
  · rw [if_neg ho]
    refine (ha r d).trans ?_
    rw [show 256 * (n - 2 * (n / 2)) = 0 by omega]

end Cert.SB

end
-- ==== Proof.SB.Value.lean ====
/- The kernel's result over the extended reals is the reference's. -/
module

public import proofs.«01_k».proof.Proof.SB.Host
public import proofs.«01_k».proof.Proof.SB.Block
public import proofs.«01_k».proof.Defs

@[expose] public section

set_option maxRecDepth 16384

noncomputable section

namespace Cert.SB

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The head and the block of queries of a point. -/
abbrev hd (t : Fin cfg0.N) : ℕ := (grid0.coords t 0).val
abbrev qb (t : Fin cfg0.N) : ℕ := (grid0.coords t 1).val
theorem hd_lt (t : Fin cfg0.N) : hd t < 8 := (grid0.coords t 0).isLt
theorem qb_lt (t : Fin cfg0.N) : qb t < 64 := (grid0.coords t 1).isLt

/-- Where every window's block lies. -/
theorem idx : ∀ t : Fin cfg0.N, win0_0.index t = ![(grid0.coords t 1).val, 24 + (grid0.coords t 0).val]
    ∧ win0_1.index t = ![0, 32 + (grid0.coords t 0).val] ∧ win0_2.index t = ![0, 40 + (grid0.coords t 0).val]
    ∧ win0_3.index t = ![(grid0.coords t 1).val, (grid0.coords t 0).val] :=
  (by decide +kernel : ∀ t : Fin grid0.N, _)

theorem queries_at (c : Dev nD) (t : Fin cfg0.N) (r e : Fin 256) :
    @Eq EReal (iblk (F := Ideal) m c 0 t (ix2 r e)) (V (F := Ideal) m c main_v17 (ix2 ⟨qb t * 256 + r.val, by have := qb_lt t; omega⟩ ⟨6144 + (hd t * 256 + e.val), by have := hd_lt t; omega⟩)) := by
  unfold iblk
  refine congrArg (V (F := Ideal) m c main_v17) ?_
  blk_ext [idx t]
  simp only [hd]
  omega

theorem keys_at (c : Dev nD) (t : Fin cfg0.N) (r : Fin 16384) (e : Fin 256) :
    @Eq EReal (iblk (F := Ideal) m c 1 t (ix2 r e)) (V (F := Ideal) m c main_v17 (ix2 r ⟨8192 + (hd t * 256 + e.val), by have := hd_lt t; omega⟩)) := by
  unfold iblk
  refine congrArg (V (F := Ideal) m c main_v17) ?_
  blk_ext [idx t]
  simp only [hd]
  omega

theorem values_at (c : Dev nD) (t : Fin cfg0.N) (r : Fin 16384) (e : Fin 256) :
    @Eq EReal (iblk (F := Ideal) m c 2 t (ix2 r e)) (V (F := Ideal) m c main_v17 (ix2 r ⟨10240 + (hd t * 256 + e.val), by have := hd_lt t; omega⟩)) := by
  unfold iblk
  refine congrArg (V (F := Ideal) m c main_v17) ?_
  blk_ext [idx t]
  simp only [hd]
  omega

theorem out_at (t : Fin cfg0.N) (r e : Fin 256) :
    ((cfg0.win 3).blk t).view.emb (ix2 r e) = ix2 (⟨qb t * 256 + r.val, by have := qb_lt t; omega⟩ : Fin 16384) (⟨hd t * 256 + e.val, by have := hd_lt t; omega⟩ : Fin 2048) := by
  blk_ext [idx t]

/-- The argument, as an array. -/
abbrev arg (c : Dev nD) : FVec Ideal S16384x12288 .f32 := m ((c : Thread nD τ).loc main_arg0)

/-- The kernel's scores at a point are the reference's, over the logarithm of two. -/
theorem score_eq (c : Dev nD) (t : Fin cfg0.N) (r : Fin 256) (s : ℕ) :
    score (iblk (F := Ideal) m c 0 t) (iblk (F := Ideal) m c 1 t) r s
      = Ref.rscore (arg m c) ⟨hd t, hd_lt t⟩ ⟨qb t * 256 + r.val, by have := qb_lt t; omega⟩ s * (Ref.L : EReal) := by
  have hL : (((1 : ℝ) / 16 : ℝ) : EReal) * (Ref.L : EReal) = (((1 : ℝ) / 16 * Ref.L : ℝ) : EReal) := (EReal.coe_mul _ _).symm
  unfold score Ref.rscore
  rw [ofBits_sixteenth, mul_assoc, hL, Ref.sum_mul _ _ _ (mul_nonneg (by norm_num) Ref.L_pos.le)]
  refine Finset.sum_congr rfl fun e _ => ?_
  have hq := (queries_at m c t r e).trans (proj_at m c _ _)
  have hk := (keys_at m c t ⟨min s 16383, by omega⟩ e).trans (proj_at m c _ _)
  rw [cols_query _ (by simp) (by have := hd_lt t; simp; omega), hL] at hq
  rw [cols_other _ (by simp), mul_one] at hk
  refine (Ideal.mul_congr hq hk).trans ?_
  exact mul_right_comm _ _ _

/-- The kernel's values at a point are the reference's. -/
theorem value_eq (c : Dev nD) (t : Fin cfg0.N) (d : Fin 256) (s : ℕ) :
    value (iblk (F := Ideal) m c 2 t) d s = Ref.rvalue (arg m c) ⟨hd t * 256 + d.val, by have := hd_lt t; omega⟩ s := by
  have hv := (values_at m c t ⟨min s 16383, by omega⟩ d).trans (proj_at m c _ _)
  rw [cols_other _ (by simp; omega), mul_one] at hv
  exact hv

/-- What the body leaves at a point is the reference's result at the point's block. -/
theorem point (c : Dev nD) (t : Fin cfg0.N) (r d : Fin 256) :
    outBlock (F := Ideal) (qb t) (iblk m c 0 t) (iblk m c 1 t) (iblk m c 2 t) (ix2 r d)
      = Ref.REF (arg m c) (ix2 (⟨qb t * 256 + r.val, by have := qb_lt t; omega⟩ : Fin 16384) (⟨hd t * 256 + d.val, by have := hd_lt t; omega⟩ : Fin 2048)) := by
  have h0 := hd_lt t
  have hs : score (iblk (F := Ideal) m c 0 t) (iblk (F := Ideal) m c 1 t) r
      = fun s => Ref.rscore (arg m c) ⟨(hd t * 256 + d.val) / 256, by omega⟩ ⟨qb t * 256 + r.val, by have := qb_lt t; omega⟩ s * (Ref.L : EReal) := by
    funext s
    rw [score_eq]
    have : (⟨hd t, hd_lt t⟩ : Fin 8) = ⟨(hd t * 256 + d.val) / 256, by omega⟩ := Fin.ext (by simp; omega)
    rw [this]
  have hv : value (iblk (F := Ideal) m c 2 t) d = Ref.rvalue (arg m c) ⟨hd t * 256 + d.val, by omega⟩ := funext fun s => value_eq m c t d s
  rw [outBlock_at _ _ _ _ (qb_lt t), Ref.ref_at, hs, hv, Ref.mix_L, Nat.mul_comm 256]

/-- The kernel's result array. -/
theorem result (c : Dev nD) : (dats (F := Ideal) m 0 c).arrAt 3 cfg0.N = Ref.REF (arg m c) := by
  refine (dats (F := Ideal) m 0 c).arrAt_eq_of_covers 3 _ (by decide +kernel) fun t _ y => ?_
  blk_simp
  rw [after0_3]
  obtain ⟨r, d, rfl⟩ : ∃ (r d : Fin 256), y = ix2 r d := ⟨y 0, y 1, eq_ix2 y⟩
  rw [out_at]
  exact point m c t r d

/-- The two programs over the reals: from memories agreeing on the argument both run, the results are equal element by
    element, and the argument ends unchanged. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Ref.REF (arg m c), ?_, ?_⟩
  · refine (θ_run _ _ _).mono (fun r h c => ⟨?_, ?_⟩) (run_main (F := Ideal) m g)
    · exact ((h c).1 3).trans (result m c)
    · exact ((h c).2 main_arg0 (Pipeline.mem_restRefs_of main_arg0 (by decide) (by decide))).trans (V_main_arg0 m c)
  · refine (θ_run _ _ _).mono (fun r h c => ⟨?_, (h c).2⟩) (Cert.ReferenceIdeal.Value.run (F := Ideal) m' g')
    refine (h c).1.trans ?_
    show Ref.REF (m' ((c.tc : Thread Cert.ReferenceIdeal.nD Cert.ReferenceIdeal.τ).loc Cert.ReferenceIdeal.main_arg0)) = _
    exact congrArg Ref.REF (hagree c)

end Cert.SB

end
-- ==== Proof.MM.Down.lean ====
/- The down projection of the feed-forward part: a tiled product against one product. -/
module

public import proofs.«01_k».proof.Defs
public import proofs.«01_k».proof.Proof.Gen.Kernel2Ideal.Frame
public import proofs.«01_k».proof.Proof.Gen.Reference2Ideal.Run
public import Idealize.ShloMosaic.Lib.Pipeline.ValueKit
public import Idealize.ShloMosaic.Lib.Pipeline.Value
public import Idealize.ShloMosaic.Lib.Claim

@[expose] public section

set_option maxRecDepth 16384

noncomputable section

namespace Cert.Down

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- The reference's product. -/
abbrev REF (X : FVec Ideal S16384x8192 .bf16) (Wt : FVec Ideal S8192x4096 .f32) : FVec Ideal S16384x4096 .f32 :=
  Host.dotGeneral Cert.Reference2Ideal.dot_S16384x8192_S8192x4096_S16384x4096_1_0_0_1_n_n none (extf .f32 X Cert.Reference2Ideal.Gen.bitsLt_bf16_f32) Wt

/-- Where every window's block lies. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- A point's product of its blocks is the reference's product at the point's block. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array is the reference's product. -/
theorem result (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The two programs over the reals: their results are equal element by element and the arguments end unchanged. -/
theorem algebraic : Cert.algebraic_Kernel2Ideal_Reference2Ideal (hKernel2Ideal := Cert.Kernel2Ideal.Gen.facts) (hReference2Ideal := Cert.Reference2Ideal.Gen.facts) := by
  pair_intro
  · run_from run_main m g
  · hlo_run
    exact (result m c).symm

end Cert.Down

end
-- ==== Proof.MM.InProj.lean ====
/- The even layers' in-projection: a tiled product against one product. -/
module

public import proofs.«01_k».proof.Defs
public import proofs.«01_k».proof.Proof.Gen.Kernel3Ideal.Frame
public import proofs.«01_k».proof.Proof.Gen.Reference3Ideal.Run
public import Idealize.ShloMosaic.Lib.Pipeline.ValueKit
public import Idealize.ShloMosaic.Lib.Pipeline.Value
public import Idealize.ShloMosaic.Lib.Claim

@[expose] public section

set_option maxRecDepth 16384

noncomputable section

namespace Cert.InProj

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- The reference's product. -/
abbrev REF (X : FVec Ideal S16384x4096 .bf16) (Wt : FVec Ideal S4096x12288 .f32) : FVec Ideal S16384x12288 .bf16 :=
  truncf .bf16 (Host.dotGeneral Cert.Reference3Ideal.dot_S16384x4096_S4096x12288_S16384x12288_1_0_0_1_n_n none (extf .f32 X Cert.Reference3Ideal.Gen.bitsLt_bf16_f32) Wt) Cert.Reference3Ideal.Gen.bitsLt_bf16_f32

/-- Where every window's block lies. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- A point's product of its blocks is the reference's product at the point's block. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array is the reference's product. -/
theorem result (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The two programs over the reals: their results are equal element by element and the arguments end unchanged. -/
theorem algebraic : Cert.algebraic_Kernel3Ideal_Reference3Ideal (hKernel3Ideal := Cert.Kernel3Ideal.Gen.facts) (hReference3Ideal := Cert.Reference3Ideal.Gen.facts) := by
  pair_intro
  · run_from run_main m g
  · hlo_run
    exact (result m c).symm

end Cert.InProj

end
-- ==== Proof.MM.OutProj.lean ====
/- The out-projection of the two mixers' halves: two tiled products against one product of the joined halves. -/
module

public import proofs.«01_k».proof.Defs
public import proofs.«01_k».proof.Proof.Gen.Kernel4Ideal.Frame
public import proofs.«01_k».proof.Proof.Gen.Reference4Ideal.Run
public import Idealize.ShloMosaic.Lib.Pipeline.ValueKit
public import Idealize.ShloMosaic.Lib.Pipeline.Value
public import Idealize.ShloMosaic.Lib.Claim

@[expose] public section

set_option maxRecDepth 16384

noncomputable section

namespace Cert.OutProj

open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ)

/-- The reference's product of the joined halves. -/
abbrev REF (X Y : FVec Ideal S16384x2048 .bf16) (Wt : FVec Ideal S4096x4096 .f32) : FVec Ideal S16384x4096 .f32 :=
  Host.dotGeneral Cert.Reference4Ideal.dot_S16384x4096_S4096x4096_S16384x4096_1_0_0_1_n_n none
    (extf .f32 (concatenate Cert.Reference4Ideal.S16384x4096 1 [⟨Cert.Reference4Ideal.S16384x2048, X⟩, ⟨Cert.Reference4Ideal.S16384x2048, Y⟩]
      Cert.Reference4Ideal.Gen.concatenates_S16384x2048_S16384x2048_S16384x4096_d1) Cert.Reference4Ideal.Gen.bitsLt_bf16_f32) Wt

/-- Where every window's block lies. -/
theorem idx : ∀ t : Fin cfg0.N, win0_0.index t = ![(grid0.coords t 0).val, 0] ∧ win0_1.index t = ![(grid0.coords t 0).val, 0]
    ∧ win0_2.index t = ![0, (grid0.coords t 1).val] ∧ win0_3.index t = ![1, (grid0.coords t 1).val]
    ∧ win0_4.index t = ![(grid0.coords t 0).val, (grid0.coords t 1).val] :=
  (by decide +kernel : ∀ t : Fin grid0.N, _)

/-- A point's two products of its blocks, added, are the reference's product at the point's block. -/
theorem point (c : Dev nD) (t : Fin cfg0.N) (y) : k0_pay1 (iblk m c 0 t) (iblk m c 2 t) (iblk m c 1 t) (iblk m c 3 t) y
    = REF (m ((c : Thread nD τ).loc main_arg0)) (m ((c : Thread nD τ).loc main_arg1)) (m ((c : Thread nD τ).loc main_arg2)) (((cfg0.win 4).blk t).view.emb y) := by
  pointwise [k0_pay1, REF]
  blk_point [iblk, V, idx t]

/-- The result array is the reference's product. -/
theorem result (c : Dev nD) : (dats m 0 c).arrAt 4 (cfgs 0).N
    = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point m c t y

/-- The two programs over the reals: their results are equal element by element and the arguments end unchanged. -/
theorem algebraic : Cert.algebraic_Kernel4Ideal_Reference4Ideal (hKernel4Ideal := Cert.Kernel4Ideal.Gen.facts) (hReference4Ideal := Cert.Reference4Ideal.Gen.facts) := by
  pair_intro
  · run_from run_main m g
  · hlo_run
    exact (result m c).symm

end Cert.OutProj

end
-- ==== Proof.MM.FfnUp.lean ====
/- The feed-forward up projection with its convolution and gated gelu: a tiled product with carried rows against the plain formula. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.Value
public import Idealize.ShloMosaic.Lib.Pipeline.ReadBack
public import Idealize.ShloMosaic.Lib.Claim

@[expose] public section

set_option maxRecDepth 16384

noncomputable section

namespace Cert.FfnUp

open Cert.Kernel5Ideal Cert.Kernel5Ideal.Gen
open Idealize.ShloMosaic Idealize.ShloMosaic.TcCoe Idealize.SL.Sem
open Idealize.ShloMosaic.Pipeline (Dat)

/-- The point `t` is at row block `t % 16` and column block `t / 16`; where every window's block lies. -/
theorem idx : ∀ t : Fin cfg0.N, win0_0.index t = ![t.val % 16, 0] ∧ win0_1.index t = ![0, t.val / 16]
    ∧ win0_2.index t = ![0, t.val / 16 + 16] ∧ win0_3.index t = ![0, t.val / 16] ∧ win0_4.index t = ![0, t.val / 16 + 16]
    ∧ win0_5.index t = ![t.val % 16, t.val / 16] :=
  (by decide +kernel : ∀ t : Fin grid0.N, _)

theorem lt_N (t : Fin cfg0.N) : t.val < 256 := lt_of_lt_of_eq t.isLt (show cfg0.N = 256 from N_0)

/-- A word comparison of two small naturals, selecting. -/
theorem select_eq (a b : ℕ) (ha : a < 1024) (hb : b < 1024) (u v : EReal) :
    Scalar.select (IntOp.cmpi .eq (BitVec.ofNat 32 a) (BitVec.ofNat 32 b)) u v = if a = b then u else v := by
  by_cases h : a = b
  · subst a; word_cmp
  · word_cmp

/-- The three taps over rotated rows, the wrapped rows replaced by carried ones, are taps over earlier rows. -/
theorem taps (R : FVec Ideal S1024x512 .f32) (p : Vec Ideal S8x512 .f32) (a b d : EReal) (y : Fin 1024) (z : Fin 512) :
    @Eq EReal (a * R (ix2 y z)
      + b * Scalar.select (IntOp.cmpi .eq (BitVec.ofNat 32 y.val) 0#32) (p (ix2 7 z)) (R (ix2 ⟨(y.val + 1024 - 1) % 1024, by omega⟩ z))
      + d * Scalar.select (IntOp.cmpi .eq (BitVec.ofNat 32 y.val) 1#32) (p (ix2 7 z))
          (Scalar.select (IntOp.cmpi .eq (BitVec.ofNat 32 y.val) 0#32) (p (ix2 6 z)) (R (ix2 ⟨(y.val + 1024 - 2) % 1024, by omega⟩ z))))
    ((a * R (ix2 y z) + b * (if h : 1 ≤ y.val then R (ix2 ⟨y.val - 1, by omega⟩ z) else p (ix2 7 z)))
      + d * (if h : 2 ≤ y.val then R (ix2 ⟨y.val - 2, by omega⟩ z) else p (ix2 ⟨6 + y.val, by omega⟩ z))) := by
  rw [select_eq y.val 0 y.isLt (by decide), select_eq y.val 1 y.isLt (by decide), select_eq y.val 0 y.isLt (by decide)]
  by_cases h0 : y.val = 0
  · have e : (⟨6 + y.val, by omega⟩ : Fin 8) = 6 := Fin.ext (by show 6 + y.val = 6; omega)
    rw [if_pos h0, if_neg (by omega), if_pos h0, dif_neg (by omega), dif_neg (by omega), e]
  · have e1 : (⟨(y.val + 1024 - 1) % 1024, by omega⟩ : Fin 1024) = ⟨y.val - 1, by omega⟩ := Fin.ext (by show (y.val + 1024 - 1) % 1024 = y.val - 1; omega)
    rw [if_neg h0, dif_pos (by omega : 1 ≤ y.val), e1]
    by_cases h1 : y.val = 1
    · have e : (⟨6 + y.val, by omega⟩ : Fin 8) = 7 := Fin.ext (by show 6 + y.val = 7; omega)
      rw [if_pos h1, dif_neg (by omega), e]
    · have e2 : (⟨(y.val + 1024 - 2) % 1024, by omega⟩ : Fin 1024) = ⟨y.val - 2, by omega⟩ := Fin.ext (by show (y.val + 1024 - 2) % 1024 = y.val - 2; omega)
      rw [if_neg h1, if_neg h0, dif_pos (by omega : 2 ≤ y.val), e2]

section Blocks

variable (v3 : Vec Ideal S1024x4096 .bf16) (v4 : Vec Ideal S4096x512 .bf16) (v7 : Vec Ideal S8x512 .f32) (v8 : Vec Ideal S3x512 .f32)
  (y : Fin 1024) (z : Fin 512)

/-- The kernel's convolution of one block of the gate's product: two earlier rows, or the carried rows at the block's start. -/
theorem conv_gate : @Eq EReal (k0_pay8 (k0_pay6 v3 v4 v7 v8) (k0_pay7 v3 v4 v7 v8) (ix2 y z))
    ((v8 (ix2 2 z) * k0_pay5 v3 v4 (ix2 y z)
      + v8 (ix2 1 z) * (if h : 1 ≤ y.val then k0_pay5 v3 v4 (ix2 ⟨y.val - 1, by omega⟩ z) else v7 (ix2 7 z)))
      + v8 (ix2 0 z) * (if h : 2 ≤ y.val then k0_pay5 v3 v4 (ix2 ⟨y.val - 2, by omega⟩ z)
          else v7 (ix2 ⟨6 + y.val, by omega⟩ z))) := by
  pointwise [k0_pay8, k0_pay6, k0_pay7]
  generalize k0_pay5 v3 v4 = R
  exact taps R v7 _ _ _ y z

/-- The same for the value's product. -/
theorem conv_val : @Eq EReal (k0_pay11 v3 v4 v7 v8 (ix2 y z))
    ((v8 (ix2 2 z) * k0_pay10 v3 v4 (ix2 y z)
      + v8 (ix2 1 z) * (if h : 1 ≤ y.val then k0_pay10 v3 v4 (ix2 ⟨y.val - 1, by omega⟩ z) else v7 (ix2 7 z)))
      + v8 (ix2 0 z) * (if h : 2 ≤ y.val then k0_pay10 v3 v4 (ix2 ⟨y.val - 2, by omega⟩ z)
          else v7 (ix2 ⟨6 + y.val, by omega⟩ z))) := by
  pointwise [k0_pay11]
  generalize k0_pay10 v3 v4 = R
  exact taps R v7 _ _ _ y z

end Blocks

/-- The gated activation of one gate and one value. -/
def act (g v : EReal) : EReal :=
  (k0_pay2 (F := Ideal) (fun _ => g) (fun _ => v) (ix2 0 0) : EReal)

theorem pay2_point (G V : FVec Ideal S1024x512 .f32) (y : S1024x512.Idx) : @Eq EReal (k0_pay2 G V y) (act (G y) (V y)) := rfl

section Whole

variable (X : FVec Ideal S16384x4096 .bf16) (W : FVec Ideal S4096x16384 .f32) (C : FVec Ideal S3x16384 .f32)

/-- The whole product at row `s` and column `f`. -/
def raw (s : Fin 16384) (f : Fin 16384) : EReal := ∑ k : Fin 4096, X (ix2 s k) * W (ix2 k f)

/-- The product `d` rows earlier, zero before the first row. -/
def sh (d : ℕ) (s : Fin 16384) (f : Fin 16384) : EReal := if d ≤ s.val then raw X W ⟨s.val - d, by omega⟩ f else 0

/-- The causal convolution of the product. -/
def conv (s : Fin 16384) (f : Fin 16384) : EReal :=
  (C (ix2 2 f) * raw X W s f + C (ix2 1 f) * sh X W 1 s f) + C (ix2 0 f) * sh X W 2 s f

/-- The gated result, every index. -/
def res : FVec Ideal S16384x8192 .bf16 := fun i =>
  act (conv X W C (i 0) ⟨(i 1).val, by have : (i 1).val < 8192 := (i 1).isLt; omega⟩)
    (conv X W C (i 0) ⟨8192 + (i 1).val, by have : (i 1).val < 8192 := (i 1).isLt; omega⟩)

end Whole

variable (m : (ℓ : Loc nD τ sig) → Buf (Elt Ideal) ℓ) (c : Dev nD)

/-- The three arguments. -/
abbrev aX : FVec Ideal S16384x4096 .bf16 := m ((c : Thread nD τ).loc main_arg0)
abbrev aW : FVec Ideal S4096x16384 .f32 := m ((c : Thread nD τ).loc main_arg1)
abbrev aC : FVec Ideal S3x16384 .f32 := m ((c : Thread nD τ).loc main_arg2)

theorem raw_gate (t : Fin cfg0.N) (y : Fin 1024) (z : Fin 512) :
    @Eq EReal (k0_pay5 (iblk m c 0 t) (iblk m c 1 t) (ix2 y z))
      (raw (aX m c) (aW m c) ⟨t.val % 16 * 1024 + y.val, by omega⟩ ⟨t.val / 16 * 512 + z.val, by have := lt_N t; omega⟩) := by
  pointwise [k0_pay5, raw]
  blk_point [iblk, V, idx t]

theorem raw_val (t : Fin cfg0.N) (y : Fin 1024) (z : Fin 512) :
    @Eq EReal (k0_pay10 (iblk m c 0 t) (iblk m c 2 t) (ix2 y z))
      (raw (aX m c) (aW m c) ⟨t.val % 16 * 1024 + y.val, by omega⟩ ⟨(t.val / 16 + 16) * 512 + z.val, by have := lt_N t; omega⟩) := by
  pointwise [k0_pay10, raw]
  blk_point [iblk, V, idx t]

theorem taps_gate (t : Fin cfg0.N) (k : Fin 3) (z : Fin 512) :
    @Eq EReal (iblk m c 3 t (ix2 k z)) (aC m c (ix2 k ⟨t.val / 16 * 512 + z.val, by have := lt_N t; omega⟩)) := by
  blk_point [iblk, V, idx t]

theorem taps_val (t : Fin cfg0.N) (k : Fin 3) (z : Fin 512) :
    @Eq EReal (iblk m c 4 t (ix2 k z)) (aC m c (ix2 k ⟨(t.val / 16 + 16) * 512 + z.val, by have := lt_N t; omega⟩)) := by
  blk_point [iblk, V, idx t]

/-- What a point leaves in the two carried scratches: the last rows of its two products. -/
theorem carried (t : Fin cfg0.N) :
    (outsAt0 m c t.val t.isLt).2.1 = k0_pay9 (k0_pay5 (iblk m c 0 t) (iblk m c 1 t))
    ∧ (outsAt0 m c t.val t.isLt).2.2 = k0_pay1 (k0_pay12 (iblk m c 0 t) (iblk m c 2 t)) := by
  by_cases h0 : t.val % 16 = 0
  · rw [outsAt0_A m c t h0]; constructor <;> frame_out
  · rw [outsAt0_B m c t h0]; constructor <;> frame_out

/-- What a point writes, over the carried rows `p` and `q`. -/
def outOf (t : Fin cfg0.N) (p q : Vec Ideal S8x512 .f32) : Vec Ideal S1024x512 .bf16 :=
  k0_pay2 (k0_pay8 (k0_pay6 (iblk m c 0 t) (iblk m c 1 t) p (iblk m c 3 t)) (k0_pay7 (iblk m c 0 t) (iblk m c 1 t) p (iblk m c 3 t)))
    (k0_pay11 (iblk m c 0 t) (iblk m c 2 t) q (iblk m c 4 t))

theorem out_first (t : Fin cfg0.N) (h0 : t.val % 16 = 0) : (outsAt0 m c t.val t.isLt).1 = outOf m c t (k0_pay3 (F := Ideal)) (k0_pay4 (F := Ideal)) := by
  rw [outsAt0_A m c t h0]; unfold outOf; frame_out

theorem out_later (t : Fin cfg0.N) (h0 : ¬ t.val % 16 = 0) : (outsAt0 m c t.val t.isLt).1
    = outOf m c t (outsAt0 m c (t.val - 1) (Nat.lt_of_le_of_lt (Nat.sub_le _ _) t.isLt)).2.1
        (outsAt0 m c (t.val - 1) (Nat.lt_of_le_of_lt (Nat.sub_le _ _) t.isLt)).2.2 := by
  rw [outsAt0_B m c t h0]; unfold outOf; frame_out
  simp only [read_unread_whole]

/-- The carried rows before a point of a later row block, row `r` of the eight: the products of the rows before the block. -/
theorem carried_gate (t : Fin cfg0.N) (h0 : ¬ t.val % 16 = 0) (r : Fin 8) (z : Fin 512) :
    @Eq EReal ((outsAt0 m c (t.val - 1) (Nat.lt_of_le_of_lt (Nat.sub_le _ _) t.isLt)).2.1 (ix2 r z))
      (raw (aX m c) (aW m c) ⟨t.val % 16 * 1024 + r.val - 8, by omega⟩ ⟨t.val / 16 * 512 + z.val, by have := lt_N t; omega⟩) := by
  have hp := carried m c ⟨t.val - 1, Nat.lt_of_le_of_lt (Nat.sub_le _ _) t.isLt⟩
  rw [hp.1]
  have e : @Eq EReal (k0_pay9 (k0_pay5 (iblk m c 0 ⟨t.val - 1, Nat.lt_of_le_of_lt (Nat.sub_le _ _) t.isLt⟩)
      (iblk m c 1 ⟨t.val - 1, Nat.lt_of_le_of_lt (Nat.sub_le _ _) t.isLt⟩)) (ix2 r z))
      (k0_pay5 (iblk m c 0 ⟨t.val - 1, Nat.lt_of_le_of_lt (Nat.sub_le _ _) t.isLt⟩)
        (iblk m c 1 ⟨t.val - 1, Nat.lt_of_le_of_lt (Nat.sub_le _ _) t.isLt⟩) (ix2 ⟨1016 + r.val, by omega⟩ z)) := by
    pointwise [k0_pay9]
  refine e.trans ((raw_gate m c _ _ _).trans ?_)
  congr 1 <;> apply Fin.ext <;> dsimp only <;> omega

/-- The same for the value's product. -/
theorem carried_val (t : Fin cfg0.N) (h0 : ¬ t.val % 16 = 0) (r : Fin 8) (z : Fin 512) :
    @Eq EReal ((outsAt0 m c (t.val - 1) (Nat.lt_of_le_of_lt (Nat.sub_le _ _) t.isLt)).2.2 (ix2 r z))
      (raw (aX m c) (aW m c) ⟨t.val % 16 * 1024 + r.val - 8, by omega⟩ ⟨(t.val / 16 + 16) * 512 + z.val, by have := lt_N t; omega⟩) := by
  have hp := carried m c ⟨t.val - 1, Nat.lt_of_le_of_lt (Nat.sub_le _ _) t.isLt⟩
  rw [hp.2]
  have e : @Eq EReal (k0_pay1 (k0_pay12 (iblk m c 0 ⟨t.val - 1, Nat.lt_of_le_of_lt (Nat.sub_le _ _) t.isLt⟩)
      (iblk m c 2 ⟨t.val - 1, Nat.lt_of_le_of_lt (Nat.sub_le _ _) t.isLt⟩)) (ix2 r z))
      (k0_pay10 (iblk m c 0 ⟨t.val - 1, Nat.lt_of_le_of_lt (Nat.sub_le _ _) t.isLt⟩)
        (iblk m c 2 ⟨t.val - 1, Nat.lt_of_le_of_lt (Nat.sub_le _ _) t.isLt⟩) (ix2 ⟨1016 + r.val, by omega⟩ z)) := by
    pointwise [k0_pay1, k0_pay12]
  refine e.trans ((raw_val m c _ _ _).trans ?_)
  congr 1 <;> apply Fin.ext <;> dsimp only <;> omega

section Match

variable (X : FVec Ideal S16384x4096 .bf16) (W : FVec Ideal S4096x16384 .f32) (C : FVec Ideal S3x16384 .f32)

/-- The taps over a block's rows and the carried rows are the causal convolution, when the block's rows are the product's
    and the carried rows are the product's rows before the block, or zero at the first block. -/
theorem conv_of (i : ℕ) (hi : i < 16) (R : FVec Ideal S1024x512 .f32) (p : Vec Ideal S8x512 .f32) (y : Fin 1024) (z : Fin 512) (f : Fin 16384)
    (hR : ∀ y : Fin 1024, @Eq EReal (R (ix2 y z)) (raw X W ⟨i * 1024 + y.val, by omega⟩ f))
    (hp : ∀ r : Fin 8, @Eq EReal (p (ix2 r z)) (if 8 ≤ i * 1024 + r.val then raw X W ⟨i * 1024 + r.val - 8, by omega⟩ f else 0)) :
    @Eq EReal ((C (ix2 2 f) * R (ix2 y z) + C (ix2 1 f) * (if h : 1 ≤ y.val then R (ix2 ⟨y.val - 1, by omega⟩ z) else p (ix2 7 z)))
      + C (ix2 0 f) * (if h : 2 ≤ y.val then R (ix2 ⟨y.val - 2, by omega⟩ z) else p (ix2 ⟨6 + y.val, by omega⟩ z)))
    (conv X W C ⟨i * 1024 + y.val, by omega⟩ f) := by
  have h1 : @Eq EReal (if h : 1 ≤ y.val then R (ix2 ⟨y.val - 1, by omega⟩ z) else p (ix2 7 z)) (sh X W 1 ⟨i * 1024 + y.val, by omega⟩ f) := by
    unfold sh
    by_cases h : 1 ≤ y.val
    · rw [dif_pos h, hR, if_pos (by dsimp only; omega)]
      congr 1; apply Fin.ext; dsimp only; omega
    · rw [dif_neg h, hp]
      refine if_congr (by dsimp only; show 8 ≤ i * 1024 + 7 ↔ _; omega) ?_ rfl
      congr 1; apply Fin.ext; dsimp only; show i * 1024 + 7 - 8 = _; omega
  have h2 : @Eq EReal (if h : 2 ≤ y.val then R (ix2 ⟨y.val - 2, by omega⟩ z) else p (ix2 ⟨6 + y.val, by omega⟩ z)) (sh X W 2 ⟨i * 1024 + y.val, by omega⟩ f) := by
    unfold sh
    by_cases h : 2 ≤ y.val
    · rw [dif_pos h, hR, if_pos (by dsimp only; omega)]
      congr 1; apply Fin.ext; dsimp only; omega
    · rw [dif_neg h, hp]
      refine if_congr (by dsimp only; omega) ?_ rfl
      congr 1; apply Fin.ext; dsimp only; omega
  unfold conv
  rw [h1, h2, hR]

end Match

/-- What a point writes over carried rows that are right is the result at the point's block. -/
theorem out_point (t : Fin cfg0.N) (p q : Vec Ideal S8x512 .f32) (y : Fin 1024) (z : Fin 512)
    (hp : ∀ r : Fin 8, @Eq EReal (p (ix2 r z)) (if 8 ≤ t.val % 16 * 1024 + r.val then
      raw (aX m c) (aW m c) ⟨t.val % 16 * 1024 + r.val - 8, by omega⟩ ⟨t.val / 16 * 512 + z.val, by have := lt_N t; omega⟩ else 0))
    (hq : ∀ r : Fin 8, @Eq EReal (q (ix2 r z)) (if 8 ≤ t.val % 16 * 1024 + r.val then
      raw (aX m c) (aW m c) ⟨t.val % 16 * 1024 + r.val - 8, by omega⟩ ⟨(t.val / 16 + 16) * 512 + z.val, by have := lt_N t; omega⟩ else 0)) :
    @Eq EReal (outOf m c t p q (ix2 y z))
      (act (conv (aX m c) (aW m c) (aC m c) ⟨t.val % 16 * 1024 + y.val, by omega⟩ ⟨t.val / 16 * 512 + z.val, by have := lt_N t; omega⟩)
        (conv (aX m c) (aW m c) (aC m c) ⟨t.val % 16 * 1024 + y.val, by omega⟩ ⟨(t.val / 16 + 16) * 512 + z.val, by have := lt_N t; omega⟩)) := by
  refine (pay2_point _ _ _).trans ?_
  rw [conv_gate, conv_val]
  refine congrArg₂ act ?_ ?_
  · rw [taps_gate, taps_gate, taps_gate]
    exact conv_of _ _ _ (t.val % 16) (by omega) _ _ y z _ (fun y => raw_gate m c t y z) hp
  · rw [taps_val, taps_val, taps_val]
    exact conv_of _ _ _ (t.val % 16) (by omega) _ _ y z _ (fun y => raw_val m c t y z) hq

/-- What a point writes is the result at the point's block. -/
theorem out_eq (t : Fin cfg0.N) (y : Fin 1024) (z : Fin 512) :
    @Eq EReal ((outsAt0 m c t.val t.isLt).1 (ix2 y z))
      (act (conv (aX m c) (aW m c) (aC m c) ⟨t.val % 16 * 1024 + y.val, by omega⟩ ⟨t.val / 16 * 512 + z.val, by have := lt_N t; omega⟩)
        (conv (aX m c) (aW m c) (aC m c) ⟨t.val % 16 * 1024 + y.val, by omega⟩ ⟨(t.val / 16 + 16) * 512 + z.val, by have := lt_N t; omega⟩)) := by
  by_cases h0 : t.val % 16 = 0
  · rw [out_first m c t h0]
    refine out_point m c t _ _ y z (fun r => ?_) (fun r => ?_)
    · rw [if_neg (by omega)]; pointwise [k0_pay3]
    · rw [if_neg (by omega)]; pointwise [k0_pay4]
  · rw [out_later m c t h0]
    refine out_point m c t _ _ y z (fun r => ?_) (fun r => ?_)
    · rw [if_pos (by omega)]; exact carried_gate m c t h0 r z
    · rw [if_pos (by omega)]; exact carried_val m c t h0 r z

/-- What a point writes is the result at the block's indices. -/
theorem point (t : Fin cfg0.N) (y : S1024x512.Idx) :
    @Eq EReal ((outsAt0 m c t.val t.isLt).1 y) (res (aX m c) (aW m c) (aC m c) (((cfg0.win 5).blk t).view.emb y)) := by
  have e0 : (((cfg0.win 5).blk t).view.emb y 0).val = win0_5.index t (0 : Fin 2) * 1024 + 1 * (y 0).val := rfl
  have e1 : (((cfg0.win 5).blk t).view.emb y 1).val = win0_5.index t (1 : Fin 2) * 512 + 1 * (y 1).val := rfl
  have i0 : win0_5.index t (0 : Fin 2) = t.val % 16 := congrFun (idx t).2.2.2.2.2 0
  have i1 : win0_5.index t (1 : Fin 2) = t.val / 16 := congrFun (idx t).2.2.2.2.2 1
  have hy : y = ix2 (y 0) (y 1) := eq_ix2 y
  have h := out_eq m c t (y 0) (y 1)
  refine (congrArg (outsAt0 m c t.val t.isLt).1 hy).trans (h.trans ?_)
  unfold res
  refine congrArg₂ act (congrArg₂ (conv (aX m c) (aW m c) (aC m c)) ?_ ?_) (congrArg₂ (conv (aX m c) (aW m c) (aC m c)) ?_ ?_) <;>
    apply Fin.ext <;> first
    | (show t.val % 16 * 1024 + (y 0).val = (((cfg0.win 5).blk t).view.emb y 0).val; rw [e0, i0]; omega)
    | (show t.val / 16 * 512 + (y 1).val = (((cfg0.win 5).blk t).view.emb y 1).val; rw [e1, i1]; omega)
    | (show (t.val / 16 + 16) * 512 + (y 1).val = 8192 + (((cfg0.win 5).blk t).view.emb y 1).val; rw [e1, i1]; omega)

/-- The result array holds the gated result. -/
theorem result : (dats m 0 c).arrAt 5 (cfgs 0).N = res (aX m c) (aW m c) (aC m c) := by
  refine (dats m 0 c).arrAt_eq_of_covers 5 _ (by decide +kernel) fun t _ y => ?_
  blk_simp
  rw [after0_5]
  exact point m c t y

end Cert.FfnUp

namespace Cert.FfnUpRef

open Cert.Reference5Ideal Cert.Reference5Ideal.Gen
open Idealize.ShloMosaic Idealize.ShloMosaic.TcCoe Idealize.SL.Sem

/-- The reference's convolved product. -/
def refU (X : FVec Ideal S16384x4096 .bf16) (W : FVec Ideal S4096x16384 .f32) (C : FVec Ideal S3x16384 .f32) : FVec Ideal S16384x16384 .f32 :=
  addf (addf (addf (broadcastInDim S16384x16384 ![] bcast_S_S16384x16384 (constant S_ .f32 0x00000000#32)) (mulf (extractStridedSlice S16384x16384 ![0, 0] (pad S16386x16384
    ![2, 0] ![0, 0] ![0, 0] (Host.dotGeneral dot_S16384x4096_S4096x16384_S16384x16384_1_0_0_1_n_n none (extf .f32 X bitsLt_bf16_f32) W) (sitofp .f32 (constantI S_ 32
    0#32)) pads_S16384x16384_S16386x16384_200_000 h_S_) slices_S16386x16384_S16384x16384_0_0) (broadcastInDim S16384x16384 ![0, 1] bcast_S1x16384_S16384x16384_0_1
    (broadcastInDim S1x16384 ![1] bcast_S16384_S1x16384_1 (shapeCast _ (extractStridedSlice S1x16384 ![0, 0] C slices_S3x16384_S1x16384_0_0)
    shapeCasts_S1x16384_S16384))))) (mulf (extractStridedSlice S16384x16384 ![1, 0] (pad S16386x16384 ![2, 0] ![0, 0] ![0, 0] (Host.dotGeneral
    dot_S16384x4096_S4096x16384_S16384x16384_1_0_0_1_n_n none (extf .f32 X bitsLt_bf16_f32) W) (sitofp .f32 (constantI S_ 32 0#32)) pads_S16384x16384_S16386x16384_200_000
    h_S_) slices_S16386x16384_S16384x16384_1_0) (broadcastInDim S16384x16384 ![0, 1] bcast_S1x16384_S16384x16384_0_1 (broadcastInDim S1x16384 ![1] bcast_S16384_S1x16384_1
    (shapeCast _ (extractStridedSlice S1x16384 ![1, 0] C slices_S3x16384_S1x16384_1_0) shapeCasts_S1x16384_S16384))))) (mulf (extractStridedSlice S16384x16384 ![2, 0] (pad
    S16386x16384 ![2, 0] ![0, 0] ![0, 0] (Host.dotGeneral dot_S16384x4096_S4096x16384_S16384x16384_1_0_0_1_n_n none (extf .f32 X bitsLt_bf16_f32) W) (sitofp .f32
    (constantI S_ 32 0#32)) pads_S16384x16384_S16386x16384_200_000 h_S_) slices_S16386x16384_S16384x16384_2_0) (broadcastInDim S16384x16384 ![0, 1]
    bcast_S1x16384_S16384x16384_0_1 (broadcastInDim S1x16384 ![1] bcast_S16384_S1x16384_1 (shapeCast _ (extractStridedSlice S1x16384 ![2, 0] C
    slices_S3x16384_S1x16384_2_0) shapeCasts_S1x16384_S16384))))

/-- The reference's gate of the two halves. -/
def gated (U : FVec Ideal S16384x16384 .f32) : FVec Ideal S16384x8192 .bf16 :=
  truncf .bf16 (mulf (mulf (extractStridedSlice S16384x8192 ![0, 0] U slices_S16384x16384_S16384x8192_0_0) (mulf (broadcastInDim S16384x8192 ![] bcast_S_S16384x8192
    (constant S_ .f32 0x3F000000#32)) (addf (broadcastInDim S16384x8192 ![] bcast_S_S16384x8192 (constant S_ .f32 0x3F800000#32)) (Host.tanh (mulf (broadcastInDim
    S16384x8192 ![] bcast_S_S16384x8192 (constant S_ .f32 0x3F4C422A#32)) (addf (extractStridedSlice S16384x8192 ![0, 0] U slices_S16384x16384_S16384x8192_0_0) (mulf
    (broadcastInDim S16384x8192 ![] bcast_S_S16384x8192 (constant S_ .f32 0x3D372713#32)) (mulf (mulf (extractStridedSlice S16384x8192 ![0, 0] U
    slices_S16384x16384_S16384x8192_0_0) (extractStridedSlice S16384x8192 ![0, 0] U slices_S16384x16384_S16384x8192_0_0)) (extractStridedSlice S16384x8192 ![0, 0] U
    slices_S16384x16384_S16384x8192_0_0))))))))) (extractStridedSlice S16384x8192 ![0, 8192] U slices_S16384x16384_S16384x8192_0_8192)) bitsLt_bf16_f32

/-- The reference's gate at an index. -/
theorem gated_point (U : FVec Ideal S16384x16384 .f32) (s : Fin 16384) (f : Fin 8192) :
    @Eq EReal (gated U (ix2 s f)) (Cert.FfnUp.act (U (ix2 s ⟨f.val, by omega⟩)) (U (ix2 s ⟨8192 + f.val, by omega⟩))) := by
  unfold Cert.FfnUp.act
  pointwise [gated, Cert.Kernel5Ideal.Gen.k0_pay2]
  simp only [mul_assoc]

/-- Three products in the other order. -/
theorem turn (a b d x y z : EReal) : a * x + b * y + d * z = (z * d + y * b) + x * a := by
  rw [mul_comm a, mul_comm b, mul_comm d, add_comm (x * a + y * b), add_comm (x * a), ← add_assoc]

/-- The word zero is the number zero. -/
theorem word_zero : @Eq EReal (FloatOps.sitofp (F := Ideal) FTy.f32 0#32) 0 := by
  show (((0#32 : BitVec 32).toInt : ℝ) : EReal) = 0
  simp

/-- The reference's convolved product at an index. -/
theorem refU_point (X : FVec Ideal S16384x4096 .bf16) (W : FVec Ideal S4096x16384 .f32) (C : FVec Ideal S3x16384 .f32) (s : Fin 16384) (f : Fin 16384) :
    @Eq EReal (refU X W C (ix2 s f)) (Cert.FfnUp.conv X W C s f) := by
  unfold Cert.FfnUp.conv
  pointwise [refU]
  refine (turn _ _ _ _ _ _).trans ?_
  refine congrArg₂ _ (congrArg₂ _ rfl (congrArg₂ _ rfl ?_)) (congrArg₂ _ rfl ?_)
  · unfold Cert.FfnUp.sh Cert.FfnUp.raw
    by_cases h : 1 ≤ s.val
    · rw [if_pos h, dif_pos (by omega)]
      refine Finset.sum_congr rfl fun k _ => ?_
      congr 3; apply Fin.ext; dsimp only; omega
    · rw [if_neg h, dif_neg (by omega)]; exact word_zero
  · unfold Cert.FfnUp.sh Cert.FfnUp.raw
    by_cases h : 2 ≤ s.val
    · rw [if_pos h, dif_pos (by omega)]
    · rw [if_neg h, dif_neg (by omega)]; exact word_zero

/-- The reference's array holds the gated result. -/
theorem result (X : FVec Ideal S16384x4096 .bf16) (W : FVec Ideal S4096x16384 .f32) (C : FVec Ideal S3x16384 .f32) :
    gated (refU X W C) = Cert.FfnUp.res X W C := by
  funext i
  have hi : i = ix2 (i 0) (i 1) := eq_ix2 i
  rw [hi]
  refine (gated_point _ _ _).trans ?_
  exact congrArg₂ Cert.FfnUp.act (refU_point X W C _ _) (refU_point X W C _ _)

end Cert.FfnUpRef

namespace Cert.FfnUp

open Cert.Kernel5Ideal Cert.Kernel5Ideal.Gen
open Idealize.ShloMosaic Idealize.ShloMosaic.TcCoe Idealize.SL.Sem

/-- The kernel over the reals computes the reference's gated convolution of the product. -/
theorem algebraic : Cert.algebraic_Kernel5Ideal_Reference5Ideal (hKernel5Ideal := Cert.Kernel5Ideal.Gen.facts) (hReference5Ideal := Cert.Reference5Ideal.Gen.facts) := by
  pair_intro
  · run_from run_main m g
  · hlo_run
    exact (Cert.FfnUpRef.result (aX m c) (aW m c) (aC m c)).trans (result m c).symm

end Cert.FfnUp

end
-- ==== Proof.MM.AddNorm.lean ====
/- The residual sum with its two norms: rows by blocks against all rows. -/
module

public import proofs.«01_k».proof.Defs
public import proofs.«01_k».proof.Proof.Gen.Kernel6Ideal.Frame
public import proofs.«01_k».proof.Proof.Gen.Reference6Ideal.Run
public import Idealize.ShloMosaic.Lib.Pipeline.ValueKit
public import Idealize.ShloMosaic.Lib.Pipeline.Value
public import Idealize.ShloMosaic.Lib.Claim

@[expose] public section

set_option maxRecDepth 16384

noncomputable section

namespace Cert.AddNorm

open Cert.Kernel6Ideal Cert.Kernel6Ideal.Gen
open Idealize.ShloMosaic Idealize.ShloMosaic.TcCoe Idealize.SL.Sem
open Idealize.ShloMosaic.Pipeline (Dat)

variable (m : (ℓ : Loc nD τ sig) → Buf (Elt Ideal) ℓ)

/-- The reference's norm. -/
def NORM (X : FVec Ideal S16384x4096 .f32) (G : FVec Ideal S4096 .f32) : FVec Ideal S16384x4096 .f32 :=
  mulf (mulf X (broadcastInDim S16384x4096 ![0, 1] Cert.Reference6Ideal.Gen.bcast_S16384x1_S16384x4096_0_1 (Host.rsqrt (addf (Host.divf (broadcastInDim Cert.Reference6Ideal.S16384x1 ![0] Cert.Reference6Ideal.Gen.bcast_S16384_S16384x1_0 (Host.reduceAdd (mulf X X) (constant Cert.Reference6Ideal.S_ .f32 0x00000000#32) Cert.Reference6Ideal.Gen.reducesTo_S16384x4096_S16384_d1 Cert.Reference6Ideal.Gen.h_S_)) (broadcastInDim Cert.Reference6Ideal.S16384x1 ![] Cert.Reference6Ideal.Gen.bcast_S_S16384x1 (constant Cert.Reference6Ideal.S_ .f32 0x45800000#32))) (broadcastInDim Cert.Reference6Ideal.S16384x1 ![] Cert.Reference6Ideal.Gen.bcast_S_S16384x1 (constant Cert.Reference6Ideal.S_ .f32 0x358637BD#32)))))) (broadcastInDim S16384x4096 ![0, 1] Cert.Reference6Ideal.Gen.bcast_S1x4096_S16384x4096_0_1 (broadcastInDim S1x4096 ![1] Cert.Reference6Ideal.Gen.bcast_S4096_S1x4096_1 G))

/-- The reference's sum. -/
def SUM (X Y : FVec Ideal S16384x4096 .f32) (G : FVec Ideal S4096 .f32) : FVec Ideal S16384x4096 .f32 := addf X (NORM Y G)

/-- The reference's norm of the sum. -/
def OUT (X Y : FVec Ideal S16384x4096 .f32) (G H : FVec Ideal S4096 .f32) : FVec Ideal S16384x4096 .bf16 :=
  truncf .bf16 (NORM (SUM X Y G) H) Cert.Reference6Ideal.Gen.bitsLt_bf16_f32

/-- Where every window's block lies. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- A point's sum is the reference's at the point's block. -/
theorem point_sum (c : Dev nD) (t : Fin cfg0.N) (y) : k0_pay1 (iblk m c 0 t) (iblk m c 1 t) (iblk m c 2 t) y
    = SUM (m ((c : Thread nD τ).loc main_arg0)) (m ((c : Thread nD τ).loc main_arg1)) (m ((c : Thread nD τ).loc main_arg2)) (((cfg0.win 4).blk t).view.emb y) := by
  pointwise [k0_pay1, SUM, NORM]
  blk_point [iblk, V, idx t]

/-- A point's norm of its sum is the reference's at the point's block. -/
theorem point_out (c : Dev nD) (t : Fin cfg0.N) (y) : k0_pay2 (iblk m c 0 t) (iblk m c 1 t) (iblk m c 2 t) (iblk m c 3 t) y
    = OUT (m ((c : Thread nD τ).loc main_arg0)) (m ((c : Thread nD τ).loc main_arg1)) (m ((c : Thread nD τ).loc main_arg2))
      (m ((c : Thread nD τ).loc main_arg3)) (((cfg0.win 5).blk t).view.emb y) := by
  pointwise [k0_pay2, k0_pay1, OUT, SUM, NORM]
  blk_point [iblk, V, idx t]

/-- The first result array is the reference's sum. -/
theorem result_sum (c : Dev nD) : (dats m 0 c).arrAt 4 (cfgs 0).N
    = SUM (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point_sum m c t y

/-- The second result array is the reference's norm of the sum. -/
theorem result_out (c : Dev nD) : (dats m 0 c).arrAt 5 (cfgs 0).N
    = OUT (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t _ y => ?_
  blk_simp
  rw [after0_5]; frame_out
  exact point_out m c t y

/-- The two programs over the reals: their results are equal element by element and the arguments end unchanged. -/
theorem algebraic : Cert.algebraic_Kernel6Ideal_Reference6Ideal (hKernel6Ideal := Cert.Kernel6Ideal.Gen.facts) (hReference6Ideal := Cert.Reference6Ideal.Gen.facts) := by
  pair_intro
  · run_from run_main m g
  · hlo_run
    · exact (result_sum m c).symm
    · exact (result_out m c).symm

end Cert.AddNorm

end
-- ==== Proof.MM.Norm.lean ====
/- The norm of the first layer's input: rows by blocks against all rows. -/
module

public import proofs.«01_k».proof.Defs
public import proofs.«01_k».proof.Proof.Gen.Kernel7Ideal.Frame
public import proofs.«01_k».proof.Proof.Gen.Reference7Ideal.Run
public import Idealize.ShloMosaic.Lib.Pipeline.ValueKit
public import Idealize.ShloMosaic.Lib.Pipeline.Value
public import Idealize.ShloMosaic.Lib.Claim

@[expose] public section

set_option maxRecDepth 16384

noncomputable section

namespace Cert.Norm

open Cert.Kernel7Ideal Cert.Kernel7Ideal.Gen
open Idealize.ShloMosaic Idealize.ShloMosaic.TcCoe Idealize.SL.Sem
open Idealize.ShloMosaic.Pipeline (Dat)

variable (m : (ℓ : Loc nD τ sig) → Buf (Elt Ideal) ℓ)

/-- The reference's norm. -/
def REF (X : FVec Ideal S16384x4096 .f32) (G : FVec Ideal S4096 .f32) : FVec Ideal S16384x4096 .bf16 :=
  truncf .bf16 (mulf (mulf X (broadcastInDim S16384x4096 ![0, 1] Cert.Reference7Ideal.Gen.bcast_S16384x1_S16384x4096_0_1 (Host.rsqrt (addf (Host.divf (broadcastInDim Cert.Reference7Ideal.S16384x1 ![0] Cert.Reference7Ideal.Gen.bcast_S16384_S16384x1_0 (Host.reduceAdd (mulf X X) (constant Cert.Reference7Ideal.S_ .f32 0x00000000#32) Cert.Reference7Ideal.Gen.reducesTo_S16384x4096_S16384_d1 Cert.Reference7Ideal.Gen.h_S_)) (broadcastInDim Cert.Reference7Ideal.S16384x1 ![] Cert.Reference7Ideal.Gen.bcast_S_S16384x1 (constant Cert.Reference7Ideal.S_ .f32 0x45800000#32))) (broadcastInDim Cert.Reference7Ideal.S16384x1 ![] Cert.Reference7Ideal.Gen.bcast_S_S16384x1 (constant Cert.Reference7Ideal.S_ .f32 0x358637BD#32)))))) (broadcastInDim S16384x4096 ![0, 1] Cert.Reference7Ideal.Gen.bcast_S1x4096_S16384x4096_0_1 (broadcastInDim S1x4096 ![1] Cert.Reference7Ideal.Gen.bcast_S4096_S1x4096_1 G))) Cert.Reference7Ideal.Gen.bitsLt_bf16_f32

/-- Where every window's block lies. -/
theorem idx : ∀ t : Fin cfg0.N, win0_0.index t = ![t.val, 0] ∧ win0_1.index t = ![0, 0] ∧ win0_2.index t = ![t.val, 0] :=
  (by decide +kernel : ∀ t : Fin grid0.N, _)

/-- A point's norm of its rows is the reference's at the point's block. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array is the reference's norm. -/
theorem result (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The two programs over the reals: their results are equal element by element and the arguments end unchanged. -/
theorem algebraic : Cert.algebraic_Kernel7Ideal_Reference7Ideal (hKernel7Ideal := Cert.Kernel7Ideal.Gen.facts) (hReference7Ideal := Cert.Reference7Ideal.Gen.facts) := by
  pair_intro
  · run_from run_main m g
  · hlo_run
    exact (result m c).symm

end Cert.Norm

end
-- ==== Proof.MM.OddProj.lean ====
/- The fourth layer's input projection: a product with laid-out columns, put back in order, against one product. -/
module

public import proofs.«01_k».proof.Defs
public import proofs.«01_k».proof.Proof.Gen.Kernel8Ideal.Frame
public import proofs.«01_k».proof.Proof.Gen.Reference8Ideal.Run
public import Idealize.ShloMosaic.Lib.Pipeline.ValueKit
public import Idealize.ShloMosaic.Lib.Pipeline.Value
public import Idealize.ShloMosaic.Lib.Claim

@[expose] public section

set_option maxRecDepth 16384

noncomputable section

namespace Cert.OddProj

open Cert.Kernel8Ideal Cert.Kernel8Ideal.Gen
open Idealize.ShloMosaic Idealize.ShloMosaic.TcCoe Idealize.SL.Sem
open Idealize.ShloMosaic.Pipeline (Dat)

variable (m : (ℓ : Loc nD τ sig) → Buf (Elt Ideal) ℓ)

/-- The weights with their columns laid out for the kernel. -/
def laid (W : FVec Ideal S4096x10752 .f32) : FVec Ideal S4096x10880 .bf16 :=
  truncf .bf16 (concatenate S4096x10880 1 [⟨S4096x4096, extractStridedSlice S4096x4096 ![0, 6656] W slices_S4096x10752_S4096x4096_0_6656⟩,
    ⟨S4096x6144, extractStridedSlice S4096x6144 ![0, 0] W slices_S4096x10752_S4096x6144_0_0⟩,
    ⟨S4096x128, pad S4096x128 ![0, 0] ![0, 32] ![0, 0] (extractStridedSlice S4096x96 ![0, 6144] W slices_S4096x10752_S4096x96_0_6144) (sitofp .f32 (constantI S_ 32 0#32)) pads_S4096x96_S4096x128_000_0320 h_S_⟩,
    ⟨S4096x128, pad S4096x128 ![0, 0] ![0, 32] ![0, 0] (extractStridedSlice S4096x96 ![0, 6240] W slices_S4096x10752_S4096x96_0_6240) (sitofp .f32 (constantI S_ 32 0#32)) pads_S4096x96_S4096x128_000_0320 h_S_⟩,
    ⟨S4096x128, pad S4096x128 ![0, 0] ![0, 64] ![0, 0] (extractStridedSlice S4096x64 ![0, 6336] W slices_S4096x10752_S4096x64_0_6336) (sitofp .f32 (constantI S_ 32 0#32)) pads_S4096x64_S4096x128_000_0640 h_S_⟩,
    ⟨S4096x256, pad S4096x256 ![0, 0] ![0, 0] ![0, 0] (extractStridedSlice S4096x256 ![0, 6400] W slices_S4096x10752_S4096x256_0_6400) (sitofp .f32 (constantI S_ 32 0#32)) pads_S4096x256_S4096x256_000_000 h_S_⟩]
    concatenates_S4096x4096_S4096x6144_S4096x128_S4096x128_S4096x128_S4096x256_S4096x10880_d1) bitsLt_bf16_f32

/-- The region finds the laid-out weights in its second array. -/
theorem V_laid (c : Dev nD) : V m c main_v11 = laid (m ((c : Thread nD τ).loc main_arg1)) := by
  unfold V V0
  simp only [hostOps0, hostOps0_1, hostOps0_2, hostOps0_3, hostOps0_4, hostOps0_5, hostOps0_6, hostOps0_7, hostOps0_8, List.flatten_cons, List.flatten_nil, List.append_nil, List.cons_append, List.nil_append]
  after_results
  try rfl

/-- The product of the rows with laid-out weights. -/
def prod (X : FVec Ideal S16384x4096 .bf16) (W : FVec Ideal S4096x10880 .bf16) : FVec Ideal S16384x10880 .f32 :=
  fun i => ∑ k : Fin 4096, X (ix2 (i 0) k) * W (ix2 k (i 1))

/-- Where every window's block lies. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- A point's product of its blocks is the whole product at the point's block. -/
theorem point (c : Dev nD) (t : Fin cfg0.N) (y) : k0_pay1 (iblk m c 0 t) (iblk m c 1 t) y
    = prod (V m c main_arg0) (V m c main_v11) (((cfg0.win 2).blk t).view.emb y) := by
  unfold prod
  pointwise [k0_pay1]
  blk_point [iblk, idx t]

/-- The call's array is the product with the laid-out weights. -/
theorem result (c : Dev nD) : (dats m 0 c).arrAt 2 (cfgs 0).N
    = prod (m ((c : Thread nD τ).loc main_arg0)) (laid (m ((c : Thread nD τ).loc main_arg1))) := by
  rw [← V_laid m c, ← V_main_arg0 m c]
  refine (dats m 0 c).arrAt_eq_of_covers 2 _ (by decide +kernel) fun t _ y => ?_
  blk_simp
  rw [after0_2]; frame_out
  exact point m c t y

/-- The array's columns put back in order. -/
def back (P : FVec Ideal S16384x10880 .f32) : FVec Ideal S16384x10752 .f32 :=
  concatenate S16384x10752 1 [⟨S16384x6144, extractStridedSlice S16384x6144 ![0, 4096] P slices_S16384x10880_S16384x6144_0_4096⟩,
    ⟨S16384x96, extractStridedSlice S16384x96 ![0, 10240] P slices_S16384x10880_S16384x96_0_10240⟩,
    ⟨S16384x96, extractStridedSlice S16384x96 ![0, 10368] P slices_S16384x10880_S16384x96_0_10368⟩,
    ⟨S16384x64, extractStridedSlice S16384x64 ![0, 10496] P slices_S16384x10880_S16384x64_0_10496⟩,
    ⟨S16384x256, extractStridedSlice S16384x256 ![0, 10624] P slices_S16384x10880_S16384x256_0_10624⟩,
    ⟨S16384x4096, extractStridedSlice S16384x4096 ![0, 0] P slices_S16384x10880_S16384x4096_0_0⟩]
    concatenates_S16384x6144_S16384x96_S16384x96_S16384x64_S16384x256_S16384x4096_S16384x10752_d1

/-- The operations after the region put the columns back in order. -/
theorem after_back (U : Valuation τ sig (Elt Ideal)) :
    StableHlo.after (hostOps1 (F := Ideal)) U (Proc.devRef .tc main_v19) = back (U (Proc.devRef .tc main_v12)) := by
  simp only [hostOps1]
  after_results
  rfl

/-- The whole program's result: the product with the laid-out weights, its columns put back. -/
theorem final (c : Dev nD) : Pipeline.afterTail₀ cfgs (dats m) 0 (V0 m) [hostOps1] c main_v19
    = back (prod (m ((c : Thread nD τ).loc main_arg0)) (laid (m ((c : Thread nD τ).loc main_arg1)))) := by
  unfold Pipeline.afterTail₀
  refine (after_back _).trans (congrArg back ?_)
  exact (Pipeline.withArrays_arr spec0 launch0.win.arr_inj c (V0 m c) (fun w => (dats m 0 c).arrAt w (cfgs 0).N) 2).trans (result m c)

/-- The reference's product. -/
def REF (X : FVec Ideal S16384x4096 .bf16) (W : FVec Ideal S4096x10752 .f32) : FVec Ideal S16384x10752 .f32 :=
  Host.dotGeneral Cert.Reference8Ideal.dot_S16384x4096_S4096x10752_S16384x10752_1_0_0_1_n_n none (extf .f32 X Cert.Reference8Ideal.Gen.bitsLt_bf16_f32) W

/-- Where a column of the product lies in the laid-out product. -/
def pos (j : ℕ) : ℕ :=
  if j < 6144 then 4096 + j else if j < 6240 then 10240 + (j - 6144) else if j < 6336 then 10368 + (j - 6240)
    else if j < 6400 then 10496 + (j - 6336) else if j < 6656 then 10624 + (j - 6400) else j - 6656

theorem pos_lt (j : Fin 10752) : pos j.val < 10880 := by unfold pos; split_ifs <;> omega

theorem pos_cases (j : ℕ) : j < 6144 ∧ pos j = 4096 + j ∨ 6144 ≤ j ∧ j < 6240 ∧ pos j = 10240 + (j - 6144)
    ∨ 6240 ≤ j ∧ j < 6336 ∧ pos j = 10368 + (j - 6240) ∨ 6336 ≤ j ∧ j < 6400 ∧ pos j = 10496 + (j - 6336)
    ∨ 6400 ≤ j ∧ j < 6656 ∧ pos j = 10624 + (j - 6400) ∨ 6656 ≤ j ∧ pos j = j - 6656 := by
  unfold pos; split_ifs <;> omega

/-- A column put back is the column at its place. -/
theorem back_at (P : FVec Ideal S16384x10880 .f32) (r : Fin 16384) (j : Fin 10752) :
    @Eq EReal (back P (ix2 r j)) (P (ix2 r ⟨pos j.val, pos_lt j⟩)) := by
  pointwise [back]
  have hp := pos_cases j.val
  split_ifs <;> exact congrArg P (congrArg (ix2 r) (Fin.ext (by dsimp only; omega)))

/-- The laid-out weights at a column's place are the column. -/
theorem laid_at (W : FVec Ideal S4096x10752 .f32) (k : Fin 4096) (j : Fin 10752) :
    @Eq EReal (laid W (ix2 k ⟨pos j.val, pos_lt j⟩)) (W (ix2 k j)) := by
  pointwise [laid]
  have hp := pos_cases j.val
  by_cases h6144 : j.val < 6144
  · refine (dif_neg (by omega)).trans ?_
    refine (dif_pos (by omega)).trans ?_
    exact congrArg W (congrArg (ix2 k) (Fin.ext (by dsimp only; omega)))
  by_cases h6240 : j.val < 6240
  · refine (dif_neg (by omega)).trans ?_
    refine (dif_neg (by omega)).trans ?_
    refine (dif_pos (by omega)).trans ?_
    refine (dif_pos (by omega)).trans ?_
    exact congrArg W (congrArg (ix2 k) (Fin.ext (by dsimp only; omega)))
  by_cases h6336 : j.val < 6336
  · refine (dif_neg (by omega)).trans ?_
    refine (dif_neg (by omega)).trans ?_
    refine (dif_neg (by omega)).trans ?_
    refine (dif_pos (by omega)).trans ?_
    refine (dif_pos (by omega)).trans ?_
    exact congrArg W (congrArg (ix2 k) (Fin.ext (by dsimp only; omega)))
  by_cases h6400 : j.val < 6400
  · refine (dif_neg (by omega)).trans ?_
    refine (dif_neg (by omega)).trans ?_
    refine (dif_neg (by omega)).trans ?_
    refine (dif_neg (by omega)).trans ?_
    refine (dif_pos (by omega)).trans ?_
    refine (dif_pos (by omega)).trans ?_
    exact congrArg W (congrArg (ix2 k) (Fin.ext (by dsimp only; omega)))
  by_cases h6656 : j.val < 6656
  · refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    exact congrArg W (congrArg (ix2 k) (Fin.ext (by dsimp only; omega)))
  refine (dif_pos (by omega)).trans ?_
  exact congrArg W (congrArg (ix2 k) (Fin.ext (by dsimp only; omega)))

/-- The laid-out product put back in order is the product. -/
theorem back_laid (X : FVec Ideal S16384x4096 .bf16) (W : FVec Ideal S4096x10752 .f32) : back (prod X (laid W)) = REF X W := by
  funext i
  idx_vars i
  refine (back_at _ _ _).trans ?_
  unfold prod
  pointwise [REF]
  exact Finset.sum_congr rfl fun k _ => congrArg₂ _ rfl (laid_at W k _)

/-- The two programs over the reals: their results are equal element by element and the arguments end unchanged. -/
theorem algebraic : Cert.algebraic_Kernel8Ideal_Reference8Ideal (hKernel8Ideal := Cert.Kernel8Ideal.Gen.facts) (hReference8Ideal := Cert.Reference8Ideal.Gen.facts) := by
  pair_intro
  · run_from run_main m g
    exact W_main_arg1 m (dats m) c
  · hlo_run
    exact ((final m c).trans (back_laid _ _)).symm

end Cert.OddProj

end
-- ==== Proof.MM.OddProjFirst.lean ====
/- The second layer's input projection, which has no value residual: a product with laid-out columns, put back in order, against one product. -/
module

public import proofs.«01_k».proof.Defs
public import proofs.«01_k».proof.Proof.Gen.Kernel9Ideal.Frame
public import proofs.«01_k».proof.Proof.Gen.Reference9Ideal.Run
public import Idealize.ShloMosaic.Lib.Pipeline.ValueKit
public import Idealize.ShloMosaic.Lib.Pipeline.Value
public import Idealize.ShloMosaic.Lib.Claim

@[expose] public section

set_option maxRecDepth 16384

noncomputable section

namespace Cert.OddProjFirst

open Cert.Kernel9Ideal Cert.Kernel9Ideal.Gen
open Idealize.ShloMosaic Idealize.ShloMosaic.TcCoe Idealize.SL.Sem
open Idealize.ShloMosaic.Pipeline (Dat)

variable (m : (ℓ : Loc nD τ sig) → Buf (Elt Ideal) ℓ)

/-- The weights with their columns laid out for the kernel. -/
def laid (W : FVec Ideal S4096x10688 .f32) : FVec Ideal S4096x10880 .bf16 :=
  truncf .bf16 (concatenate S4096x10880 1 [⟨S4096x4096, extractStridedSlice S4096x4096 ![0, 6592] W slices_S4096x10688_S4096x4096_0_6592⟩,
    ⟨S4096x6144, extractStridedSlice S4096x6144 ![0, 0] W slices_S4096x10688_S4096x6144_0_0⟩,
    ⟨S4096x128, pad S4096x128 ![0, 0] ![0, 32] ![0, 0] (extractStridedSlice S4096x96 ![0, 6144] W slices_S4096x10688_S4096x96_0_6144) (sitofp .f32 (constantI S_ 32 0#32)) pads_S4096x96_S4096x128_000_0320 h_S_⟩,
    ⟨S4096x128, pad S4096x128 ![0, 0] ![0, 32] ![0, 0] (extractStridedSlice S4096x96 ![0, 6240] W slices_S4096x10688_S4096x96_0_6240) (sitofp .f32 (constantI S_ 32 0#32)) pads_S4096x96_S4096x128_000_0320 h_S_⟩,
    ⟨S4096x128, broadcastInDim S4096x128 ![] bcast_S_S4096x128 (constant S_ .f32 0x00000000#32)⟩,
    ⟨S4096x256, pad S4096x256 ![0, 0] ![0, 0] ![0, 0] (extractStridedSlice S4096x256 ![0, 6336] W slices_S4096x10688_S4096x256_0_6336) (sitofp .f32 (constantI S_ 32 0#32)) pads_S4096x256_S4096x256_000_000 h_S_⟩]
    concatenates_S4096x4096_S4096x6144_S4096x128_S4096x128_S4096x128_S4096x256_S4096x10880_d1) bitsLt_bf16_f32

/-- The region finds the laid-out weights in its second array. -/
theorem V_laid (c : Dev nD) : V m c main_v10 = laid (m ((c : Thread nD τ).loc main_arg1)) := by
  unfold V V0
  simp only [hostOps0, hostOps0_1, hostOps0_2, hostOps0_3, hostOps0_4, hostOps0_5, hostOps0_6, List.flatten_cons, List.flatten_nil, List.append_nil, List.cons_append, List.nil_append]
  after_results
  try rfl

/-- The product of the rows with laid-out weights. -/
def prod (X : FVec Ideal S16384x4096 .bf16) (W : FVec Ideal S4096x10880 .bf16) : FVec Ideal S16384x10880 .f32 :=
  fun i => ∑ k : Fin 4096, X (ix2 (i 0) k) * W (ix2 k (i 1))

/-- Where every window's block lies. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- A point's product of its blocks is the whole product at the point's block. -/
theorem point (c : Dev nD) (t : Fin cfg0.N) (y) : k0_pay1 (iblk m c 0 t) (iblk m c 1 t) y
    = prod (V m c main_arg0) (V m c main_v10) (((cfg0.win 2).blk t).view.emb y) := by
  unfold prod
  pointwise [k0_pay1]
  blk_point [iblk, idx t]

/-- The call's array is the product with the laid-out weights. -/
theorem result (c : Dev nD) : (dats m 0 c).arrAt 2 (cfgs 0).N
    = prod (m ((c : Thread nD τ).loc main_arg0)) (laid (m ((c : Thread nD τ).loc main_arg1))) := by
  rw [← V_laid m c, ← V_main_arg0 m c]
  refine (dats m 0 c).arrAt_eq_of_covers 2 _ (by decide +kernel) fun t _ y => ?_
  blk_simp
  rw [after0_2]; frame_out
  exact point m c t y

/-- The array's columns put back in order. -/
def back (P : FVec Ideal S16384x10880 .f32) : FVec Ideal S16384x10688 .f32 :=
  concatenate S16384x10688 1 [⟨S16384x6144, extractStridedSlice S16384x6144 ![0, 4096] P slices_S16384x10880_S16384x6144_0_4096⟩,
    ⟨S16384x96, extractStridedSlice S16384x96 ![0, 10240] P slices_S16384x10880_S16384x96_0_10240⟩,
    ⟨S16384x96, extractStridedSlice S16384x96 ![0, 10368] P slices_S16384x10880_S16384x96_0_10368⟩,
    ⟨S16384x256, extractStridedSlice S16384x256 ![0, 10624] P slices_S16384x10880_S16384x256_0_10624⟩,
    ⟨S16384x4096, extractStridedSlice S16384x4096 ![0, 0] P slices_S16384x10880_S16384x4096_0_0⟩]
    concatenates_S16384x6144_S16384x96_S16384x96_S16384x256_S16384x4096_S16384x10688_d1

/-- The operations after the region put the columns back in order. -/
theorem after_back (U : Valuation τ sig (Elt Ideal)) :
    StableHlo.after (hostOps1 (F := Ideal)) U (Proc.devRef .tc main_v17) = back (U (Proc.devRef .tc main_v11)) := by
  simp only [hostOps1]
  after_results
  rfl

/-- The whole program's result: the product with the laid-out weights, its columns put back. -/
theorem final (c : Dev nD) : Pipeline.afterTail₀ cfgs (dats m) 0 (V0 m) [hostOps1] c main_v17
    = back (prod (m ((c : Thread nD τ).loc main_arg0)) (laid (m ((c : Thread nD τ).loc main_arg1)))) := by
  unfold Pipeline.afterTail₀
  refine (after_back _).trans (congrArg back ?_)
  exact (Pipeline.withArrays_arr spec0 launch0.win.arr_inj c (V0 m c) (fun w => (dats m 0 c).arrAt w (cfgs 0).N) 2).trans (result m c)

/-- The reference's product. -/
def REF (X : FVec Ideal S16384x4096 .bf16) (W : FVec Ideal S4096x10688 .f32) : FVec Ideal S16384x10688 .f32 :=
  Host.dotGeneral Cert.Reference9Ideal.dot_S16384x4096_S4096x10688_S16384x10688_1_0_0_1_n_n none (extf .f32 X Cert.Reference9Ideal.Gen.bitsLt_bf16_f32) W

/-- Where a column of the product lies in the laid-out product. -/
def pos (j : ℕ) : ℕ :=
  if j < 6144 then 4096 + j else if j < 6240 then 10240 + (j - 6144) else if j < 6336 then 10368 + (j - 6240)
    else if j < 6592 then 10624 + (j - 6336) else j - 6592

theorem pos_lt (j : Fin 10688) : pos j.val < 10880 := by unfold pos; split_ifs <;> omega

theorem pos_cases (j : ℕ) : j < 6144 ∧ pos j = 4096 + j ∨ 6144 ≤ j ∧ j < 6240 ∧ pos j = 10240 + (j - 6144)
    ∨ 6240 ≤ j ∧ j < 6336 ∧ pos j = 10368 + (j - 6240) ∨ 6336 ≤ j ∧ j < 6592 ∧ pos j = 10624 + (j - 6336)
    ∨ 6592 ≤ j ∧ pos j = j - 6592 := by
  unfold pos; split_ifs <;> omega

/-- A column put back is the column at its place. -/
theorem back_at (P : FVec Ideal S16384x10880 .f32) (r : Fin 16384) (j : Fin 10688) :
    @Eq EReal (back P (ix2 r j)) (P (ix2 r ⟨pos j.val, pos_lt j⟩)) := by
  pointwise [back]
  have hp := pos_cases j.val
  split_ifs <;> exact congrArg P (congrArg (ix2 r) (Fin.ext (by dsimp only; omega)))

/-- The laid-out weights at a column's place are the column. -/
theorem laid_at (W : FVec Ideal S4096x10688 .f32) (k : Fin 4096) (j : Fin 10688) :
    @Eq EReal (laid W (ix2 k ⟨pos j.val, pos_lt j⟩)) (W (ix2 k j)) := by
  pointwise [laid]
  have hp := pos_cases j.val
  by_cases h6144 : j.val < 6144
  · refine (dif_neg (by omega)).trans ?_
    refine (dif_pos (by omega)).trans ?_
    exact congrArg W (congrArg (ix2 k) (Fin.ext (by dsimp only; omega)))
  by_cases h6240 : j.val < 6240
  · refine (dif_neg (by omega)).trans ?_
    refine (dif_neg (by omega)).trans ?_
    refine (dif_pos (by omega)).trans ?_
    refine (dif_pos (by omega)).trans ?_
    exact congrArg W (congrArg (ix2 k) (Fin.ext (by dsimp only; omega)))
  by_cases h6336 : j.val < 6336
  · refine (dif_neg (by omega)).trans ?_
    refine (dif_neg (by omega)).trans ?_
    refine (dif_neg (by omega)).trans ?_
    refine (dif_pos (by omega)).trans ?_
    refine (dif_pos (by omega)).trans ?_
    exact congrArg W (congrArg (ix2 k) (Fin.ext (by dsimp only; omega)))
  by_cases h6592 : j.val < 6592
  · refine (dif_neg (by omega)).trans ?_
    refine (dif_neg (by omega)).trans ?_
    refine (dif_neg (by omega)).trans ?_
    refine (dif_neg (by omega)).trans ?_
    refine (dif_neg (by omega)).trans ?_
    refine (dif_pos (by omega)).trans ?_
    exact congrArg W (congrArg (ix2 k) (Fin.ext (by dsimp only; omega)))
  refine (dif_pos (by omega)).trans ?_
  exact congrArg W (congrArg (ix2 k) (Fin.ext (by dsimp only; omega)))

/-- The laid-out product put back in order is the product. -/
theorem back_laid (X : FVec Ideal S16384x4096 .bf16) (W : FVec Ideal S4096x10688 .f32) : back (prod X (laid W)) = REF X W := by
  funext i
  idx_vars i
  refine (back_at _ _ _).trans ?_
  unfold prod
  pointwise [REF]
  exact Finset.sum_congr rfl fun k _ => congrArg₂ _ rfl (laid_at W k _)

/-- The two programs over the reals: their results are equal element by element and the arguments end unchanged. -/
theorem algebraic : Cert.algebraic_Kernel9Ideal_Reference9Ideal (hKernel9Ideal := Cert.Kernel9Ideal.Gen.facts) (hReference9Ideal := Cert.Reference9Ideal.Gen.facts) := by
  pair_intro
  · run_from run_main m g
    exact W_main_arg1 m (dats m) c
  · hlo_run
    exact ((final m c).trans (back_laid _ _)).symm

end Cert.OddProjFirst

end
-- ==== Proof.MM.LruScan.lean ====
/- A linear recurrence run over rows, and its evaluation by doubling spans: plain lemmas over the extended reals. -/
module

public import Idealize.ShloMosaic.Lib.Pipeline.ValueKit

@[expose] public section

noncomputable section

namespace Cert.LruScan

/-- `k` rows of the recurrence from row `s`, started at `h`. -/
def run (a b : ℕ → EReal) (s : ℕ) : ℕ → EReal → EReal
  | 0, h => h
  | k + 1, h => a (s + k) * run a b s k h + b (s + k)

theorem run_add (a b : ℕ → EReal) (s j k : ℕ) (h : EReal) : run a b s (j + k) h = run a b (s + j) k (run a b s j h) := by
  induction k with
  | zero => rfl
  | succ k ih =>
    rw [← Nat.add_assoc]
    show a (s + (j + k)) * run a b s (j + k) h + b (s + (j + k)) = a (s + j + k) * run a b (s + j) k (run a b s j h) + b (s + j + k)
    rw [ih, Nat.add_assoc]

theorem run_congr (a b a' b' : ℕ → EReal) (s : ℕ) (k : ℕ) (h : EReal) (s' : ℕ)
    (ha : ∀ i < k, a (s + i) = a' (s' + i)) (hb : ∀ i < k, b (s + i) = b' (s' + i)) : run a b s k h = run a' b' s' k h := by
  induction k with
  | zero => rfl
  | succ k ih =>
    show a (s + k) * run a b s k h + b (s + k) = a' (s' + k) * run a' b' s' k h + b' (s' + k)
    rw [ih (fun i hi => ha i (by omega)) (fun i hi => hb i (by omega)), ha k (by omega), hb k (by omega)]

/-- One level of doubling on the factors. -/
def stepA (d : ℕ) (A : Fin 256 → EReal) (y : Fin 256) : EReal := A y * (if h : d ≤ y.val then A ⟨y.val - d, by omega⟩ else 1)

/-- One level of doubling on the terms. -/
def stepB (d : ℕ) (A B : Fin 256 → EReal) (y : Fin 256) : EReal := A y * (if h : d ≤ y.val then B ⟨y.val - d, by omega⟩ else 0) + B y

/-- Spans of at most `d` rows ending at each row: the factor is in the unit interval, and factor and term together run the rows. -/
def Spans (a b : ℕ → EReal) (d : ℕ) (A B : Fin 256 → EReal) : Prop :=
  ∀ y : Fin 256, 0 ≤ A y ∧ A y ≤ 1 ∧ ∀ h : EReal, A y * h + B y = run a b (y.val + 1 - d) (min (y.val + 1) d) h

theorem spans_one (a b : ℕ → EReal) (A B : Fin 256 → EReal) (hA : ∀ y : Fin 256, A y = a y.val) (hB : ∀ y : Fin 256, B y = b y.val)
    (h0 : ∀ y : Fin 256, 0 ≤ A y) (h1 : ∀ y : Fin 256, A y ≤ 1) : Spans a b 1 A B := by
  intro y
  refine ⟨h0 y, h1 y, fun h => ?_⟩
  rw [show min (y.val + 1) 1 = 1 from by omega, show y.val + 1 - 1 = y.val from by omega, hA, hB]
  rfl

theorem spans_step (a b : ℕ → EReal) (d : ℕ) (A B : Fin 256 → EReal) (hs : Spans a b d A B) :
    Spans a b (2 * d) (stepA d A) (stepB d A B) := by
  intro y
  obtain ⟨h0, h1, hr⟩ := hs y
  by_cases hd : d ≤ y.val
  · obtain ⟨k0, k1, kr⟩ := hs ⟨y.val - d, by omega⟩
    unfold stepA stepB
    rw [dif_pos hd, dif_pos hd]
    refine ⟨mul_nonneg h0 k0, ?_, fun h => ?_⟩
    · calc A y * A ⟨y.val - d, by omega⟩ ≤ 1 * 1 := mul_le_mul h1 k1 k0 zero_le_one
        _ = 1 := one_mul 1
    · have ht : A y ≠ ⊤ := ne_top_of_le_ne_top (EReal.coe_ne_top 1) h1
      rw [← add_assoc, mul_assoc, ← EReal.left_distrib_of_nonneg_of_ne_top h0 ht, kr, hr, ]
      dsimp only
      have e : min (y.val + 1) (2 * d) = min (y.val - d + 1) d + min (y.val + 1) d := by omega
      rw [e, run_add]
      congr 1
      · omega
      · congr 1; omega
  · unfold stepA stepB
    rw [dif_neg hd, dif_neg hd, mul_one, mul_zero, zero_add]
    refine ⟨h0, h1, fun h => ?_⟩
    rw [hr]
    congr 1 <;> omega

/-- Eight levels: every row's span reaches the first row. -/
theorem spans_all (a b : ℕ → EReal) (A B : Fin 256 → EReal) (hs : Spans a b 256 A B) (y : Fin 256) (h : EReal) :
    B y + A y * h = run a b 0 (y.val + 1) h := by
  rw [add_comm, (hs y).2.2 h]
  congr 1 <;> omega

end Cert.LruScan

end
-- ==== Proof.MM.LruScalar.lean ====
/- The gates of the linear recurrence, one element at a time. -/
module

public import Idealize.ShloMosaic.Lib.Pipeline.ValueKit

@[expose] public section

noncomputable section

namespace Cert.Lru

open Idealize.ShloMosaic

/-- The sigmoid. -/
def sg (g : EReal) : EReal := Ideal.div 1 (1 + Ideal.exp (-g))

/-- The softplus. -/
def soft (l : EReal) : EReal := max l 0 + Ideal.log1p (Ideal.exp (-(max l (-l))))

/-- The logarithm of the decay. -/
def la (g l : EReal) : EReal := Ideal.ofBits .f32 0xC1000000#32 * sg g * soft (-l)

/-- The decay. -/
def aa (g l : EReal) : EReal := Ideal.exp (la g l)

/-- The input term. -/
def bb (g g' l x : EReal) : EReal :=
  Ideal.sqrt (-(Ideal.exp (Ideal.ofBits .f32 0x40000000#32 * la g l) - 1)) * sg g' * x

theorem ofBits_neg_eight : Ideal.ofBits .f32 0xC1000000#32 = ((-8 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_half : Ideal.ofBits .f32 0xBF000000#32 = ((-(1/2) : ℝ) : EReal) := by
  simp [Ideal.ofBits, Ideal.ieee, -EReal.coe_mul]; norm_num

theorem exp_nonneg (x : EReal) : 0 ≤ Ideal.exp x := by
  induction x with
  | bot => exact le_refl _
  | top => exact le_top
  | coe r => show (0 : EReal) ≤ ((Real.exp r : ℝ) : EReal); exact_mod_cast (Real.exp_pos r).le

theorem exp_le_one {x : EReal} (h : x ≤ 0) : Ideal.exp x ≤ 1 := by
  induction x with
  | bot => exact zero_le_one
  | top => exact absurd h (by simp)
  | coe r =>
    show ((Real.exp r : ℝ) : EReal) ≤ 1
    have hr : r ≤ 0 := by exact_mod_cast h
    exact_mod_cast Real.exp_le_one_iff.2 hr

theorem sg_nonneg (g : EReal) : 0 ≤ sg g := by
  have hp : (0 : EReal) < 1 + Ideal.exp (-g) := lt_of_lt_of_le zero_lt_one (le_add_of_nonneg_right (exp_nonneg _))
  unfold sg Ideal.div
  rw [if_neg hp.ne', one_mul]
  exact EReal.inv_nonneg_of_nonneg hp.le

theorem log_nonneg {x : EReal} (h : 1 ≤ x) : 0 ≤ Ideal.log x := by
  induction x with
  | bot => exact absurd (lt_of_lt_of_le (EReal.bot_lt_coe 1) h) (lt_irrefl _)
  | top => exact le_top
  | coe r =>
    have hr : (1 : ℝ) ≤ r := by exact_mod_cast h
    show (0 : EReal) ≤ if r ≤ 0 then ⊥ else ((Real.log r : ℝ) : EReal)
    rw [if_neg (by linarith)]
    exact_mod_cast Real.log_nonneg hr

theorem soft_nonneg (l : EReal) : 0 ≤ soft l :=
  add_nonneg (le_max_right _ _) (log_nonneg (le_add_of_nonneg_right (exp_nonneg _)))

theorem neg_mul_nonpos {x y : EReal} (hx : x ≤ 0) (hy : 0 ≤ y) : x * y ≤ 0 := by
  have h : 0 ≤ (-x) * y := mul_nonneg (EReal.neg_nonneg.2 hx) hy
  rw [EReal.neg_mul] at h
  exact EReal.neg_nonneg.1 h

theorem la_nonpos (g l : EReal) : la g l ≤ 0 := by
  unfold la
  refine neg_mul_nonpos (neg_mul_nonpos ?_ (sg_nonneg g)) (soft_nonneg _)
  rw [ofBits_neg_eight]; exact_mod_cast (by norm_num : (-8 : ℝ) ≤ 0)

theorem aa_nonneg (g l : EReal) : 0 ≤ aa g l := exp_nonneg _

theorem aa_le_one (g l : EReal) : aa g l ≤ 1 := exp_le_one (la_nonpos g l)

theorem two_la_nonpos (g l : EReal) : Ideal.ofBits .f32 0x40000000#32 * la g l ≤ 0 := by
  rw [mul_comm]
  refine neg_mul_nonpos (la_nonpos g l) ?_
  rw [ofBits_two]; exact_mod_cast (by norm_num : (0 : ℝ) ≤ 2)

/-- The exponential less one by its two branches. -/
theorem expm1_form {y : EReal} (h : y ≤ 0) : (if Ideal.exp y = 1 then y
    else if y < Ideal.ofBits .f32 0xBF000000#32 then Ideal.exp y - 1
    else Ideal.div ((Ideal.exp y - 1) * y) (Ideal.log (Ideal.exp y))) = Ideal.exp y - 1 := by
  rw [ofBits_neg_half]
  induction y with
  | bot =>
    have e : Ideal.exp ⊥ = 0 := rfl
    rw [e, if_neg zero_ne_one, if_pos (EReal.bot_lt_coe _)]
  | top => exact absurd h (by simp)
  | coe r =>
    have e : Ideal.exp (r : EReal) = ((Real.exp r : ℝ) : EReal) := rfl
    rw [e]
    by_cases h1 : ((Real.exp r : ℝ) : EReal) = 1
    · have hr : r = 0 := by
        have : Real.exp r = 1 := by exact_mod_cast h1
        exact Real.exp_eq_one_iff r |>.1 this
      rw [if_pos h1, h1, hr]
      show ((0 : ℝ) : EReal) = ((1 : ℝ) : EReal) - ((1 : ℝ) : EReal)
      rw [← EReal.coe_sub, sub_self]
    · rw [if_neg h1]
      have hr : r ≠ 0 := by
        rintro rfl
        exact h1 (by rw [Real.exp_zero]; rfl)
      split_ifs with h2
      · rfl
      · have hl : Ideal.log ((Real.exp r : ℝ) : EReal) = (r : EReal) := by
          show (if Real.exp r ≤ 0 then (⊥ : EReal) else ((Real.log (Real.exp r) : ℝ) : EReal)) = _
          rw [if_neg (not_le.2 (Real.exp_pos r)), Real.log_exp]
        rw [hl, Ideal.div_coe hr, mul_assoc, ← EReal.coe_mul, mul_one_div_cancel hr]
        exact mul_one _

end Cert.Lru

end
-- ==== Proof.MM.LruBlock.lean ====
/- One block of the linear recurrence: its convolution, its gates and its doubling scan, element by element. -/
module

public import proofs.«01_k».proof.Defs
public import proofs.«01_k».proof.Proof.Gen.Kernel10Ideal.Value
public import proofs.«01_k».proof.Proof.MM.LruScan
public import proofs.«01_k».proof.Proof.MM.LruScalar
public import Idealize.ShloMosaic.Lib.Pipeline.ValueKit
public import Idealize.ShloMosaic.Lib.Pipeline.Value
public import Idealize.ShloMosaic.Lib.Pipeline.ReadBack
public import Idealize.ShloMosaic.Lib.Claim

@[expose] public section

set_option maxRecDepth 16384

noncomputable section

namespace Cert.Lru

open Cert.Kernel10Ideal Cert.Kernel10Ideal.Gen
open Idealize.ShloMosaic Idealize.ShloMosaic.TcCoe Idealize.SL.Sem
open Idealize.ShloMosaic.Pipeline (Dat)
open Cert.LruScan

/-- The factors after one level of doubling over the rows of a block. -/
def rotA (d : BitVec 32) (A : FVec Ideal S256x512 .f32) : FVec Ideal S256x512 .f32 :=
  mulf A (select (cmpi .sge (iota .tc S256x512 32 [0] iota_S256x512_d0_w32) (broadcast S256x512 d))
    (dynamicRotate 0 d none A rotates_S256x512_d0) (broadcast S256x512 (Scalar.ofBits .f32 0x3F800000#32)))

/-- The terms after one level of doubling over the rows of a block. -/
def rotB (d : BitVec 32) (A B : FVec Ideal S256x512 .f32) : FVec Ideal S256x512 .f32 :=
  addf (mulf A (select (cmpi .sge (iota .tc S256x512 32 [0] iota_S256x512_d0_w32) (broadcast S256x512 d))
    (dynamicRotate 0 d none B rotates_S256x512_d0) (broadcast S256x512 (Scalar.ofBits .f32 0x00000000#32)))) B

/-- One column of a block. -/
def col (A : FVec Ideal S256x512 .f32) (z : Fin 512) (y : Fin 256) : EReal := A (ix2 y z)

/-- The terms before the first level. -/
def bv (xb s e w : FVec Ideal S256x512 .f32) : FVec Ideal S256x512 .f32 :=
  mulf (mulf s (divf (broadcast S256x512 (Scalar.ofBits .f32 0x3F800000#32)) (addf w e))) xb

theorem pay28_eq (xb A s e w : FVec Ideal S256x512 .f32) : k0_pay28 xb A s e w
    = rotB 4#32 (rotA 2#32 (rotA 1#32 A)) (rotB 2#32 (rotA 1#32 A) (rotB 1#32 A (bv xb s e w))) := rfl

theorem pay29_eq (A : FVec Ideal S256x512 .f32) : k0_pay29 A = rotA 4#32 (rotA 2#32 (rotA 1#32 A)) := rfl

theorem pay38_eq (A B : FVec Ideal S256x512 .f32) : k0_pay38 (iota .tc S256x512 32 [0] iota_S256x512_d0_w32) B (k0_pay29 A) k0_pay30 (k0_pay31 A)
    = rotB 64#32 (rotA 32#32 (rotA 16#32 (rotA 8#32 (k0_pay29 A)))) (rotB 32#32 (rotA 16#32 (rotA 8#32 (k0_pay29 A)))
      (rotB 16#32 (rotA 8#32 (k0_pay29 A)) (rotB 8#32 (k0_pay29 A) B))) := rfl

theorem pay39_eq (A : FVec Ideal S256x512 .f32) : k0_pay39 (iota .tc S256x512 32 [0] iota_S256x512_d0_w32) (k0_pay29 A) k0_pay30 (k0_pay31 A)
    = rotA 64#32 (rotA 32#32 (rotA 16#32 (rotA 8#32 (k0_pay29 A)))) := rfl

theorem pay40_eq (A B : FVec Ideal S256x512 .f32) (h : Vec Ideal S1x512 .f32) :
    k0_pay40 (iota .tc S256x512 32 [0] iota_S256x512_d0_w32) B A 128#32 h
    = addf (rotB 128#32 A B) (mulf (rotA 128#32 A) (broadcastTo S256x512 h broadcasts_S1x512_S256x512)) := rfl

/-- A word comparison of a row with a small natural, selecting. -/
theorem select_ge (a b : ℕ) (ha : a < 256) (hb : b < 256) (u v : EReal) :
    Scalar.select (IntOp.cmpi .sge (BitVec.ofNat 32 a) (BitVec.ofNat 32 b)) u v = if b ≤ a then u else v := by
  by_cases h : b ≤ a <;> word_cmp

theorem colA_1 (A : FVec Ideal S256x512 .f32) (z : Fin 512) : col (rotA 1#32 A) z = stepA 1 (col A z) := by
  funext y
  unfold col stepA
  pointwise [rotA]
  rw [select_ge y.val 1 y.isLt (by decide)]
  by_cases h : 1 ≤ y.val
  · rw [if_pos h, dif_pos h]
    have e : (⟨(y.val + 256 - 1) % 256, by omega⟩ : Fin 256) = ⟨y.val - 1, by omega⟩ := Fin.ext (by show (y.val + 256 - 1) % 256 = y.val - 1; omega)
    rw [e]
  · rw [if_neg h, dif_neg h]

theorem colB_1 (A B : FVec Ideal S256x512 .f32) (z : Fin 512) : col (rotB 1#32 A B) z = stepB 1 (col A z) (col B z) := by
  funext y
  unfold col stepB
  pointwise [rotB]
  rw [select_ge y.val 1 y.isLt (by decide)]
  by_cases h : 1 ≤ y.val
  · rw [if_pos h, dif_pos h]
    have e : (⟨(y.val + 256 - 1) % 256, by omega⟩ : Fin 256) = ⟨y.val - 1, by omega⟩ := Fin.ext (by show (y.val + 256 - 1) % 256 = y.val - 1; omega)
    rw [e]
  · rw [if_neg h, dif_neg h, mul_zero]

theorem colA_2 (A : FVec Ideal S256x512 .f32) (z : Fin 512) : col (rotA 2#32 A) z = stepA 2 (col A z) := by
  funext y
  unfold col stepA
  pointwise [rotA]
  rw [select_ge y.val 2 y.isLt (by decide)]
  by_cases h : 2 ≤ y.val
  · rw [if_pos h, dif_pos h]
    have e : (⟨(y.val + 256 - 2) % 256, by omega⟩ : Fin 256) = ⟨y.val - 2, by omega⟩ := Fin.ext (by show (y.val + 256 - 2) % 256 = y.val - 2; omega)
    rw [e]
  · rw [if_neg h, dif_neg h]

theorem colB_2 (A B : FVec Ideal S256x512 .f32) (z : Fin 512) : col (rotB 2#32 A B) z = stepB 2 (col A z) (col B z) := by
  funext y
  unfold col stepB
  pointwise [rotB]
  rw [select_ge y.val 2 y.isLt (by decide)]
  by_cases h : 2 ≤ y.val
  · rw [if_pos h, dif_pos h]
    have e : (⟨(y.val + 256 - 2) % 256, by omega⟩ : Fin 256) = ⟨y.val - 2, by omega⟩ := Fin.ext (by show (y.val + 256 - 2) % 256 = y.val - 2; omega)
    rw [e]
  · rw [if_neg h, dif_neg h, mul_zero]

theorem colA_4 (A : FVec Ideal S256x512 .f32) (z : Fin 512) : col (rotA 4#32 A) z = stepA 4 (col A z) := by
  funext y
  unfold col stepA
  pointwise [rotA]
  rw [select_ge y.val 4 y.isLt (by decide)]
  by_cases h : 4 ≤ y.val
  · rw [if_pos h, dif_pos h]
    have e : (⟨(y.val + 256 - 4) % 256, by omega⟩ : Fin 256) = ⟨y.val - 4, by omega⟩ := Fin.ext (by show (y.val + 256 - 4) % 256 = y.val - 4; omega)
    rw [e]
  · rw [if_neg h, dif_neg h]

theorem colB_4 (A B : FVec Ideal S256x512 .f32) (z : Fin 512) : col (rotB 4#32 A B) z = stepB 4 (col A z) (col B z) := by
  funext y
  unfold col stepB
  pointwise [rotB]
  rw [select_ge y.val 4 y.isLt (by decide)]
  by_cases h : 4 ≤ y.val
  · rw [if_pos h, dif_pos h]
    have e : (⟨(y.val + 256 - 4) % 256, by omega⟩ : Fin 256) = ⟨y.val - 4, by omega⟩ := Fin.ext (by show (y.val + 256 - 4) % 256 = y.val - 4; omega)
    rw [e]
  · rw [if_neg h, dif_neg h, mul_zero]

theorem colA_8 (A : FVec Ideal S256x512 .f32) (z : Fin 512) : col (rotA 8#32 A) z = stepA 8 (col A z) := by
  funext y
  unfold col stepA
  pointwise [rotA]
  rw [select_ge y.val 8 y.isLt (by decide)]
  by_cases h : 8 ≤ y.val
  · rw [if_pos h, dif_pos h]
    have e : (⟨(y.val + 256 - 8) % 256, by omega⟩ : Fin 256) = ⟨y.val - 8, by omega⟩ := Fin.ext (by show (y.val + 256 - 8) % 256 = y.val - 8; omega)
    rw [e]
  · rw [if_neg h, dif_neg h]

theorem colB_8 (A B : FVec Ideal S256x512 .f32) (z : Fin 512) : col (rotB 8#32 A B) z = stepB 8 (col A z) (col B z) := by
  funext y
  unfold col stepB
  pointwise [rotB]
  rw [select_ge y.val 8 y.isLt (by decide)]
  by_cases h : 8 ≤ y.val
  · rw [if_pos h, dif_pos h]
    have e : (⟨(y.val + 256 - 8) % 256, by omega⟩ : Fin 256) = ⟨y.val - 8, by omega⟩ := Fin.ext (by show (y.val + 256 - 8) % 256 = y.val - 8; omega)
    rw [e]
  · rw [if_neg h, dif_neg h, mul_zero]

theorem colA_16 (A : FVec Ideal S256x512 .f32) (z : Fin 512) : col (rotA 16#32 A) z = stepA 16 (col A z) := by
  funext y
  unfold col stepA
  pointwise [rotA]
  rw [select_ge y.val 16 y.isLt (by decide)]
  by_cases h : 16 ≤ y.val
  · rw [if_pos h, dif_pos h]
    have e : (⟨(y.val + 256 - 16) % 256, by omega⟩ : Fin 256) = ⟨y.val - 16, by omega⟩ := Fin.ext (by show (y.val + 256 - 16) % 256 = y.val - 16; omega)
    rw [e]
  · rw [if_neg h, dif_neg h]

theorem colB_16 (A B : FVec Ideal S256x512 .f32) (z : Fin 512) : col (rotB 16#32 A B) z = stepB 16 (col A z) (col B z) := by
  funext y
  unfold col stepB
  pointwise [rotB]
  rw [select_ge y.val 16 y.isLt (by decide)]
  by_cases h : 16 ≤ y.val
  · rw [if_pos h, dif_pos h]
    have e : (⟨(y.val + 256 - 16) % 256, by omega⟩ : Fin 256) = ⟨y.val - 16, by omega⟩ := Fin.ext (by show (y.val + 256 - 16) % 256 = y.val - 16; omega)
    rw [e]
  · rw [if_neg h, dif_neg h, mul_zero]

theorem colA_32 (A : FVec Ideal S256x512 .f32) (z : Fin 512) : col (rotA 32#32 A) z = stepA 32 (col A z) := by
  funext y
  unfold col stepA
  pointwise [rotA]
  rw [select_ge y.val 32 y.isLt (by decide)]
  by_cases h : 32 ≤ y.val
  · rw [if_pos h, dif_pos h]
    have e : (⟨(y.val + 256 - 32) % 256, by omega⟩ : Fin 256) = ⟨y.val - 32, by omega⟩ := Fin.ext (by show (y.val + 256 - 32) % 256 = y.val - 32; omega)
    rw [e]
  · rw [if_neg h, dif_neg h]

theorem colB_32 (A B : FVec Ideal S256x512 .f32) (z : Fin 512) : col (rotB 32#32 A B) z = stepB 32 (col A z) (col B z) := by
  funext y
  unfold col stepB
  pointwise [rotB]
  rw [select_ge y.val 32 y.isLt (by decide)]
  by_cases h : 32 ≤ y.val
  · rw [if_pos h, dif_pos h]
    have e : (⟨(y.val + 256 - 32) % 256, by omega⟩ : Fin 256) = ⟨y.val - 32, by omega⟩ := Fin.ext (by show (y.val + 256 - 32) % 256 = y.val - 32; omega)
    rw [e]
  · rw [if_neg h, dif_neg h, mul_zero]

theorem colA_64 (A : FVec Ideal S256x512 .f32) (z : Fin 512) : col (rotA 64#32 A) z = stepA 64 (col A z) := by
  funext y
  unfold col stepA
  pointwise [rotA]
  rw [select_ge y.val 64 y.isLt (by decide)]
  by_cases h : 64 ≤ y.val
  · rw [if_pos h, dif_pos h]
    have e : (⟨(y.val + 256 - 64) % 256, by omega⟩ : Fin 256) = ⟨y.val - 64, by omega⟩ := Fin.ext (by show (y.val + 256 - 64) % 256 = y.val - 64; omega)
    rw [e]
  · rw [if_neg h, dif_neg h]

theorem colB_64 (A B : FVec Ideal S256x512 .f32) (z : Fin 512) : col (rotB 64#32 A B) z = stepB 64 (col A z) (col B z) := by
  funext y
  unfold col stepB
  pointwise [rotB]
  rw [select_ge y.val 64 y.isLt (by decide)]
  by_cases h : 64 ≤ y.val
  · rw [if_pos h, dif_pos h]
    have e : (⟨(y.val + 256 - 64) % 256, by omega⟩ : Fin 256) = ⟨y.val - 64, by omega⟩ := Fin.ext (by show (y.val + 256 - 64) % 256 = y.val - 64; omega)
    rw [e]
  · rw [if_neg h, dif_neg h, mul_zero]

theorem colA_128 (A : FVec Ideal S256x512 .f32) (z : Fin 512) : col (rotA 128#32 A) z = stepA 128 (col A z) := by
  funext y
  unfold col stepA
  pointwise [rotA]
  rw [select_ge y.val 128 y.isLt (by decide)]
  by_cases h : 128 ≤ y.val
  · rw [if_pos h, dif_pos h]
    have e : (⟨(y.val + 256 - 128) % 256, by omega⟩ : Fin 256) = ⟨y.val - 128, by omega⟩ := Fin.ext (by show (y.val + 256 - 128) % 256 = y.val - 128; omega)
    rw [e]
  · rw [if_neg h, dif_neg h]

theorem colB_128 (A B : FVec Ideal S256x512 .f32) (z : Fin 512) : col (rotB 128#32 A B) z = stepB 128 (col A z) (col B z) := by
  funext y
  unfold col stepB
  pointwise [rotB]
  rw [select_ge y.val 128 y.isLt (by decide)]
  by_cases h : 128 ≤ y.val
  · rw [if_pos h, dif_pos h]
    have e : (⟨(y.val + 256 - 128) % 256, by omega⟩ : Fin 256) = ⟨y.val - 128, by omega⟩ := Fin.ext (by show (y.val + 256 - 128) % 256 = y.val - 128; omega)
    rw [e]
  · rw [if_neg h, dif_neg h, mul_zero]

/-- The whole doubling scan of a block, over the carried row. -/
def scan (xb A s e w : FVec Ideal S256x512 .f32) (h : Vec Ideal S1x512 .f32) : FVec Ideal S256x512 .f32 :=
  k0_pay40 (iota .tc S256x512 32 [0] iota_S256x512_d0_w32)
    (k0_pay38 (iota .tc S256x512 32 [0] iota_S256x512_d0_w32) (k0_pay28 xb A s e w) (k0_pay29 A) k0_pay30 (k0_pay31 A))
    (k0_pay39 (iota .tc S256x512 32 [0] iota_S256x512_d0_w32) (k0_pay29 A) k0_pay30 (k0_pay31 A)) 128#32 h

/-- The scan runs the recurrence from the carried row. -/
theorem scan_run (xb A s e w : FVec Ideal S256x512 .f32) (h : Vec Ideal S1x512 .f32) (a b : ℕ → EReal) (y : Fin 256) (z : Fin 512)
    (hs : Spans a b 1 (col A z) (col (bv xb s e w) z)) :
    @Eq EReal (scan xb A s e w h (ix2 y z)) (run a b 0 (y.val + 1) (h (ix2 0 z))) := by
  unfold scan
  rw [pay40_eq, pay38_eq, pay39_eq, pay29_eq, pay28_eq]
  have s2 := spans_step _ _ _ _ _ hs
  rw [← colA_1, ← colB_1] at s2
  have s4 := spans_step _ _ _ _ _ s2
  rw [← colA_2, ← colB_2] at s4
  have s8 := spans_step _ _ _ _ _ s4
  rw [← colA_4, ← colB_4] at s8
  have s16 := spans_step _ _ _ _ _ s8
  rw [← colA_8, ← colB_8] at s16
  have s32 := spans_step _ _ _ _ _ s16
  rw [← colA_16, ← colB_16] at s32
  have s64 := spans_step _ _ _ _ _ s32
  rw [← colA_32, ← colB_32] at s64
  have s128 := spans_step _ _ _ _ _ s64
  rw [← colA_64, ← colB_64] at s128
  have s256 := spans_step _ _ _ _ _ s128
  rw [← colA_128, ← colB_128] at s256
  refine Eq.trans ?_ (spans_all a b _ _ s256 y (h (ix2 0 z)))
  generalize rotB 128#32 _ _ = B'
  generalize rotA 128#32 _ = A'
  unfold col
  pointwise

/-- Three shifted rows of a block, the wrapped rows replaced by the rows before the block. -/
def back (x : Vec Ideal S256x512 .f32) (p : Vec Ideal S8x512 .f32) (d : ℕ) (hd : d ≤ 8) (y : Fin 256) (z : Fin 512) : EReal :=
  if h : d ≤ y.val then x (ix2 ⟨y.val - d, by omega⟩ z) else p (ix2 ⟨8 + y.val - d, by omega⟩ z)

theorem select_eq (a b : ℕ) (ha : a < 256) (hb : b < 256) (u v : EReal) :
    Scalar.select (IntOp.cmpi .eq (BitVec.ofNat 32 a) (BitVec.ofNat 32 b)) u v = if a = b then u else v := by
  by_cases h : a = b
  · subst a; word_cmp
  · word_cmp

section Conv

variable (i : grid0.Coords) (x : Vec Ideal S256x512 .f32) (xh : Vec Ideal S8x512 .f32) (cw : Vec Ideal S4x512 .f32) (cb : Vec Ideal S1x512 .f32)
  (y : Fin 256) (z : Fin 512)

/-- The convolved block. -/
abbrev xbv : FVec Ideal S256x512 .f32 :=
  k0_pay8 (k0_pay2 x) (k0_pay3 i xh) cw (k0_pay4 i x xh cw cb) (k0_pay5 cw) (iota Kind.tc S256x512 32 [0] iota_S256x512_d0_w32)
    (k0_pay6 i x xh) k0_pay7

/-- The convolution at an element. -/
theorem conv_at : @Eq EReal (xbv i x xh cw cb (ix2 y z))
    (((cw (ix2 3 z) * x (ix2 y z) + cb (ix2 0 z)) + cw (ix2 2 z) * back x (k0_pay3 i xh) 1 (by decide) y z)
      + cw (ix2 1 z) * back x (k0_pay3 i xh) 2 (by decide) y z + cw (ix2 0 z) * back x (k0_pay3 i xh) 3 (by decide) y z) := by
  unfold xbv
  pointwise [k0_pay8, k0_pay4, k0_pay5, k0_pay6, k0_pay7, k0_pay2]
  generalize k0_pay3 i xh = p
  unfold back
  refine congrArg₂ _ (congrArg₂ _ (congrArg₂ _ rfl (congrArg₂ _ rfl ?_)) (congrArg₂ _ rfl ?_)) (congrArg₂ _ rfl ?_)
  all_goals
    simp only [select_eq y.val 0 y.isLt (by decide), select_eq y.val 1 y.isLt (by decide), select_eq y.val 2 y.isLt (by decide)]
    split_ifs <;> first
      | omega
      | (congr 2; apply Fin.ext; dsimp only; omega)
      | (congr 2; apply Fin.ext; show (_ : ℕ) = _; simp; omega)

variable (gw : Vec Ideal S2x4x128x128 .bf16) (gb : Vec Ideal S2x512 .f32) (l : Vec Ideal S1x512 .f32) (gt : Vec Ideal S256x512 .f32)
  (h : Vec Ideal S1x512 .f32)

/-- A gate's product with the weights of its group. -/
def gate (X : FVec Ideal S256x512 .f32) (k : Fin 2) : EReal :=
  ∑ q : Fin 128, X (ix2 y ⟨z.val / 128 * 128 + q.val, by omega⟩) * gw (ix4 k ⟨z.val / 128, by omega⟩ q ⟨z.val % 128, by omega⟩)

/-- The exponential of the first gate's negative. -/
abbrev e0v : FVec Ideal S256x512 .f32 :=
  k0_pay17 (k0_pay9 (k0_pay2 x) (k0_pay3 i xh) cw (k0_pay4 i x xh cw cb) (k0_pay5 cw) (iota Kind.tc S256x512 32 [0] iota_S256x512_d0_w32) (k0_pay6 i x xh) k0_pay7) (k0_pay11 (k0_pay2 x) (k0_pay3 i xh) cw (k0_pay4 i x xh cw cb) (k0_pay5 cw) (iota Kind.tc S256x512 32 [0] iota_S256x512_d0_w32) (k0_pay6 i x xh) k0_pay7 (View.ld gw (Rect.unit ![0, 0, 0, 0] ![1, 1, 128, 128] inb_S2x4x128x128_S1x1x128x128_0_0_0_0)))
    (k0_pay13 (k0_pay2 x) (k0_pay3 i xh) cw (k0_pay4 i x xh cw cb) (k0_pay5 cw) (iota Kind.tc S256x512 32 [0] iota_S256x512_d0_w32) (k0_pay6 i x xh) k0_pay7) (View.ld gw (Rect.unit ![0, 1, 0, 0] ![1, 1, 128, 128] inb_S2x4x128x128_S1x1x128x128_0_1_0_0)) (View.ld gw (Rect.unit ![0, 2, 0, 0] ![1, 1, 128, 128] inb_S2x4x128x128_S1x1x128x128_0_2_0_0)) (View.ld gw (Rect.unit ![0, 3, 0, 0] ![1, 1, 128, 128] inb_S2x4x128x128_S1x1x128x128_0_3_0_0)) gb

/-- The second gate. -/
abbrev g1v : FVec Ideal S256x512 .f32 :=
  k0_pay16 (k0_pay9 (k0_pay2 x) (k0_pay3 i xh) cw (k0_pay4 i x xh cw cb) (k0_pay5 cw) (iota Kind.tc S256x512 32 [0] iota_S256x512_d0_w32) (k0_pay6 i x xh) k0_pay7) (k0_pay12 (k0_pay2 x) (k0_pay3 i xh) cw (k0_pay4 i x xh cw cb) (k0_pay5 cw) (iota Kind.tc S256x512 32 [0] iota_S256x512_d0_w32) (k0_pay6 i x xh) k0_pay7 (View.ld gw (Rect.unit ![1, 0, 0, 0] ![1, 1, 128, 128] inb_S2x4x128x128_S1x1x128x128_1_0_0_0)))
    (k0_pay13 (k0_pay2 x) (k0_pay3 i xh) cw (k0_pay4 i x xh cw cb) (k0_pay5 cw) (iota Kind.tc S256x512 32 [0] iota_S256x512_d0_w32) (k0_pay6 i x xh) k0_pay7) (View.ld gw (Rect.unit ![1, 1, 0, 0] ![1, 1, 128, 128] inb_S2x4x128x128_S1x1x128x128_1_1_0_0)) (View.ld gw (Rect.unit ![1, 2, 0, 0] ![1, 1, 128, 128] inb_S2x4x128x128_S1x1x128x128_1_2_0_0)) (View.ld gw (Rect.unit ![1, 3, 0, 0] ![1, 1, 128, 128] inb_S2x4x128x128_S1x1x128x128_1_3_0_0)) gb

theorem gate_cases (X : FVec Ideal S256x512 .f32) (k : Fin 2) :
    (if h : z.val < 128 then ∑ q : Fin 128, X (ix2 y ⟨q.val, by omega⟩) * gw (ix4 k 0 q ⟨z.val, h⟩)
      else if h : z.val - 128 < 128 then ∑ q : Fin 128, X (ix2 y ⟨128 + q.val, by omega⟩) * gw (ix4 k 1 q ⟨z.val - 128, h⟩)
      else if h : z.val - 128 - 128 < 128 then ∑ q : Fin 128, X (ix2 y ⟨256 + q.val, by omega⟩) * gw (ix4 k 2 q ⟨z.val - 128 - 128, h⟩)
      else ∑ q : Fin 128, X (ix2 y ⟨384 + q.val, by omega⟩) * gw (ix4 k 3 q ⟨z.val - 128 - 128 - 128, by omega⟩)) = gate y z gw X k := by
  unfold gate
  split_ifs <;> refine Finset.sum_congr rfl fun q _ => ?_ <;> refine congrArg₂ _ ?_ ?_ <;> congr 1
  all_goals first
    | (congr 1 <;> apply Fin.ext <;> dsimp only <;> omega)
    | (refine congrArg₂ (fun a b => ix4 k a q b) ?_ ?_ <;> apply Fin.ext <;> first | (dsimp only; omega) | (show (_ : ℕ) = _; simp; omega))

theorem e0_at : @Eq EReal (e0v i x xh cw cb gw gb (ix2 y z)) (Ideal.exp (-(gate y z gw (xbv i x xh cw cb) 0 + gb (ix2 0 z)))) := by
  unfold e0v
  pointwise [k0_pay17, k0_pay14, k0_pay15, k0_pay11, k0_pay10, k0_pay13, k0_pay9]
  rw [zero_sub]
  exact congrArg (fun r : EReal => Ideal.exp (-(r + gb (ix2 0 z)))) (gate_cases y z gw (xbv i x xh cw cb) 0)

theorem g1_at : @Eq EReal (g1v i x xh cw cb gw gb (ix2 y z)) (gate y z gw (xbv i x xh cw cb) 1 + gb (ix2 1 z)) := by
  unfold g1v
  pointwise [k0_pay16, k0_pay14, k0_pay15, k0_pay12, k0_pay10, k0_pay13, k0_pay9]
  exact congrArg (fun r : EReal => r + gb (ix2 1 z)) (gate_cases y z gw (xbv i x xh cw cb) 1)

/-- The logarithm of the decay. -/
theorem la_at : @Eq EReal (k0_pay18 (e0v i x xh cw cb gw gb) l (ix2 y z)) (la (gate y z gw (xbv i x xh cw cb) 0 + gb (ix2 0 z)) (l (ix2 0 z))) := by
  have he := e0_at i x xh cw cb y z gw gb
  generalize e0v i x xh cw cb gw gb = E at he
  unfold la sg soft
  rw [← he]
  pointwise [k0_pay18]
  rw [zero_sub, zero_sub]
  rfl

/-- The decay. -/
theorem a_at : @Eq EReal (k0_pay19 (e0v i x xh cw cb gw gb) l (ix2 y z)) (aa (gate y z gw (xbv i x xh cw cb) 0 + gb (ix2 0 z)) (l (ix2 0 z))) := by
  have he := la_at i x xh cw cb y z gw gb l
  generalize e0v i x xh cw cb gw gb = E at he
  unfold aa
  rw [← he]
  pointwise [k0_pay19]

/-- The input term. -/
theorem b_at : @Eq EReal (bv (xbv i x xh cw cb) (k0_pay20 (e0v i x xh cw cb gw gb) l) (k0_pay21 (g1v i x xh cw cb gw gb)) k0_pay22 (ix2 y z))
    (bb (gate y z gw (xbv i x xh cw cb) 0 + gb (ix2 0 z)) (gate y z gw (xbv i x xh cw cb) 1 + gb (ix2 1 z)) (l (ix2 0 z)) (xbv i x xh cw cb (ix2 y z))) := by
  have he := la_at i x xh cw cb y z gw gb l
  have hg := g1_at i x xh cw cb y z gw gb
  have hy := two_la_nonpos (gate y z gw (xbv i x xh cw cb) 0 + gb (ix2 0 z)) (l (ix2 0 z))
  generalize xbv i x xh cw cb = X at he hg hy ⊢
  generalize e0v i x xh cw cb gw gb = E at he
  generalize g1v i x xh cw cb gw gb = G at hg
  unfold bb sg
  rw [← he, ← hg]
  rw [← he] at hy
  have hf := expm1_form hy
  rw [← hf]
  pointwise [bv, k0_pay20, k0_pay21, k0_pay22]
  rw [zero_sub, zero_sub]

/-- The gelu of the gate times the state. -/
def act (h g : EReal) : EReal :=
  h * (g * (Ideal.ofBits .f32 0x3F000000#32 * (1 + Ideal.tanh (Ideal.ofBits .f32 0x3F4C422A#32 * (g + Ideal.ofBits .f32 0x3D372713#32 * (g * g * g))))))

theorem act_at (p q : FVec Ideal S256x512 .f32) (w : BitVec 32) :
    @Eq EReal (k0_pay42 (iota .tc S256x512 32 [0] iota_S256x512_d0_w32) p q w h gt (ix2 y z))
      (act (k0_pay40 (iota .tc S256x512 32 [0] iota_S256x512_d0_w32) p q w h (ix2 y z)) (gt (ix2 y z))) := by
  unfold act
  pointwise [k0_pay42]
  rw [mul_assoc (gt (ix2 y z))]

end Conv

end Cert.Lru

end
-- ==== Proof.MM.Lru.lean ====
/- The linear recurrence of the recurrent layer: blocks scanned by doubling, a carried row between them, against the plain recurrence. -/
module

public import proofs.«01_k».proof.Defs
public import proofs.«01_k».proof.Proof.Gen.Kernel10Ideal.Value
public import proofs.«01_k».proof.Proof.MM.LruScan
public import proofs.«01_k».proof.Proof.MM.LruScalar
public import proofs.«01_k».proof.Proof.MM.LruBlock
public import Idealize.ShloMosaic.Lib.Pipeline.ValueKit
public import Idealize.ShloMosaic.Lib.Pipeline.Value
public import Idealize.ShloMosaic.Lib.Pipeline.ReadBack
public import Idealize.ShloMosaic.Lib.Claim

@[expose] public section

set_option maxRecDepth 16384

noncomputable section

namespace Cert.Lru

open Cert.Kernel10Ideal Cert.Kernel10Ideal.Gen
open Idealize.ShloMosaic Idealize.ShloMosaic.TcCoe Idealize.SL.Sem
open Idealize.ShloMosaic.Pipeline (Dat)
open Cert.LruScan

section Whole

variable (P : FVec Ideal S16384x4096 .f32) (W : FVec Ideal S4x2048 .f32) (C : FVec Ideal S2048 .f32) (G : FVec Ideal S2x16x128x128 .f32)
  (D : FVec Ideal S2x2048 .f32) (L : FVec Ideal S2048 .f32)

/-- The input `d` rows earlier, zero before the first row. -/
def sh (d : ℕ) (s : Fin 16384) (f : Fin 2048) : EReal := if d ≤ s.val then P (ix2 ⟨s.val - d, by omega⟩ ⟨2048 + f.val, by omega⟩) else 0

/-- The causal convolution of the input. -/
def conv (s : Fin 16384) (f : Fin 2048) : EReal :=
  ((W (ix2 3 f) * sh P 0 s f + C (ix1 f)) + W (ix2 2 f) * sh P 1 s f) + W (ix2 1 f) * sh P 2 s f + W (ix2 0 f) * sh P 3 s f

/-- A gate of the convolved input. -/
def gg (k : Fin 2) (s : Fin 16384) (f : Fin 2048) : EReal :=
  (∑ q : Fin 128, conv P W C s ⟨f.val / 128 * 128 + q.val, by omega⟩ * G (ix4 k ⟨f.val / 128, by omega⟩ q ⟨f.val % 128, by omega⟩)) + D (ix2 k f)

/-- The recurrence's factor at a row. -/
def ga (f : Fin 2048) (s : ℕ) : EReal := if h : s < 16384 then aa (gg P W C G D 0 ⟨s, h⟩ f) (L (ix1 f)) else 0

/-- The recurrence's term at a row. -/
def gb (f : Fin 2048) (s : ℕ) : EReal :=
  if h : s < 16384 then bb (gg P W C G D 0 ⟨s, h⟩ f) (gg P W C G D 1 ⟨s, h⟩ f) (L (ix1 f)) (conv P W C ⟨s, h⟩ f) else 0

/-- The state after `n` rows. -/
def hh (f : Fin 2048) (n : ℕ) : EReal := run (ga P W C G D L f) (gb P W C G D L f) 0 n 0

/-- The result, every index. -/
def res : FVec Ideal S16384x2048 .bf16 := fun i =>
  act (hh P W C G D L (i 1) ((i 0).val + 1)) (P (ix2 (i 0) ⟨(i 1).val, by have : (i 1).val < 2048 := (i 1).isLt; omega⟩))

end Whole

variable (m : (ℓ : Loc nD τ sig) → Buf (Elt Ideal) ℓ) (c : Dev nD)

/-- The six arguments. -/
abbrev aP : FVec Ideal S16384x4096 .f32 := m ((c : Thread nD τ).loc main_arg0)
abbrev aW : FVec Ideal S4x2048 .f32 := m ((c : Thread nD τ).loc main_arg1)
abbrev aC : FVec Ideal S2048 .f32 := m ((c : Thread nD τ).loc main_arg2)
abbrev aG : FVec Ideal S2x16x128x128 .f32 := m ((c : Thread nD τ).loc main_arg3)
abbrev aD : FVec Ideal S2x2048 .f32 := m ((c : Thread nD τ).loc main_arg4)
abbrev aL : FVec Ideal S2048 .f32 := m ((c : Thread nD τ).loc main_arg5)

theorem lt_N (t : Fin cfg0.N) : t.val < 256 := lt_of_lt_of_eq t.isLt (show cfg0.N = 256 from N_0)

/-- The point `t` is at row block `t % 64` and column block `t / 64`; where every window's block lies. -/
theorem idx : ∀ t : Fin cfg0.N, win0_0.index t = ![t.val % 64, t.val / 64] ∧ win0_1.index t = ![t.val % 64, t.val / 64 + 4]
    ∧ win0_2.index t = ![t.val % 64 * 32 - 1, t.val / 64 + 4] ∧ win0_3.index t = ![0, t.val / 64] ∧ win0_4.index t = ![0, t.val / 64]
    ∧ win0_5.index t = ![0, t.val / 64, 0, 0] ∧ win0_6.index t = ![0, t.val / 64] ∧ win0_7.index t = ![0, t.val / 64]
    ∧ win0_8.index t = ![t.val % 64, t.val / 64] :=
  (by decide +kernel : ∀ t : Fin grid0.N, _)

/-- The point's row block. -/
theorem row : ∀ t : Fin cfg0.N, (grid0.coords t 1).val = t.val % 64 :=
  (by decide +kernel : ∀ t : Fin grid0.N, _)

/-- The columns the call's array holds: the arguments', then zeros. -/
def wide (P : FVec Ideal S16384x4096 .f32) : FVec Ideal S16384x10880 .f32 :=
  pad S16384x10880 ![0, 0] ![0, 6784] ![0, 0] P (sitofp .f32 (constantI S_ 32 0#32)) pads_S16384x4096_S16384x10880_000_067840 h_S_

theorem V_wide : V m c main_v0 = wide (aP m c) := by
  unfold V
  simp only [hostOps0, hostOps0_1, hostOps0_2, List.flatten_cons, List.flatten_nil, List.append_nil, List.cons_append, List.nil_append]
  after_results
  try rfl

theorem V_cb : V m c main_v1 = shapeCast S1x2048 (aC m c) shapeCasts_S2048_S1x2048 := by
  unfold V
  simp only [hostOps0, hostOps0_1, hostOps0_2, List.flatten_cons, List.flatten_nil, List.append_nil, List.cons_append, List.nil_append]
  after_results
  try rfl

theorem V_gw : V m c main_v2 = truncf .bf16 (aG m c) bitsLt_bf16_f32 := by
  unfold V
  simp only [hostOps0, hostOps0_1, hostOps0_2, List.flatten_cons, List.flatten_nil, List.append_nil, List.cons_append, List.nil_append]
  after_results
  try rfl

theorem V_lm : V m c main_v3 = shapeCast S1x2048 (aL m c) shapeCasts_S2048_S1x2048 := by
  unfold V
  simp only [hostOps0, hostOps0_1, hostOps0_2, List.flatten_cons, List.flatten_nil, List.append_nil, List.cons_append, List.nil_append]
  after_results
  try rfl

theorem wide_at (P : FVec Ideal S16384x4096 .f32) (r : Fin 16384) (j : Fin 10880) (h : j.val < 4096) :
    @Eq EReal (wide P (ix2 r j)) (P (ix2 r ⟨j.val, h⟩)) := by
  pointwise [wide]
  exact dif_pos h

/-- The gate's block. -/
theorem x0_at (t : Fin cfg0.N) (y : Fin 256) (z : Fin 512) : @Eq EReal (X0_0 m c t (ix2 y z))
    (aP m c (ix2 ⟨t.val % 64 * 256 + y.val, by omega⟩ ⟨t.val / 64 * 512 + z.val, by have := lt_N t; omega⟩)) := by
  have := lt_N t
  refine Eq.trans ?_ (wide_at _ _ ⟨t.val / 64 * 512 + z.val, by omega⟩ (by dsimp only; omega))
  rw [← V_wide]
  unfold X0_0 Pipeline.Window.fill
  rw [dif_pos (moved0_0 t _)]
  blk_point [iblk, idx t]

/-- The input's block. -/
theorem x1_at (t : Fin cfg0.N) (y : Fin 256) (z : Fin 512) : @Eq EReal (X0_1 m c t (ix2 y z))
    (aP m c (ix2 ⟨t.val % 64 * 256 + y.val, by omega⟩ ⟨(t.val / 64 + 4) * 512 + z.val, by have := lt_N t; omega⟩)) := by
  have := lt_N t
  refine Eq.trans ?_ (wide_at _ _ ⟨(t.val / 64 + 4) * 512 + z.val, by omega⟩ (by dsimp only; omega))
  rw [← V_wide]
  unfold X0_1 Pipeline.Window.fill
  rw [dif_pos (moved0_1 t _)]
  blk_point [iblk, idx t]

/-- The rows before the input's block. -/
theorem x2_at (t : Fin cfg0.N) (y : Fin 8) (z : Fin 512) : @Eq EReal (X0_2 m c t (ix2 y z))
    (aP m c (ix2 ⟨(t.val % 64 * 32 - 1) * 8 + y.val, by omega⟩ ⟨(t.val / 64 + 4) * 512 + z.val, by have := lt_N t; omega⟩)) := by
  have := lt_N t
  refine Eq.trans ?_ (wide_at _ _ ⟨(t.val / 64 + 4) * 512 + z.val, by omega⟩ (by dsimp only; omega))
  rw [← V_wide]
  unfold X0_2 Pipeline.Window.fill
  rw [dif_pos (moved0_2 t _)]
  blk_point [iblk, idx t]

theorem w_at (t : Fin cfg0.N) (k : Fin 4) (z : Fin 512) : @Eq EReal (iblk m c 3 t (ix2 k z))
    (aW m c (ix2 k ⟨t.val / 64 * 512 + z.val, by have := lt_N t; omega⟩)) := by
  rw [show aW m c = V m c main_arg1 from (V_main_arg1 m c).symm]
  blk_point [iblk, idx t]

theorem c_at (t : Fin cfg0.N) (z : Fin 512) : @Eq EReal (iblk m c 4 t (ix2 0 z))
    (aC m c (ix1 ⟨t.val / 64 * 512 + z.val, by have := lt_N t; omega⟩)) := by
  refine Eq.trans (b := (shapeCast S1x2048 (aC m c) shapeCasts_S2048_S1x2048 (ix2 0 ⟨t.val / 64 * 512 + z.val, by have := lt_N t; omega⟩) : EReal)) ?_ ?_
  · rw [← V_cb]
    blk_point [iblk, idx t]
  · pointwise []

theorem l_at (t : Fin cfg0.N) (z : Fin 512) : @Eq EReal (iblk m c 7 t (ix2 0 z))
    (aL m c (ix1 ⟨t.val / 64 * 512 + z.val, by have := lt_N t; omega⟩)) := by
  refine Eq.trans (b := (shapeCast S1x2048 (aL m c) shapeCasts_S2048_S1x2048 (ix2 0 ⟨t.val / 64 * 512 + z.val, by have := lt_N t; omega⟩) : EReal)) ?_ ?_
  · rw [← V_lm]
    blk_point [iblk, idx t]
  · pointwise []

theorem d_at (t : Fin cfg0.N) (k : Fin 2) (z : Fin 512) : @Eq EReal (iblk m c 6 t (ix2 k z))
    (aD m c (ix2 k ⟨t.val / 64 * 512 + z.val, by have := lt_N t; omega⟩)) := by
  rw [show aD m c = V m c main_arg4 from (V_main_arg4 m c).symm]
  blk_point [iblk, idx t]

theorem g_at (t : Fin cfg0.N) (k : Fin 2) (n : Fin 4) (q p : Fin 128) : @Eq EReal (iblk m c 5 t (ix4 k n q p))
    (aG m c (ix4 k ⟨t.val / 64 * 4 + n.val, by have := lt_N t; omega⟩ q p)) := by
  refine Eq.trans (b := (truncf .bf16 (aG m c) bitsLt_bf16_f32 (ix4 k ⟨t.val / 64 * 4 + n.val, by have := lt_N t; omega⟩ q p) : EReal)) ?_ ?_
  · rw [← V_gw]
    blk_point [iblk, idx t]
  · pointwise []

/-- The rows before the block, zero before the first row. -/
theorem halo_at (t : Fin cfg0.N) (y : Fin 8) (z : Fin 512) : @Eq EReal (k0_pay3 (F := Ideal) (grid0.coords t) (X0_2 m c t) (ix2 y z))
    (if t.val % 64 = 0 then 0 else aP m c (ix2 ⟨(t.val % 64 * 32 - 1) * 8 + y.val, by omega⟩ ⟨(t.val / 64 + 4) * 512 + z.val, by have := lt_N t; omega⟩)) := by
  rw [← x2_at m c t y z]
  generalize X0_2 m c t = X
  pointwise [k0_pay3]
  have hr := row t
  generalize (grid0.coords t 1).val = n at hr ⊢
  subst hr
  exact select_eq (t.val % 64) 0 (by omega) (by omega) _ _

/-- An earlier row of the block, or of the rows before it. -/
theorem back_at (t : Fin cfg0.N) (d : ℕ) (hd : d ≤ 8) (y : Fin 256) (z : Fin 512) :
    @Eq EReal (back (X0_1 m c t) (k0_pay3 (grid0.coords t) (X0_2 m c t)) d hd y z)
      (sh (aP m c) d ⟨t.val % 64 * 256 + y.val, by omega⟩ ⟨t.val / 64 * 512 + z.val, by have := lt_N t; omega⟩) := by
  have := lt_N t
  unfold back sh
  by_cases h : d ≤ y.val
  · rw [dif_pos h, x1_at, if_pos (by dsimp only; omega)]
    refine congrArg (aP m c) (congrArg₂ ix2 ?_ ?_) <;> apply Fin.ext <;> dsimp only <;> omega
  · rw [dif_neg h, halo_at]
    by_cases h0 : t.val % 64 = 0
    · rw [if_pos h0, if_neg (by dsimp only; omega)]
    · rw [if_neg h0, if_pos (by dsimp only; omega)]
      refine congrArg (aP m c) (congrArg₂ ix2 ?_ ?_) <;> apply Fin.ext <;> dsimp only <;> omega

/-- The convolved block of a point. -/
abbrev xbt (t : Fin cfg0.N) : FVec Ideal S256x512 .f32 := xbv (grid0.coords t) (X0_1 m c t) (X0_2 m c t) (iblk m c 3 t) (iblk m c 4 t)

theorem xbt_at (t : Fin cfg0.N) (y : Fin 256) (z : Fin 512) : @Eq EReal (xbt m c t (ix2 y z))
    (conv (aP m c) (aW m c) (aC m c) ⟨t.val % 64 * 256 + y.val, by omega⟩ ⟨t.val / 64 * 512 + z.val, by have := lt_N t; omega⟩) := by
  have := lt_N t
  refine (conv_at _ _ _ _ _ y z).trans ?_
  unfold conv
  rw [back_at, back_at, back_at, w_at, w_at, w_at, w_at, c_at, x1_at]
  refine congrArg₂ _ (congrArg₂ _ (congrArg₂ _ (congrArg₂ _ (congrArg₂ _ rfl ?_) rfl) rfl) rfl) rfl
  unfold sh
  rw [if_pos (Nat.zero_le _)]
  refine congrArg (aP m c) (congrArg₂ ix2 ?_ ?_) <;> apply Fin.ext <;> dsimp only <;> omega

/-- A gate of a point. -/
theorem gate_at (t : Fin cfg0.N) (k : Fin 2) (y : Fin 256) (z : Fin 512) :
    @Eq EReal (gate y z (iblk m c 5 t) (xbt m c t) k + iblk m c 6 t (ix2 k z))
      (gg (aP m c) (aW m c) (aC m c) (aG m c) (aD m c) k ⟨t.val % 64 * 256 + y.val, by omega⟩ ⟨t.val / 64 * 512 + z.val, by have := lt_N t; omega⟩) := by
  have := lt_N t
  unfold gate gg
  rw [d_at]
  refine congrArg₂ _ (Finset.sum_congr rfl fun q _ => ?_) rfl
  rw [xbt_at, g_at]
  refine congrArg₂ _ (congrArg₂ (conv (aP m c) (aW m c) (aC m c)) rfl ?_) (congrArg (aG m c) (congrArg₂ (fun a b => ix4 k a q b) ?_ ?_)) <;>
    apply Fin.ext <;> dsimp only <;> omega

/-- The factors of a point. -/
abbrev at_ (t : Fin cfg0.N) : FVec Ideal S256x512 .f32 :=
  k0_pay19 (e0v (grid0.coords t) (X0_1 m c t) (X0_2 m c t) (iblk m c 3 t) (iblk m c 4 t) (iblk m c 5 t) (iblk m c 6 t)) (iblk m c 7 t)

/-- The scan of a point over the carried row. -/
def scant (t : Fin cfg0.N) (h : Vec Ideal S1x512 .f32) : FVec Ideal S256x512 .f32 :=
  scan (xbt m c t) (at_ m c t)
    (k0_pay20 (e0v (grid0.coords t) (X0_1 m c t) (X0_2 m c t) (iblk m c 3 t) (iblk m c 4 t) (iblk m c 5 t) (iblk m c 6 t)) (iblk m c 7 t))
    (k0_pay21 (g1v (grid0.coords t) (X0_1 m c t) (X0_2 m c t) (iblk m c 3 t) (iblk m c 4 t) (iblk m c 5 t) (iblk m c 6 t))) k0_pay22 h

theorem scant_at (t : Fin cfg0.N) (h : Vec Ideal S1x512 .f32) (y : Fin 256) (z : Fin 512)
    (hh0 : @Eq EReal (h (ix2 0 z)) (hh (aP m c) (aW m c) (aC m c) (aG m c) (aD m c) (aL m c) ⟨t.val / 64 * 512 + z.val, by have := lt_N t; omega⟩ (t.val % 64 * 256))) :
    @Eq EReal (scant m c t h (ix2 y z))
      (hh (aP m c) (aW m c) (aC m c) (aG m c) (aD m c) (aL m c) ⟨t.val / 64 * 512 + z.val, by have := lt_N t; omega⟩ (t.val % 64 * 256 + (y.val + 1))) := by
  have := lt_N t
  unfold scant
  refine (scan_run _ _ _ _ _ h
    (fun n => ga (aP m c) (aW m c) (aC m c) (aG m c) (aD m c) (aL m c) ⟨t.val / 64 * 512 + z.val, by omega⟩ (t.val % 64 * 256 + n))
    (fun n => gb (aP m c) (aW m c) (aC m c) (aG m c) (aD m c) (aL m c) ⟨t.val / 64 * 512 + z.val, by omega⟩ (t.val % 64 * 256 + n)) y z
    (spans_one _ _ _ _ (fun y => ?_) (fun y => ?_) (fun y => ?_) (fun y => ?_))).trans ?_
  · unfold col ga
    rw [dif_pos (by omega)]
    refine (a_at _ _ _ _ _ y z _ _ _).trans ?_
    rw [gate_at, l_at]
  · unfold col gb
    rw [dif_pos (by omega)]
    refine (b_at _ _ _ _ _ y z _ _ _).trans ?_
    rw [gate_at, gate_at, l_at]
    exact congrArg _ (xbt_at m c t y z)
  · exact (aa_nonneg _ _).trans (a_at _ _ _ _ _ y z _ _ _).ge
  · exact (a_at _ _ _ _ _ y z _ _ _).le.trans (aa_le_one _ _)
  · rw [hh0]
    unfold hh
    refine Eq.trans ?_ (run_add _ _ _ _ _ _).symm
    refine run_congr _ _ _ _ _ _ _ _ (fun i _ => ?_) (fun i _ => ?_) <;> simp only [Nat.zero_add]

/-- A row read back of a scratch stored whole. -/
theorem read_row (w : Vec Ideal S8x512 .f32) (off : Fin 2 → ℕ) (inb : ∀ a, off a + S8x512.size a ≤ S8x512.size a) (h : off = fun _ => 0) :
    (View.whole cc0_scratch0).readCov (Val := Elt Ideal) [⟨Rect.unit off S8x512.size inb, w⟩] (Rect.unit ![7, 0] ![1, 512] inb_S8x512_S1x512_7_0).toLoadRect
      = View.ld w (Rect.unit ![7, 0] ![1, 512] inb_S8x512_S1x512_7_0) := by
  subst h
  rw [View.readCov_eq_canon_ld _ _ _ (fun y => ⟨_, List.mem_cons_self, by
    show y ∈ (Rect.whole S8x512).set; rw [Rect.set_whole]; exact Finset.mem_univ y⟩)]
  exact congrArg (fun v : Vec Ideal S8x512 .f32 => View.ld v (Rect.unit ![7, 0] ![1, 512] inb_S8x512_S1x512_7_0))
    (View.canon_unit_zero (Val := Elt Ideal) (S := S8x512) (e := .f32) rfl inb w)

/-- What a point writes, and what it carries, over the carried row. -/
theorem out_first (t : Fin cfg0.N) (h0 : t.val % 64 = 0) (y : Fin 256) (z : Fin 512) :
    ∃ h : Vec Ideal S1x512 .f32, (@Eq EReal (h (ix2 0 z)) 0)
      ∧ (@Eq EReal ((outsAt0 m c t.val t.isLt).1 (ix2 y z)) (act (scant m c t h (ix2 y z)) (X0_0 m c t (ix2 y z))))
      ∧ (@Eq EReal ((outsAt0 m c t.val t.isLt).2 (ix2 7 z)) (scant m c t h (ix2 255 z))) := by
  obtain ⟨w, hw⟩ : ∃ w : Vec Ideal S8x512 .f32, w = k0_pay1 (F := Ideal) := ⟨_, rfl⟩
  refine ⟨View.ld w (Rect.unit ![7, 0] ![1, 512] inb_S8x512_S1x512_7_0), ?_, ?_, ?_⟩
  · rw [hw]
    pointwise [k0_pay1]
  · rw [outsAt0_A m c t h0]
    frame_out
    rw [read_row _ _ _ (by funext a; fin_cases a <;> rfl), ← hw]
    exact act_at y z _ _ _ _ _
  · rw [outsAt0_A m c t h0]
    frame_out
    rw [read_row _ _ _ (by funext a; fin_cases a <;> rfl), ← hw]
    pointwise [k0_pay41]
    rfl

theorem out_later (t : Fin cfg0.N) (h0 : ¬ t.val % 64 = 0) (y : Fin 256) (z : Fin 512) :
    ∃ h : Vec Ideal S1x512 .f32,
      (@Eq EReal (h (ix2 0 z)) ((outsAt0 m c (t.val - 1) (Nat.lt_of_le_of_lt (Nat.sub_le _ _) t.isLt)).2 (ix2 7 z)))
      ∧ (@Eq EReal ((outsAt0 m c t.val t.isLt).1 (ix2 y z)) (act (scant m c t h (ix2 y z)) (X0_0 m c t (ix2 y z))))
      ∧ (@Eq EReal ((outsAt0 m c t.val t.isLt).2 (ix2 7 z)) (scant m c t h (ix2 255 z))) := by
  refine ⟨View.ld (outsAt0 m c (t.val - 1) (Nat.lt_of_le_of_lt (Nat.sub_le _ _) t.isLt)).2 (Rect.unit ![7, 0] ![1, 512] inb_S8x512_S1x512_7_0), ?_, ?_, ?_⟩
  · pointwise []
  · rw [outsAt0_B m c t h0]
    frame_out
    simp only [read_unread_whole]
    exact act_at y z _ _ _ _ _
  · rw [outsAt0_B m c t h0]
    frame_out
    simp only [read_unread_whole]
    pointwise [k0_pay41]
    rfl

/-- A point leaves the state after its rows in the carried row, and writes every row's gated state. -/
theorem outs (t : ℕ) (ht : t < cfg0.N) (y : Fin 256) (z : Fin 512) :
    (@Eq EReal ((outsAt0 m c t ht).1 (ix2 y z))
      (act (hh (aP m c) (aW m c) (aC m c) (aG m c) (aD m c) (aL m c) ⟨t / 64 * 512 + z.val, by have := lt_N ⟨t, ht⟩; dsimp only at this; omega⟩ (t % 64 * 256 + (y.val + 1)))
        (aP m c (ix2 ⟨t % 64 * 256 + y.val, by omega⟩ ⟨t / 64 * 512 + z.val, by have := lt_N ⟨t, ht⟩; dsimp only at this; omega⟩))))
    ∧ (@Eq EReal ((outsAt0 m c t ht).2 (ix2 7 z))
      (hh (aP m c) (aW m c) (aC m c) (aG m c) (aD m c) (aL m c) ⟨t / 64 * 512 + z.val, by have := lt_N ⟨t, ht⟩; dsimp only at this; omega⟩ (t % 64 * 256 + 256))) := by
  induction t with
  | zero =>
    obtain ⟨h, e0, e1, e2⟩ := out_first m c ⟨0, ht⟩ rfl y z
    have hs := fun y => scant_at m c ⟨0, ht⟩ h y z e0
    exact ⟨e1.trans (congrArg₂ act (hs y) (x0_at m c ⟨0, ht⟩ y z)), e2.trans (hs 255)⟩
  | succ n ih =>
    have hN := lt_N ⟨n + 1, ht⟩
    dsimp only at hN
    by_cases h0 : (n + 1) % 64 = 0
    · obtain ⟨h, e0, e1, e2⟩ := out_first m c ⟨n + 1, ht⟩ h0 y z
      have hs := fun y => scant_at m c ⟨n + 1, ht⟩ h y z (e0.trans (by
        show (0 : EReal) = hh _ _ _ _ _ _ _ ((n + 1) % 64 * 256)
        rw [h0]; rfl))
      exact ⟨e1.trans (congrArg₂ act (hs y) (x0_at m c ⟨n + 1, ht⟩ y z)), e2.trans (hs 255)⟩
    · obtain ⟨h, e0, e1, e2⟩ := out_later m c ⟨n + 1, ht⟩ h0 y z
      have hp := (ih (by omega)).2
      have hs := fun y => scant_at m c ⟨n + 1, ht⟩ h y z (e0.trans (hp.trans (by
        refine congrArg₂ (hh (aP m c) (aW m c) (aC m c) (aG m c) (aD m c) (aL m c)) (Fin.ext ?_) ?_ <;> dsimp only <;> omega)))
      exact ⟨e1.trans (congrArg₂ act (hs y) (x0_at m c ⟨n + 1, ht⟩ y z)), e2.trans (hs 255)⟩

/-- What a point writes is the result at the block's indices. -/
theorem point (t : Fin cfg0.N) (y : S256x512.Idx) :
    @Eq EReal ((outsAt0 m c t.val t.isLt).1 y) (res (aP m c) (aW m c) (aC m c) (aG m c) (aD m c) (aL m c) (((cfg0.win 8).blk t).view.emb y)) := by
  have e0 : (((cfg0.win 8).blk t).view.emb y 0).val = win0_8.index t (0 : Fin 2) * 256 + 1 * (y 0).val := rfl
  have e1 : (((cfg0.win 8).blk t).view.emb y 1).val = win0_8.index t (1 : Fin 2) * 512 + 1 * (y 1).val := rfl
  have i0 : win0_8.index t (0 : Fin 2) = t.val % 64 := congrFun (idx t).2.2.2.2.2.2.2.2 0
  have i1 : win0_8.index t (1 : Fin 2) = t.val / 64 := congrFun (idx t).2.2.2.2.2.2.2.2 1
  have hy : y = ix2 (y 0) (y 1) := eq_ix2 y
  have h := (outs m c t.val t.isLt (y 0) (y 1)).1
  refine (congrArg (outsAt0 m c t.val t.isLt).1 hy).trans (h.trans ?_)
  unfold res
  refine congrArg₂ act (congrArg₂ (hh (aP m c) (aW m c) (aC m c) (aG m c) (aD m c) (aL m c)) ?_ ?_) (congrArg (aP m c) (congrArg₂ ix2 ?_ ?_))
  · apply Fin.ext; show t.val / 64 * 512 + (y 1).val = (((cfg0.win 8).blk t).view.emb y 1).val; rw [e1, i1]; omega
  · show t.val % 64 * 256 + ((y 0).val + 1) = (((cfg0.win 8).blk t).view.emb y 0).val + 1; rw [e0, i0]; omega
  · apply Fin.ext; show t.val % 64 * 256 + (y 0).val = (((cfg0.win 8).blk t).view.emb y 0).val; rw [e0, i0]; omega
  · apply Fin.ext; show t.val / 64 * 512 + (y 1).val = (((cfg0.win 8).blk t).view.emb y 1).val; rw [e1, i1]; omega

/-- The result array holds the gated states. -/
theorem result : (dats m 0 c).arrAt 8 (cfgs 0).N = res (aP m c) (aW m c) (aC m c) (aG m c) (aD m c) (aL m c) := by
  refine (dats m 0 c).arrAt_eq_of_covers 8 _ (by decide +kernel) fun t _ y => ?_
  blk_simp
  rw [after0_8]
  exact point m c t y

end Cert.Lru
-- ==== Proof.MM.LruRef.lean ====
/- The plain recurrence: its arrays before the loop, and the loop's states. -/
module

public import proofs.«01_k».proof.Defs
public import proofs.«01_k».proof.Proof.Gen.Reference10Ideal.Run
public import proofs.«01_k».proof.Proof.MM.LruScan
public import proofs.«01_k».proof.Proof.MM.LruScalar
public import proofs.«01_k».proof.Proof.MM.Lru
public import Idealize.ShloMosaic.Lib.Pipeline.ValueKit
public import Idealize.ShloMosaic.Lib.Pipeline.Value
public import Idealize.ShloMosaic.Lib.DynamicIndex
public import Idealize.ShloMosaic.Lib.Claim

@[expose] public section

set_option maxRecDepth 16384

noncomputable section

namespace Cert.LruRef

open Cert.Reference10Ideal Cert.Reference10Ideal.Gen Cert.Reference10Ideal.Value
open Idealize.ShloMosaic Idealize.ShloMosaic.TcCoe Idealize.SL.Sem Idealize.ShloMosaic.StableHlo
open Cert.LruScan Cert.Lru

/-- The input's columns behind three rows of zeros. -/
def padded (P : FVec Ideal S16384x4096 .f32) : FVec Ideal S16387x2048 .f32 :=
  pad S16387x2048 ![3, 0] ![0, 0] ![0, 0] (extractStridedSlice S16384x2048 ![0, 2048] P slices_S16384x4096_S16384x2048_0_2048)
    (sitofp .f32 (constantI S_ 32 0#32)) pads_S16384x2048_S16387x2048_300_000 h_S_

/-- A row of values over every row. -/
def rows (v : FVec Ideal S2048 .f32) : FVec Ideal S16384x2048 .f32 :=
  broadcastInDim S16384x2048 ![0, 1] bcast_S1x2048_S16384x2048_0_1 (broadcastInDim S1x2048 ![1] bcast_S2048_S1x2048_1 v)

/-- One number everywhere. -/
def all (w : BitVec 32) : FVec Ideal S16384x2048 .f32 := broadcastInDim S16384x2048 ![] bcast_S_S16384x2048 (constant S_ .f32 w)

/-- The reference's convolution. -/
def rX (P : FVec Ideal S16384x4096 .f32) (W : FVec Ideal S4x2048 .f32) (C : FVec Ideal S2048 .f32) : FVec Ideal S16384x2048 .f32 :=
  addf (addf (addf (addf (addf (all 0x00000000#32)
    (mulf (extractStridedSlice S16384x2048 ![0, 0] (padded P) slices_S16387x2048_S16384x2048_0_0) (rows (shapeCast S2048 (extractStridedSlice S1x2048 ![0, 0] W slices_S4x2048_S1x2048_0_0) shapeCasts_S1x2048_S2048))))
    (mulf (extractStridedSlice S16384x2048 ![1, 0] (padded P) slices_S16387x2048_S16384x2048_1_0) (rows (shapeCast S2048 (extractStridedSlice S1x2048 ![1, 0] W slices_S4x2048_S1x2048_1_0) shapeCasts_S1x2048_S2048))))
    (mulf (extractStridedSlice S16384x2048 ![2, 0] (padded P) slices_S16387x2048_S16384x2048_2_0) (rows (shapeCast S2048 (extractStridedSlice S1x2048 ![2, 0] W slices_S4x2048_S1x2048_2_0) shapeCasts_S1x2048_S2048))))
    (mulf (extractStridedSlice S16384x2048 ![3, 0] (padded P) slices_S16387x2048_S16384x2048_3_0) (rows (shapeCast S2048 (extractStridedSlice S1x2048 ![3, 0] W slices_S4x2048_S1x2048_3_0) shapeCasts_S1x2048_S2048))))
    (rows C)

/-- The reference's gates. -/
def rG (X : FVec Ideal S16384x2048 .f32) (G : FVec Ideal S2x16x128x128 .f32) (D : FVec Ideal S2x2048 .f32) : FVec Ideal S2x16384x2048 .f32 :=
  addf (shapeCast S2x16384x2048 (transpose S2x16384x16x128 [1, 3, 0, 2] (Host.dotGeneral dot_S2x16x128x128_S16384x16x128_S16x2x128x16384_2_2_03_0_1_1 none G
      (shapeCast S16384x16x128 X shapeCasts_S16384x2048_S16384x16x128)) transposes_S16x2x128x16384_S2x16384x16x128_1_3_0_2) shapeCasts_S2x16384x16x128_S2x16384x2048)
    (broadcastInDim S2x16384x2048 ![0, 1, 2] bcast_S2x1x2048_S2x16384x2048_0_1_2 (broadcastInDim S2x1x2048 ![0, 2] bcast_S2x2048_S2x1x2048_0_2 D))

/-- The logistic of a gate. -/
def rS (Y : FVec Ideal S16384x2048 .f32) : FVec Ideal S16384x2048 .f32 :=
  Host.divf (all 0x3F800000#32) (addf (all 0x3F800000#32) (Host.exp (Host.negf Y)))

/-- The two gates. -/
def rY0 (Y : FVec Ideal S2x16384x2048 .f32) : FVec Ideal S16384x2048 .f32 :=
  shapeCast S16384x2048 (extractStridedSlice S1x16384x2048 ![0, 0, 0] Y slices_S2x16384x2048_S1x16384x2048_0_0_0) shapeCasts_S1x16384x2048_S16384x2048
def rY1 (Y : FVec Ideal S2x16384x2048 .f32) : FVec Ideal S16384x2048 .f32 :=
  shapeCast S16384x2048 (extractStridedSlice S1x16384x2048 ![1, 0, 0] Y slices_S2x16384x2048_S1x16384x2048_1_0_0) shapeCasts_S1x16384x2048_S16384x2048

/-- A row of one number. -/
def one (w : BitVec 32) : FVec Ideal S2048 .f32 := broadcastInDim S2048 ![] bcast_S_S2048 (constant S_ .f32 w)

/-- The softplus of a row. -/
def rP (N : FVec Ideal S2048 .f32) : FVec Ideal S2048 .f32 :=
  select (cmpf .une (subf N (one 0x00000000#32)) (subf N (one 0x00000000#32))) (addf N (one 0x00000000#32))
    (addf (maximumf N (one 0x00000000#32)) (Host.log1p (Host.exp (Host.negf (Host.absf (subf N (one 0x00000000#32)))))))

/-- The logarithm of the factors. -/
def rL (Y : FVec Ideal S2x16384x2048 .f32) (L : FVec Ideal S2048 .f32) : FVec Ideal S16384x2048 .f32 :=
  mulf (mulf (all 0xC1000000#32) (rS (rY0 Y))) (rows (rP (Host.negf L)))

/-- The terms. -/
def rB (X : FVec Ideal S16384x2048 .f32) (Y : FVec Ideal S2x16384x2048 .f32) (L : FVec Ideal S2048 .f32) : FVec Ideal S16384x2048 .f32 :=
  mulf (mulf (Host.sqrt (Host.negf (Host.expm1 (mulf (all 0x40000000#32) (rL Y L))))) (rS (rY1 Y))) X

/-- The gated states. -/
def rO (H g : FVec Ideal S16384x2048 .f32) : FVec Ideal S16384x2048 .bf16 :=
  truncf .bf16 (mulf H (mulf g (mulf (all 0x3F000000#32) (addf (all 0x3F800000#32) (Host.tanh (mulf (all 0x3F4C422A#32)
    (addf g (mulf (all 0x3D372713#32) (mulf (mulf g g) g))))))))) bitsLt_bf16_f32

variable (m : (ℓ : Loc nD τ sig) → Buf (Elt Ideal) ℓ) (c : Dev nD)

/-- The six arguments. -/
abbrev aP : FVec Ideal S16384x4096 .f32 := m ((c : Thread nD τ).loc main_arg0)
abbrev aW : FVec Ideal S4x2048 .f32 := m ((c : Thread nD τ).loc main_arg1)
abbrev aC : FVec Ideal S2048 .f32 := m ((c : Thread nD τ).loc main_arg2)
abbrev aG : FVec Ideal S2x16x128x128 .f32 := m ((c : Thread nD τ).loc main_arg3)
abbrev aD : FVec Ideal S2x2048 .f32 := m ((c : Thread nD τ).loc main_arg4)
abbrev aL : FVec Ideal S2048 .f32 := m ((c : Thread nD τ).loc main_arg5)

theorem entry_a : entryContents preI m c (Proc.devRef .tc main_v75_0)
    = Host.exp (rL (rG (rX (aP m c) (aW m c) (aC m c)) (aG m c) (aD m c)) (aL m c)) := by
  simp only [entryContents, afterL_cons, afterL_nil]
  after_reads_simp
  rfl

theorem entry_b : entryContents preI m c (Proc.devRef .tc main_v75_1)
    = rB (rX (aP m c) (aW m c) (aC m c)) (rG (rX (aP m c) (aW m c) (aC m c)) (aG m c) (aD m c)) (aL m c) := by
  simp only [entryContents, afterL_cons, afterL_nil]
  after_reads_simp
  rfl

theorem entry_h : entryContents preI m c (Proc.devRef .tc main_v75_3) = one 0x00000000#32 := by
  simp only [entryContents, afterL_cons, afterL_nil]
  after_reads_simp
  rfl

theorem entry_g : entryContents preI m c (Proc.devRef .tc main_v0) = extractStridedSlice S16384x2048 ![0, 0] (aP m c) slices_S16384x4096_S16384x2048_0_0 := by
  simp only [entryContents, afterL_cons, afterL_nil]
  after_reads_simp
  try rfl

theorem post (V : Valuation τ sig (Elt Ideal)) : afterL postI V (Proc.devRef .tc main_v90) = rO (V (Proc.devRef .tc main_v75_4)) (V (Proc.devRef .tc main_v0)) := by
  simp only [afterL_cons, afterL_nil]
  after_reads_simp
  rfl

end Cert.LruRef
-- ==== Proof.MM.LruRead.lean ====
/- The plain recurrence's arrays, read at an index. -/
module

public import proofs.«01_k».proof.Proof.MM.LruRef

@[expose] public section

set_option maxRecDepth 16384

noncomputable section

namespace Cert.LruRef

open Cert.Reference10Ideal Cert.Reference10Ideal.Gen
open Idealize.ShloMosaic Idealize.ShloMosaic.TcCoe Idealize.SL.Sem
open Cert.LruScan Cert.Lru

variable (P : FVec Ideal S16384x4096 .f32) (W : FVec Ideal S4x2048 .f32) (C : FVec Ideal S2048 .f32) (G : FVec Ideal S2x16x128x128 .f32)
  (D : FVec Ideal S2x2048 .f32) (L : FVec Ideal S2048 .f32)

/-- The word zero is the number zero. -/
theorem word_zero : @Eq EReal (FloatOps.sitofp (F := Ideal) FTy.f32 0#32) 0 := by
  show (((0#32 : BitVec 32).toInt : ℝ) : EReal) = 0
  simp

theorem padded_at (d : ℕ) (hd : d ≤ 3) (s : Fin 16384) (f : Fin 2048) :
    @Eq EReal (padded P (ix2 ⟨3 - d + s.val, by omega⟩ f)) (sh P d s f) := by
  unfold sh
  pointwise [padded]
  by_cases h : d ≤ s.val
  · rw [if_pos h, dif_pos (by omega)]
    congr 2; apply Fin.ext; dsimp only; omega
  · rw [if_neg h, dif_neg (by omega)]; exact word_zero

theorem rows_at (v : FVec Ideal S2048 .f32) (s : Fin 16384) (f : Fin 2048) : @Eq EReal (rows v (ix2 s f)) (v (ix1 f)) := by
  pointwise [rows]

theorem all_at (w : BitVec 32) (s : Fin 16384) (f : Fin 2048) : @Eq EReal (all w (ix2 s f)) (Ideal.ofBits .f32 w) := by
  pointwise [all]

theorem one_at (w : BitVec 32) (f : Fin 2048) : @Eq EReal (one w (ix1 f)) (Ideal.ofBits .f32 w) := by
  pointwise [one]

theorem zero_word : Ideal.ofBits .f32 0x00000000#32 = 0 := by
  simp [Ideal.ofBits, Ideal.ieee]

theorem one_word : Ideal.ofBits .f32 0x3F800000#32 = 1 := by
  simp [Ideal.ofBits, Ideal.ieee, -EReal.coe_mul]; norm_num

/-- Four products and a bias in the other order. -/
theorem turn (a b d e w x y z c : EReal) : 0 + e * w + d * x + b * y + a * z + c = ((z * a + c) + y * b) + x * d + w * e := by
  rw [mul_comm a, mul_comm b, mul_comm d, mul_comm e, zero_add, add_right_comm _ (z * a) c]
  rw [add_comm (z * a) c]
  abel

theorem rX_at (s : Fin 16384) (f : Fin 2048) : @Eq EReal (rX P W C (ix2 s f)) (conv P W C s f) := by
  unfold conv
  have h3 := padded_at P 0 (by omega) s f
  have h2 := padded_at P 1 (by omega) s f
  have h1 := padded_at P 2 (by omega) s f
  have h0 := padded_at P 3 (by omega) s f
  rw [← h3, ← h2, ← h1, ← h0]
  refine Eq.trans ?_ (turn _ _ _ _ _ _ _ _ _)
  pointwise [rX, rows, all]

theorem rG_at (X : FVec Ideal S16384x2048 .f32) (k : Fin 2) (s : Fin 16384) (f : Fin 2048) : @Eq EReal (rG X G D (ix3 k s f))
    ((∑ q : Fin 128, X (ix2 s ⟨f.val / 128 * 128 + q.val, by omega⟩) * G (ix4 k ⟨f.val / 128, by omega⟩ q ⟨f.val % 128, by omega⟩)) + D (ix2 k f)) := by
  pointwise [rG]
  exact congrArg (· + _) (Finset.sum_congr rfl fun q _ => mul_comm _ _)

theorem rY0_at (Y : FVec Ideal S2x16384x2048 .f32) (s : Fin 16384) (f : Fin 2048) : @Eq EReal (rY0 Y (ix2 s f)) (Y (ix3 0 s f)) := by
  pointwise [rY0]

theorem rY1_at (Y : FVec Ideal S2x16384x2048 .f32) (s : Fin 16384) (f : Fin 2048) : @Eq EReal (rY1 Y (ix2 s f)) (Y (ix3 1 s f)) := by
  pointwise [rY1]

theorem rS_at (Y : FVec Ideal S16384x2048 .f32) (s : Fin 16384) (f : Fin 2048) : @Eq EReal (rS Y (ix2 s f)) (sg (Y (ix2 s f))) := by
  unfold sg
  pointwise [rS, all]

theorem rP_at (N : FVec Ideal S2048 .f32) (f : Fin 2048) : @Eq EReal (rP N (ix1 f)) (soft (N (ix1 f))) := by
  unfold soft
  pointwise [rP, one]
  exact if_neg (fun h => h rfl)

theorem rL_at (Y : FVec Ideal S2x16384x2048 .f32) (s : Fin 16384) (f : Fin 2048) :
    @Eq EReal (rL Y L (ix2 s f)) (la (Y (ix3 0 s f)) (L (ix1 f))) := by
  unfold la
  rw [← rY0_at Y, ← rS_at (rY0 Y)]
  have h : @Eq EReal (soft (-(L (ix1 f)))) (rows (rP (Host.negf L)) (ix2 s f)) := ((rows_at _ s f).trans (rP_at (Host.negf L) f)).symm
  rw [h, ← all_at 0xC1000000#32 s f]
  rfl

theorem rA_at (Y : FVec Ideal S2x16384x2048 .f32) (s : Fin 16384) (f : Fin 2048) :
    @Eq EReal (Host.exp (rL Y L) (ix2 s f)) (aa (Y (ix3 0 s f)) (L (ix1 f))) :=
  congrArg Ideal.exp (rL_at L Y s f)

theorem rB_at (X : FVec Ideal S16384x2048 .f32) (Y : FVec Ideal S2x16384x2048 .f32) (s : Fin 16384) (f : Fin 2048) :
    @Eq EReal (rB X Y L (ix2 s f)) (bb (Y (ix3 0 s f)) (Y (ix3 1 s f)) (L (ix1 f)) (X (ix2 s f))) := by
  unfold bb
  rw [← rL_at L Y, ← rY1_at Y, ← rS_at (rY1 Y), ← all_at 0x40000000#32 s f]
  rfl

theorem rO_at (H g : FVec Ideal S16384x2048 .f32) (s : Fin 16384) (f : Fin 2048) :
    @Eq EReal (rO H g (ix2 s f)) (act (H (ix2 s f)) (g (ix2 s f))) := by
  unfold act
  rw [← all_at 0x3F000000#32 s f, ← all_at 0x3F4C422A#32 s f, ← all_at 0x3D372713#32 s f, ← one_word, ← all_at 0x3F800000#32 s f]
  rfl

end Cert.LruRef

end
-- ==== Proof.MM.LruLoop.lean ====
/- The plain recurrence's loop, its result, and the two programs' agreement. -/
module

public import proofs.«01_k».proof.Proof.MM.LruRead

@[expose] public section

set_option maxRecDepth 16384

noncomputable section

namespace Cert.LruRef

open Cert.Reference10Ideal Cert.Reference10Ideal.Gen Cert.Reference10Ideal.Value
open Idealize.ShloMosaic Idealize.ShloMosaic.TcCoe Idealize.SL.Sem Idealize.ShloMosaic.StableHlo
open Cert.LruScan Cert.Lru

/-- A single row lies inside the array. -/
theorem fits (k : ℕ) (hk : k < 16384) : S16384x2048.Slices ![k, 0] S1x2048 := by
  refine ⟨rfl, fun a => ?_⟩
  fin_cases a
  · show k + 1 ≤ 16384; omega
  · show 0 + 2048 ≤ 2048; omega

/-- The row the loop's counter names. -/
theorem row_read (X : FVec Ideal S16384x2048 .f32) (J : IVec S_ 32) (k : ℕ) (hk : k < 16384) (hJ : J = fun _ => BitVec.ofNat 32 k) (f : Fin 2048) :
    @Eq EReal (shapeCast S2048 (Host.dynamicSlice S1x2048 X (fun a => (((![J, constantI S_ 32 0#32] : Fin 2 → IVec S_ 32)) a (Shape.Idx.first h_S_)).toInt)
      sliceFits_S16384x2048_S1x2048) shapeCasts_S1x2048_S2048 (ix1 f)) (X (ix2 ⟨k, hk⟩ f)) := by
  rw [Host.dynamicSlice_eq_extractStridedSlice S1x2048 X _ ![k, 0] _ (fits k hk) ?_]
  · pointwise []
  · intro a
    subst hJ
    fin_cases a
    · exact Idealize.ShloMosaic.toInt_ofNat_of_lt (k := k) (by omega)
    · rfl

/-- Writing a row leaves the other rows and puts the new one. -/
theorem row_write (X : FVec Ideal S16384x2048 .f32) (v : FVec Ideal S2048 .f32) (J : IVec S_ 32) (k : ℕ) (hk : k < 16384) (hJ : J = fun _ => BitVec.ofNat 32 k)
    (r : Fin 16384) (f : Fin 2048) :
    @Eq EReal (Host.dynamicUpdateSlice X (broadcastInDim S1x2048 ![1] bcast_S2048_S1x2048_1 v)
      (fun a => (((![J, constantI S_ 32 0#32] : Fin 2 → IVec S_ 32)) a (Shape.Idx.first h_S_)).toInt) updateFits_S16384x2048_S1x2048 (ix2 r f))
      (if r.val = k then v (ix1 f) else X (ix2 r f)) := by
  rw [Host.dynamicUpdateSlice_eq_updateSlice X _ _ _ ![k, 0] ?_ (fits k hk)]
  · pointwise []
    by_cases h : r.val = k
    · rw [if_pos h, dif_pos (by omega)]
    · rw [if_neg h, dif_neg (by omega)]
  · intro a
    subst hJ
    fin_cases a
    · have h := Idealize.ShloMosaic.toInt_ofNat_of_lt (k := k) (by omega)
      show (min (max (BitVec.ofNat 32 k).toInt 0) ((16384 - 1 : ℕ) : Int)).toNat = k
      rw [h]; omega
    · rfl

section Loop

variable (E : Valuation τ sig (Elt Ideal)) (a b : Fin 2048 → ℕ → EReal)

/-- What holds before each trip. -/
structure Inv (k : ℕ) (V : Valuation τ sig (Elt Ideal)) : Prop where
  a_at : ∀ (s : Fin 16384) (f : Fin 2048), @Eq EReal ((V (Proc.devRef .tc main_v75_0) : FVec Ideal S16384x2048 .f32) (ix2 s f)) (a f s.val)
  b_at : ∀ (s : Fin 16384) (f : Fin 2048), @Eq EReal ((V (Proc.devRef .tc main_v75_1) : FVec Ideal S16384x2048 .f32) (ix2 s f)) (b f s.val)
  ctr : (V (Proc.devRef .tc main_v75_2) : IVec S_ 32) = fun _ => BitVec.ofNat 32 k
  h_at : ∀ f : Fin 2048, @Eq EReal ((V (Proc.devRef .tc main_v75_3) : FVec Ideal S2048 .f32) (ix1 f)) (run (a f) (b f) 0 k 0)
  o_at : ∀ (s : Fin 16384) (f : Fin 2048), s.val < k →
    @Eq EReal ((V (Proc.devRef .tc main_v75_4) : FVec Ideal S16384x2048 .f32) (ix2 s f)) (run (a f) (b f) 0 (s.val + 1) 0)

theorem new_at (k : ℕ) (hk : k < 16384) (V : Valuation τ sig (Elt Ideal)) (h : Inv a b k V) (f : Fin 2048) :
    @Eq EReal ((res_main_while0b_v94 V : FVec Ideal S2048 .f32) (ix1 f)) (run (a f) (b f) 0 (k + 1) 0) := by
  have ea := (row_read (V (Proc.devRef .tc main_v75_0)) (V (Proc.devRef .tc main_v75_2)) k hk h.ctr f).trans (h.a_at ⟨k, hk⟩ f)
  have eb := (row_read (V (Proc.devRef .tc main_v75_1)) (V (Proc.devRef .tc main_v75_2)) k hk h.ctr f).trans (h.b_at ⟨k, hk⟩ f)
  have e : run (a f) (b f) 0 (k + 1) 0 = a f k * run (a f) (b f) 0 k 0 + b f k := by
    show a f (0 + k) * _ + b f (0 + k) = _
    rw [Nat.zero_add]
  rw [e]
  exact congrArg₂ (fun x y : EReal => x + y) (congrArg₂ (fun x y : EReal => x * y) ea (h.h_at f)) eb

theorem inv_succ (k : ℕ) (hk : k < 16384) (V : Valuation τ sig (Elt Ideal)) (h : Inv a b k V) : Inv a b (k + 1) (STEP V) where
  a_at := by rw [STEP_main_v75_0]; exact h.a_at
  b_at := by rw [STEP_main_v75_1]; exact h.b_at
  ctr := by
    rw [STEP_main_v75_2]
    have e : step_main_v75_2 V = addi (V (Proc.devRef .tc main_v75_2) : IVec S_ 32) (constantI S_ 32 1#32) := rfl
    rw [e, h.ctr]
    funext i
    show BitVec.ofNat 32 k + 1#32 = BitVec.ofNat 32 (k + 1)
    exact BitVec.ofNat_add_ofNat (n := 32) k 1
  h_at := by
    rw [STEP_main_v75_3]
    exact new_at a b k hk V h
  o_at := by
    rw [STEP_main_v75_4]
    intro s f hs
    refine (row_write (V (Proc.devRef .tc main_v75_4)) (res_main_while0b_v94 V) (V (Proc.devRef .tc main_v75_2)) k hk h.ctr s f).trans ?_
    by_cases hr : s.val = k
    · rw [if_pos hr, hr]; exact new_at a b k hk V h f
    · rw [if_neg hr]; exact h.o_at s f (by omega)

theorem inv_iter (h : Inv a b 0 E) : ∀ k, k ≤ 16384 → Inv a b k (STEP^[k] E)
  | 0, _ => h
  | k + 1, hk => by
    rw [Function.iterate_succ_apply']
    exact inv_succ a b k (by omega) _ (inv_iter h k (by omega))

end Loop

variable (m : (ℓ : Loc nD τ sig) → Buf (Elt Ideal) ℓ) (c : Dev nD)

/-- Before the first trip. -/
theorem inv_zero : Inv (ga (aP m c) (aW m c) (aC m c) (aG m c) (aD m c) (aL m c)) (gb (aP m c) (aW m c) (aC m c) (aG m c) (aD m c) (aL m c)) 0
    (entryContents preI m c) where
  a_at := fun s f => by
    rw [entry_a]
    refine (rA_at _ _ s f).trans ?_
    unfold ga
    rw [dif_pos s.isLt]
    refine congrArg (fun x => aa x _) ?_
    refine (rG_at _ _ _ 0 s f).trans ?_
    unfold gg
    simp only [rX_at]
  b_at := fun s f => by
    rw [entry_b]
    refine (rB_at _ _ _ s f).trans ?_
    unfold gb
    rw [dif_pos s.isLt]
    have e : ∀ k : Fin 2, @Eq EReal (rG (rX (aP m c) (aW m c) (aC m c)) (aG m c) (aD m c) (ix3 k s f)) (gg (aP m c) (aW m c) (aC m c) (aG m c) (aD m c) k s f) := by
      intro k
      refine (rG_at _ _ _ k s f).trans ?_
      unfold gg
      simp only [rX_at]
    rw [e 0, e 1, rX_at]
  ctr := ctr_entry m c
  h_at := fun f => by
    rw [entry_h]
    exact (one_at _ f).trans zero_word
  o_at := fun s f hs => absurd hs (Nat.not_lt_zero _)

/-- A buffer that neither the condition nor the body writes is kept by the loop. -/
theorem kept (r : Ref sig .tc) (hc : r ∉ condOps_W) (h0 : r ∉ while0Ops0_W) (h1 : r ∉ while0Ops0_1_W) (h2 : r ∉ while0Ops0_2_W) (h3 : r ∉ while0Ops0_3_W)
    (h4 : r ∉ while0Ops0_4_W) : ∀ k, atK m k c (Proc.devRef .tc r) = entryContents preI m c (Proc.devRef .tc r)
  | 0 => rfl
  | k + 1 => by
    rw [show atK m (k + 1) c = afterL bodyI (after condOps (atK m k c)) from rfl]
    simp only [bodyI, afterL_cons, afterL_nil]
    rw [after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc]
    exact kept r hc h0 h1 h2 h3 h4 k

/-- The contents after the whole program. -/
abbrev fin : Valuation τ sig (Elt Ideal) := finalContents condOps preI bodyI postI 16384 m c

theorem final_v90 : fin m c (Proc.devRef .tc main_v90) = res (aP m c) (aW m c) (aC m c) (aG m c) (aD m c) (aL m c) := by
  refine (post (after condOps (atK m 16384 c))).trans ?_
  have e4 : after condOps (atK m 16384 c) (Proc.devRef .tc main_v75_4) = (STEP^[16384] (entryContents preI m c)) (Proc.devRef .tc main_v75_4) :=
    (cond_keeps _ main_v75_4 (by decide)).trans (atK_agree m c 16384 main_v75_4 (by decide))
  have e0 : after condOps (atK m 16384 c) (Proc.devRef .tc main_v0) = extractStridedSlice S16384x2048 ![0, 0] (aP m c) slices_S16384x4096_S16384x2048_0_0 :=
    (after_of_writes_sub condOps _ condOps_writes (by decide +kernel)).trans
      ((kept m c main_v0 (by decide +kernel) (by decide +kernel) (by decide +kernel) (by decide +kernel) (by decide +kernel) (by decide +kernel) 16384).trans (entry_g m c))
  rw [e4, e0]
  have hI := inv_iter _ _ _ (inv_zero m c) 16384 (le_refl _)
  funext i
  have hi : i = ix2 (i 0) (i 1) := eq_ix2 i
  rw [hi]
  refine (rO_at _ _ _ _).trans ?_
  refine congrArg₂ act (hI.o_at (i 0) (i 1) (i 0).isLt) ?_
  pointwise []

theorem final_arg (r : Ref sig .tc) (hc : r ∉ condOps_W) (h0 : r ∉ while0Ops0_W) (h1 : r ∉ while0Ops0_1_W) (h2 : r ∉ while0Ops0_2_W) (h3 : r ∉ while0Ops0_3_W)
    (h4 : r ∉ while0Ops0_4_W) (p0 : r ∉ hostOps0_W) (p1 : r ∉ hostOps0_1_W) (p2 : r ∉ hostOps0_2_W) (p3 : r ∉ hostOps0_3_W) (p4 : r ∉ hostOps0_4_W)
    (p5 : ∀ V : Valuation τ sig (Elt Ideal), after hostOps0_5 V (Proc.devRef .tc r) = V (Proc.devRef .tc r)) :
    fin m c (Proc.devRef .tc r) = m ((c.tc : Thread nD τ).loc r) := by
  refine (p5 (after condOps (atK m 16384 c))).trans ?_
  rw [after_of_writes_sub condOps _ condOps_writes hc]
  refine (kept m c r hc h0 h1 h2 h3 h4 16384).trans ?_
  simp only [entryContents, afterL_cons, afterL_nil]
  rw [after_of_writes_sub hostOps0_4 _ hostOps0_4_writes p4, after_of_writes_sub hostOps0_3 _ hostOps0_3_writes p3,
    after_of_writes_sub hostOps0_2 _ hostOps0_2_writes p2, after_of_writes_sub hostOps0_1 _ hostOps0_1_writes p1,
    after_of_writes_sub hostOps0 _ hostOps0_writes p0]

/-- Every argument is as it was. -/
theorem args : fin m c (Proc.devRef .tc main_arg0) = m ((c.tc : Thread nD τ).loc main_arg0)
    ∧ fin m c (Proc.devRef .tc main_arg1) = m ((c.tc : Thread nD τ).loc main_arg1)
    ∧ fin m c (Proc.devRef .tc main_arg2) = m ((c.tc : Thread nD τ).loc main_arg2)
    ∧ fin m c (Proc.devRef .tc main_arg3) = m ((c.tc : Thread nD τ).loc main_arg3)
    ∧ fin m c (Proc.devRef .tc main_arg4) = m ((c.tc : Thread nD τ).loc main_arg4)
    ∧ fin m c (Proc.devRef .tc main_arg5) = m ((c.tc : Thread nD τ).loc main_arg5) := by
  refine ⟨?_, ?_, ?_, ?_, ?_, ?_⟩
  all_goals
    refine final_arg m c _ (by decide +kernel) (by decide +kernel) (by decide +kernel) (by decide +kernel) (by decide +kernel) (by decide +kernel)
      (by decide +kernel) (by decide +kernel) (by decide +kernel) (by decide +kernel) (by decide +kernel) (fun V => ?_)
    after_results

/-- The reference runs, holds the result and leaves the arguments unchanged. -/
theorem runs (ρ : Dev nD → PrngReg) : θ_run (defs (F := Ideal)) (onTc (τ := τ) (main (F := Ideal))) ⟨m, fun _ => 0, ρ⟩
    (fun r => ∀ c : Dev nD, r.2.mem ((c.tc : Thread nD τ).loc main_v90) = res (aP m c) (aW m c) (aC m c) (aG m c) (aD m c) (aL m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c => by
    obtain ⟨a0, a1, a2, a3, a4, a5⟩ := args m c
    exact ⟨(h c main_v90 rfl).trans (final_v90 m c), (h c main_arg0 rfl).trans a0, (h c main_arg1 rfl).trans a1, (h c main_arg2 rfl).trans a2,
      (h c main_arg3 rfl).trans a3, (h c main_arg4 rfl).trans a4, (h c main_arg5 rfl).trans a5⟩) (run_fold m ρ)

/-- The frame of the reference. -/
theorem frame : Cert.quiescent_Reference10Ideal (hReference10Ideal := Cert.Reference10Ideal.Gen.facts) := fun m ρ _ =>
  (θ_run _ _ _).mono (fun r h => ⟨fun c => (h c).2, Idealize.ShloMosaic.sem_eq_zero_of_no_sems (by decide) r.2⟩) (runs m ρ)

end Cert.LruRef

namespace Cert.Lru

open Cert.Kernel10Ideal Cert.Kernel10Ideal.Gen
open Idealize.ShloMosaic Idealize.ShloMosaic.TcCoe Idealize.SL.Sem

/-- The kernel over the reals computes the reference's recurrence. -/
theorem algebraic : Cert.algebraic_Kernel10Ideal_Reference10Ideal (hKernel10Ideal := Cert.Kernel10Ideal.Gen.facts) (hReference10Ideal := Cert.Reference10Ideal.Gen.facts) := by
  pair_intro
  · run_from run_main m g
    · exact V_main_arg0 m c
    · exact V_main_arg2 m c
    · exact V_main_arg3 m c
    · exact V_main_arg5 m c
  · refine (θ_run _ _ _).mono (fun r h c => ⟨(h c).1.trans ?_, (h c).2⟩) (Cert.LruRef.runs m' g')
    obtain ⟨e0, e1, e2, e3, e4, e5⟩ := hagree c
    refine Eq.trans ?_ (result m c).symm
    exact congr (congr (congr (congr (congr (congrArg res e0) e1) e2) e3) e4) e5

end Cert.Lru

end
-- ==== Proof.MM.RwkvPost.lean ====
/- The group norm of the heads with its gate: rows by blocks against all rows. -/
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import Idealize.ShloMosaic.Lib.Pipeline.ValueKit
public import Idealize.ShloMosaic.Lib.Pipeline.Value
public import Idealize.ShloMosaic.Lib.Claim

@[expose] public section

set_option maxRecDepth 16384

noncomputable section

namespace Cert.RwkvPost

open Cert.Kernel11Ideal Cert.Kernel11Ideal.Gen
open Idealize.ShloMosaic Idealize.ShloMosaic.TcCoe Idealize.SL.Sem
open Idealize.ShloMosaic.Pipeline (Dat)

/-- The ones of the heads of a group of four. -/
def E : FVec Ideal S256x256 .bf16 := k0_pay6 (F := Ideal) k0_pay2 k0_pay3 k0_pay4 k0_pay5

/-- Floor division of a word by 64, as the program spells it. -/
def fdiv (a : BitVec 32) : BitVec 32 :=
  Scalar.select
    (IntOp.andi
      (IntOp.cmpi CmpIPredicate.ne
        (IntOp.subi (BitVec.setWidth 32 (IntOp.cmpi CmpIPredicate.sgt a 0#32)) (BitVec.setWidth 32 (IntOp.cmpi CmpIPredicate.slt a 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector a 64#32) 0#32))
    (IntOp.subi (IntOp.divsi ArithUnit.vector a 64#32) 1#32)
    (IntOp.divsi ArithUnit.vector a 64#32)

theorem fdiv_eq : ∀ j : Fin 256, fdiv (BitVec.ofNat 32 j.val) = BitVec.ofNat 32 (j.val / 64) := by decide +kernel

/-- A word comparison of two small naturals, selecting. -/
theorem select_eq (a b : ℕ) (ha : a < 256) (hb : b < 256) (u v : EReal) :
    Scalar.select (IntOp.cmpi .eq (BitVec.ofNat 32 a) (BitVec.ofNat 32 b)) u v = if a = b then u else v := by
  by_cases h : a = b <;> word_cmp

/-- An entry is one where both columns lie in one head. -/
theorem E_at (j k : Fin 256) : @Eq EReal (E (ix2 j k)) (if j.val / 64 = k.val / 64 then (1 : EReal) else 0) := by
  pointwise [E, k0_pay6, k0_pay2, k0_pay3, k0_pay4, k0_pay5]
  show Scalar.select (IntOp.cmpi .eq (fdiv (BitVec.ofNat 32 j.val)) (fdiv (BitVec.ofNat 32 k.val))) (1 : EReal) 0 = _
  rw [fdiv_eq, fdiv_eq]
  exact select_eq _ _ (by omega) (by omega) _ _

/-- A group's sums over its heads, in two parts. -/
def grp (X : FVec Ideal S256x2048 .f32) (o : Fin 2 → ℕ) (h : S256x2048.Slices o S256x256) : FVec Ideal S256x256 .f32 :=
  addf (matmul dot_S256x256_S256x256_S256x256_1_0_0_1_n_n none (extractStridedSlice S256x256 o (truncf .bf16 X bitsLt_bf16_f32) h) E (constant S256x256 .f32 0x00000000#32))
    (matmul dot_S256x256_S256x256_S256x256_1_0_0_1_n_n none (extractStridedSlice S256x256 o (truncf .bf16 (subf X (extf .f32 (truncf .bf16 X bitsLt_bf16_f32) bitsLt_bf16_f32)) bitsLt_bf16_f32) h) E (constant S256x256 .f32 0x00000000#32))

/-- The sums over the heads. -/
def HS (X : FVec Ideal S256x2048 .f32) : FVec Ideal S256x2048 .f32 :=
  concatenate S256x2048 1 [⟨S256x256, grp X ![0, 0] slices_S256x2048_o0_0_S256x256⟩, ⟨S256x256, grp X ![0, 256] slices_S256x2048_o0_256_S256x256⟩,
    ⟨S256x256, grp X ![0, 512] slices_S256x2048_o0_512_S256x256⟩, ⟨S256x256, grp X ![0, 768] slices_S256x2048_o0_768_S256x256⟩,
    ⟨S256x256, grp X ![0, 1024] slices_S256x2048_o0_1024_S256x256⟩, ⟨S256x256, grp X ![0, 1280] slices_S256x2048_o0_1280_S256x256⟩,
    ⟨S256x256, grp X ![0, 1536] slices_S256x2048_o0_1536_S256x256⟩, ⟨S256x256, grp X ![0, 1792] slices_S256x2048_o0_1792_S256x256⟩]
    concatenates_S256x256_S256x256_S256x256_S256x256_S256x256_S256x256_S256x256_S256x256_S256x2048_d1

/-- The rows less their heads' means. -/
def YC (X : FVec Ideal S256x2048 .f32) : FVec Ideal S256x2048 .f32 := subf X (mulf (HS X) (broadcast S256x2048 (Scalar.ofBits .f32 0x3C800000#32)))

/-- A block's result from its centred rows and their squares. -/
def NRM (Y Z B G : FVec Ideal S256x2048 .f32) (W L : FVec Ideal S1x2048 .f32) : FVec Ideal S256x2048 .bf16 :=
  truncf .bf16 (mulf (addf (addf (mulf (mulf Y (rsqrt (addf (mulf (HS Z) (broadcast S256x2048 (Scalar.ofBits .f32 0x3C800000#32)))
    (broadcast S256x2048 (Scalar.ofBits .f32 0x3A27C5AC#32))))) (broadcastTo S256x2048 (shapeCast S1x2048 W shapeCasts_S1x2048_S1x2048) broadcasts_S1x2048_S256x2048))
    (broadcastTo S256x2048 (shapeCast S1x2048 L shapeCasts_S1x2048_S1x2048) broadcasts_S1x2048_S256x2048)) B) G) bitsLt_bf16_f32

/-- A block's result. -/
def BLK (X B G : FVec Ideal S256x2048 .f32) (W L : FVec Ideal S1x2048 .f32) : FVec Ideal S256x2048 .bf16 := NRM (YC X) (mulf (YC X) (YC X)) B G W L

/-- Neither infinity. -/
def IsFin (x : EReal) : Prop := ∃ r : ℝ, x = (r : EReal)

/-- A difference of two numbers is a number. -/
theorem fin_sub {x y : EReal} (hx : IsFin x) (hy : IsFin y) : IsFin (x - y) := by
  obtain ⟨a, rfl⟩ := hx
  obtain ⟨b, rfl⟩ := hy
  exact ⟨a - b, (EReal.coe_sub a b).symm⟩

theorem fin_mul {x y : EReal} (hx : IsFin x) (hy : IsFin y) : IsFin (x * y) := by
  obtain ⟨a, rfl⟩ := hx
  obtain ⟨b, rfl⟩ := hy
  exact ⟨a * b, (EReal.coe_mul a b).symm⟩

theorem fin_add {x y : EReal} (hx : IsFin x) (hy : IsFin y) : IsFin (x + y) := by
  obtain ⟨a, rfl⟩ := hx
  obtain ⟨b, rfl⟩ := hy
  exact ⟨a + b, (EReal.coe_add a b).symm⟩

theorem fin_sum {n : ℕ} {f : Fin n → EReal} (hf : ∀ i, IsFin (f i)) : IsFin (∑ i, f i) :=
  Finset.sum_induction f IsFin (fun _ _ => fin_add) ⟨0, EReal.coe_zero.symm⟩ (fun i _ => hf i)

/-- A number less itself is zero. -/
theorem fin_self_sub {x : EReal} (hx : IsFin x) : x - x = 0 := by
  obtain ⟨a, rfl⟩ := hx
  rw [← EReal.coe_sub, sub_self, EReal.coe_zero]

/-- A sum against the ones of a head is the head's sum. -/
theorem sum_head (f : Fin 256 → EReal) (k : Fin 256) :
    ∑ x : Fin 256, f x * (if x.val / 64 = k.val / 64 then (1 : EReal) else 0) = ∑ j : Fin 64, f ⟨k.val / 64 * 64 + j.val, by omega⟩ := by
  simp only [mul_ite, mul_one, mul_zero]
  rw [← Finset.sum_filter]
  refine Finset.sum_bij' (fun x _ => (⟨x.val % 64, by omega⟩ : Fin 64)) (fun j _ => (⟨k.val / 64 * 64 + j.val, by omega⟩ : Fin 256)) ?_ ?_ ?_ ?_ ?_
  · intro x _
    exact Finset.mem_univ _
  · intro j _
    rw [Finset.mem_filter]
    exact ⟨Finset.mem_univ _, by dsimp only; omega⟩
  · intro x hx
    rw [Finset.mem_filter] at hx
    exact Fin.ext (by dsimp only; omega)
  · intro j _
    exact Fin.ext (by dsimp only; omega)
  · intro x hx
    rw [Finset.mem_filter] at hx
    exact congrArg f (Fin.ext (by dsimp only; omega))

/-- A group's sums are the sums over the heads when every entry is a number. -/
theorem grp_at (X : FVec Ideal S256x2048 .f32) (hX : ∀ i, IsFin (X i)) (o : ℕ) (ho : o + 256 ≤ 2048) (h : S256x2048.Slices ![0, o] S256x256) (r k : Fin 256) :
    @Eq EReal (grp X ![0, o] h (ix2 r k)) (∑ j : Fin 64, X (ix2 r ⟨o + (k.val / 64 * 64 + j.val), by omega⟩)) := by
  pointwise [grp]
  simp only [fin_self_sub (hX _), zero_mul, Finset.sum_const_zero, add_zero]
  refine Eq.trans (Finset.sum_congr rfl fun x _ => congrArg₂ (· * ·) rfl (E_at x k)) ?_
  exact sum_head (fun x : Fin 256 => X (ix2 r ⟨o + x.val, by omega⟩)) k

/-- The sums over the heads. -/
theorem HS_at (X : FVec Ideal S256x2048 .f32) (hX : ∀ i, IsFin (X i)) (r : Fin 256) (k : Fin 2048) :
    @Eq EReal (HS X (ix2 r k)) (∑ j : Fin 64, X (ix2 r ⟨k.val / 64 * 64 + j.val, by omega⟩)) := by
  pointwise [HS]
  split_ifs <;> (refine (grp_at X hX _ (by omega) _ _ _).trans (Finset.sum_congr rfl fun j _ => congrArg X (congrArg (ix2 r) (Fin.ext ?_))); dsimp only; omega)

open Cert.Reference11Ideal.Gen in
/-- The reference's heads. -/
def XR (X : FVec Ideal S16384x2048 .f32) : FVec Ideal Cert.Reference11Ideal.S16384x32x64 .f32 := shapeCast _ X shapeCasts_S16384x2048_S16384x32x64

open Cert.Reference11Ideal.Gen in
/-- The reference's mean over a head. -/
def MEAN (X : FVec Ideal Cert.Reference11Ideal.S16384x32x64 .f32) : FVec Ideal Cert.Reference11Ideal.S16384x32x1 .f32 :=
  Host.divf (broadcastInDim Cert.Reference11Ideal.S16384x32x1 ![0, 1] bcast_S16384x32_S16384x32x1_0_1 (Host.reduceAdd X (constant Cert.Reference11Ideal.S_ .f32 0x00000000#32) reducesTo_S16384x32x64_S16384x32_d2 h_S_))
    (broadcastInDim Cert.Reference11Ideal.S16384x32x1 ![] bcast_S_S16384x32x1 (constant Cert.Reference11Ideal.S_ .f32 0x42800000#32))

open Cert.Reference11Ideal.Gen in
/-- The reference's heads less their means. -/
def DR (X : FVec Ideal S16384x2048 .f32) : FVec Ideal Cert.Reference11Ideal.S16384x32x64 .f32 :=
  subf (XR X) (broadcastInDim Cert.Reference11Ideal.S16384x32x64 ![0, 1, 2] bcast_S16384x32x1_S16384x32x64_0_1_2 (MEAN (XR X)))

open Cert.Reference11Ideal.Gen in
/-- The reference's result. -/
def REF (X G B : FVec Ideal S16384x2048 .f32) (W L : FVec Ideal S2048 .f32) : FVec Ideal S16384x2048 .bf16 :=
  truncf .bf16 (mulf (addf (addf (mulf (shapeCast _ (mulf (DR X) (broadcastInDim Cert.Reference11Ideal.S16384x32x64 ![0, 1, 2] bcast_S16384x32x1_S16384x32x64_0_1_2
      (Host.rsqrt (addf (MEAN (mulf (DR X) (DR X))) (broadcastInDim Cert.Reference11Ideal.S16384x32x1 ![] bcast_S_S16384x32x1 (constant Cert.Reference11Ideal.S_ .f32 0x3A27C5AC#32)))))) shapeCasts_S16384x32x64_S16384x2048)
    (broadcastInDim S16384x2048 ![0, 1] bcast_S1x2048_S16384x2048_0_1 (broadcastInDim S1x2048 ![1] bcast_S2048_S1x2048_1 W)))
    (broadcastInDim S16384x2048 ![0, 1] bcast_S1x2048_S16384x2048_0_1 (broadcastInDim S1x2048 ![1] bcast_S2048_S1x2048_1 L))) B) G) Cert.Reference11Ideal.Gen.bitsLt_bf16_f32

theorem XR_at (X : FVec Ideal S16384x2048 .f32) (r : Fin 16384) (h : Fin 32) (j : Fin 64) : XR X (ix3 r h j) = X (ix2 r ⟨h.val * 64 + j.val, by omega⟩) := by
  pointwise [XR]

theorem ofBits_inv : Ideal.ofBits .f32 1015021568#32 = ((1 / 64 : ℝ) : EReal) := by
  simp [Ideal.ofBits, Ideal.ieee, -EReal.coe_mul]; norm_num

theorem ofBits_64 : Ideal.ofBits .f32 1115684864#32 = ((64 : ℝ) : EReal) := by
  simp [Ideal.ofBits, Ideal.ieee, -EReal.coe_mul]; norm_num

/-- A head's mean. -/
theorem MEAN_at (X : FVec Ideal Cert.Reference11Ideal.S16384x32x64 .f32) (r : Fin 16384) (h : Fin 32) :
    @Eq EReal (MEAN X (ix3 r h 0)) ((∑ j : Fin 64, X (ix3 r h j)) * ((1 / 64 : ℝ) : EReal)) := by
  pointwise [MEAN]
  rw [ofBits_64, Ideal.div_coe (by norm_num)]

theorem DR_at (X : FVec Ideal S16384x2048 .f32) (r : Fin 16384) (h : Fin 32) (j : Fin 64) :
    @Eq EReal (DR X (ix3 r h j)) (X (ix2 r ⟨h.val * 64 + j.val, by omega⟩)
      - (∑ i : Fin 64, X (ix2 r ⟨h.val * 64 + i.val, by omega⟩)) * ((1 / 64 : ℝ) : EReal)) := by
  pointwise [DR]
  exact congrArg₂ (· - ·) (XR_at X r h j) ((MEAN_at _ r h).trans (congrArg (· * _) (Finset.sum_congr rfl fun i _ => XR_at X r h i)))

/-- A row less its heads' means. -/
theorem YC_at (X : FVec Ideal S256x2048 .f32) (hX : ∀ i, IsFin (X i)) (r : Fin 256) (k : Fin 2048) :
    @Eq EReal (YC X (ix2 r k)) (X (ix2 r k) - (∑ i : Fin 64, X (ix2 r ⟨k.val / 64 * 64 + i.val, by omega⟩)) * ((1 / 64 : ℝ) : EReal)) := by
  pointwise [YC]
  rw [HS_at X hX, ofBits_inv]

theorem YC_fin (X : FVec Ideal S256x2048 .f32) (hX : ∀ i, IsFin (X i)) (i : S256x2048.Idx) : IsFin (YC X i) := by
  have e : @Eq EReal (YC X i) _ := (congrArg (YC X) (eq_ix2 i)).trans (YC_at X hX (i 0) (i 1))
  exact (congrArg IsFin e).mpr (fin_sub (hX _) (fin_mul (fin_sum fun _ => hX _) ⟨_, rfl⟩))

/-- A row of a block less its heads' means is the reference's. -/
theorem YC_eq (X : FVec Ideal S256x2048 .f32) (Y : FVec Ideal S16384x2048 .f32) (hX : ∀ i, IsFin (X i)) (r : Fin 256) (R : Fin 16384)
    (h : ∀ k : Fin 2048, @Eq EReal (X (ix2 r k)) (Y (ix2 R k))) (k : Fin 2048) :
    @Eq EReal (YC X (ix2 r k)) (DR Y (ix3 R ⟨k.val / 64, by omega⟩ ⟨k.val % 64, by omega⟩)) := by
  refine (YC_at X hX r k).trans (Eq.trans ?_ (DR_at Y R _ _).symm)
  refine congrArg₂ (· - ·) ((h k).trans (congrArg Y (congrArg (ix2 R) (Fin.ext (by dsimp only; omega))))) ?_
  exact congrArg (· * _) (Finset.sum_congr rfl fun i _ => h _)

/-- A block's result is the reference's at its rows. -/
theorem BLK_eq (X B G : FVec Ideal S256x2048 .f32) (W L : FVec Ideal S1x2048 .f32) (Y B' G' : FVec Ideal S16384x2048 .f32) (W' L' : FVec Ideal S2048 .f32)
    (hX : ∀ i, IsFin (X i)) (r : Fin 256) (R : Fin 16384) (h : ∀ k : Fin 2048, @Eq EReal (X (ix2 r k)) (Y (ix2 R k))) (k : Fin 2048)
    (hB : @Eq EReal (B (ix2 r k)) (B' (ix2 R k))) (hG : @Eq EReal (G (ix2 r k)) (G' (ix2 R k)))
    (hW : @Eq EReal (W (ix2 0 k)) (W' (ix1 k))) (hL : @Eq EReal (L (ix2 0 k)) (L' (ix1 k))) :
    @Eq EReal (BLK X B G W L (ix2 r k)) (REF Y G' B' W' L' (ix2 R k)) := by
  have hv : @Eq EReal (HS (mulf (YC X) (YC X)) (ix2 r k) * Ideal.ofBits .f32 1015021568#32)
      (MEAN (mulf (DR Y) (DR Y)) (ix3 R ⟨k.val / 64, by omega⟩ 0)) := by
    refine Eq.trans ?_ (MEAN_at _ R _).symm
    rw [HS_at (mulf (YC X) (YC X)) (fun i => fin_mul (YC_fin X hX i) (YC_fin X hX i)), ofBits_inv]
    refine congrArg (· * _) (Finset.sum_congr rfl fun j _ => ?_)
    have e := YC_eq X Y hX r R h ⟨k.val / 64 * 64 + j.val, by omega⟩
    have e1 : (⟨(k.val / 64 * 64 + j.val) / 64, by omega⟩ : Fin 32) = ⟨k.val / 64, by omega⟩ := Fin.ext (by dsimp only; omega)
    have e2 : (⟨(k.val / 64 * 64 + j.val) % 64, by omega⟩ : Fin 64) = j := Fin.ext (by dsimp only; omega)
    rw [e1, e2] at e
    exact congrArg₂ (· * ·) e e
  pointwise [BLK, NRM, REF]
  rw [hv, YC_eq X Y hX r R h k, hB, hG, hW, hL]

variable (m : (ℓ : Loc nD τ sig) → Buf (Elt Ideal) ℓ)

/-- Where every window's block lies. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- A point's rows. -/
theorem rows (c : Dev nD) (t : Fin cfg0.N) (r : Fin 256) (k : Fin 2048) :
    @Eq EReal (iblk m c 0 t (ix2 r k)) (m ((c : Thread nD τ).loc main_arg0) (ix2 ⟨t.val * 256 + r.val, by have := t.isLt; change t.val < 64 at this; omega⟩ k)) := by
  blk_point [iblk, V, idx t]

theorem gates (c : Dev nD) (t : Fin cfg0.N) (r : Fin 256) (k : Fin 2048) :
    @Eq EReal (iblk m c 1 t (ix2 r k)) (m ((c : Thread nD τ).loc main_arg1) (ix2 ⟨t.val * 256 + r.val, by have := t.isLt; change t.val < 64 at this; omega⟩ k)) := by
  blk_point [iblk, V, idx t]

theorem bonuses (c : Dev nD) (t : Fin cfg0.N) (r : Fin 256) (k : Fin 2048) :
    @Eq EReal (iblk m c 2 t (ix2 r k)) (m ((c : Thread nD τ).loc main_arg2) (ix2 ⟨t.val * 256 + r.val, by have := t.isLt; change t.val < 64 at this; omega⟩ k)) := by
  blk_point [iblk, V, idx t]

theorem weights (c : Dev nD) (t : Fin cfg0.N) (k : Fin 2048) :
    @Eq EReal (iblk m c 3 t (ix2 0 k)) (m ((c : Thread nD τ).loc main_arg3) (ix1 k)) := by
  blk_point [iblk, V, idx t]

theorem biases (c : Dev nD) (t : Fin cfg0.N) (k : Fin 2048) :
    @Eq EReal (iblk m c 4 t (ix2 0 k)) (m ((c : Thread nD τ).loc main_arg4) (ix1 k)) := by
  blk_point [iblk, V, idx t]

theorem ofBits_top : Ideal.ofBits .f32 2139095040#32 = ⊤ := by
  simp [Ideal.ofBits, Ideal.ieee]

/-- The precondition says that no entry is an infinity. -/
theorem pre_fin (c : Dev nD) (h : Cert.Pre_Kernel11Ideal_finite_y (hPre_finite_y := ⟨by decide⟩) m) (i) : IsFin (m ((c : Thread nD τ).loc main_arg0) i) := by
  have e := congrFun (h c) i
  revert e
  unfold Cert.Pre_finite_y.fn
  pointwise []
  rw [ofBits_top]
  intro e
  have hlt : (FloatOps.absf (F := Ideal) (φ := .f32) (m ((c : Thread nD τ).loc main_arg0) i) : EReal) < ⊤ := by
    by_contra hn
    rw [decide_eq_false hn] at e
    exact absurd e (by decide)
  revert hlt
  generalize m ((c : Thread nD τ).loc main_arg0) i = x
  change EReal at x
  intro hlt
  change max x (-x) < ⊤ at hlt
  induction x using EReal.rec with
  | bot => simp at hlt
  | coe r => exact ⟨r, rfl⟩
  | top => simp at hlt

/-- The result array is the reference's. -/
theorem result (c : Dev nD) (hf : ∀ i, IsFin (m ((c : Thread nD τ).loc main_arg0) i)) : (dats m 0 c).arrAt 5 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5]; unfold_out out0_5; frame_out
  show BLK (iblk m c 0 t) (iblk m c 2 t) (iblk m c 1 t) (iblk m c 3 t) (iblk m c 4 t) y = _
  have hX : ∀ i, IsFin (iblk m c 0 t i) := fun i =>
    (congrArg IsFin ((congrArg (iblk m c 0 t) (eq_ix2 i)).trans (rows m c t (i 0) (i 1)))).mpr (hf _)
  have e := BLK_eq (iblk m c 0 t) (iblk m c 2 t) (iblk m c 1 t) (iblk m c 3 t) (iblk m c 4 t) (m ((c : Thread nD τ).loc main_arg0))
    (m ((c : Thread nD τ).loc main_arg2)) (m ((c : Thread nD τ).loc main_arg1)) (m ((c : Thread nD τ).loc main_arg3)) (m ((c : Thread nD τ).loc main_arg4)) hX
    (y 0) ⟨t.val * 256 + (y 0).val, by have := t.isLt; change t.val < 64 at this; have := (y 0).isLt; change (y 0).val < 256 at this; omega⟩
    (fun k => rows m c t (y 0) k) (y 1) (bonuses m c t (y 0) (y 1)) (gates m c t (y 0) (y 1)) (weights m c t (y 1)) (biases m c t (y 1))
  refine (congrArg (BLK _ _ _ _ _) (eq_ix2 y)).trans (e.trans (congrArg (REF _ _ _ _ _) ?_))
  symm
  blk_ext [idx t]

/-- The two programs over the reals: their results are equal element by element and the arguments end unchanged. -/
theorem algebraic : Cert.algebraic_Kernel11Ideal_Reference11Ideal_pre_finite_y (hKernel11Ideal := Cert.Kernel11Ideal.Gen.facts) (hReference11Ideal := Cert.Reference11Ideal.Gen.facts) (hPre_finite_y := ⟨by decide⟩) := by
  pair_intro
  · run_from run_main m g
  · hlo_run
    · exact (result m c (pre_fin m c hpre)).symm

end Cert.RwkvPost

end
-- ==== Proof.lean ====
/- The proof of the certificate's claims: program 1 (stick-breaking) in Proof/SB, the other programs' values in Proof/MM. -/
module

public import proofs.«01_k».proof.Defs
public import proofs.«01_k».proof.Proof.SB.Claims
public import proofs.«01_k».proof.Proof.SB.Value
public import proofs.«01_k».proof.Proof.Gen.Kernel2.Frame
public import proofs.«01_k».proof.Proof.MM.Down
public import proofs.«01_k».proof.Proof.Gen.Kernel3.Frame
public import proofs.«01_k».proof.Proof.MM.InProj
public import proofs.«01_k».proof.Proof.Gen.Kernel4.Frame
public import proofs.«01_k».proof.Proof.MM.OutProj
public import proofs.«01_k».proof.Proof.Gen.Kernel5.Frame
public import proofs.«01_k».proof.Proof.MM.FfnUp
public import proofs.«01_k».proof.Proof.Gen.Kernel6.Frame
public import proofs.«01_k».proof.Proof.MM.AddNorm
public import proofs.«01_k».proof.Proof.Gen.Kernel7.Frame
public import proofs.«01_k».proof.Proof.MM.Norm
public import proofs.«01_k».proof.Proof.Gen.Kernel8.Frame
public import proofs.«01_k».proof.Proof.MM.OddProj
public import proofs.«01_k».proof.Proof.Gen.Kernel9.Frame
public import proofs.«01_k».proof.Proof.MM.OddProjFirst
public import proofs.«01_k».proof.Proof.Gen.Kernel10.Frame
public import proofs.«01_k».proof.Proof.MM.LruLoop
public import proofs.«01_k».proof.Proof.Gen.Kernel11.Frame
public import proofs.«01_k».proof.Proof.MM.RwkvPost

@[expose] public section

noncomputable section

namespace Cert.Proof

open Idealize.ShloMosaic Idealize.SL.Sem

/-- The frame of reference 2: its host operations run and leave the arguments unchanged. -/
theorem frame_reference2 : Cert.quiescent_Reference2Ideal (hReference2Ideal := Cert.Reference2Ideal.Gen.facts) := fun m ρ _ =>
  (θ_run _ _ _).mono (fun r h => ⟨fun c => (h c).2, Idealize.ShloMosaic.sem_eq_zero_of_no_sems (by decide) r.2⟩) (Cert.Reference2Ideal.Value.run m ρ)

/-- The frame of reference 3: its host operations run and leave the arguments unchanged. -/
theorem frame_reference3 : Cert.quiescent_Reference3Ideal (hReference3Ideal := Cert.Reference3Ideal.Gen.facts) := fun m ρ _ =>
  (θ_run _ _ _).mono (fun r h => ⟨fun c => (h c).2, Idealize.ShloMosaic.sem_eq_zero_of_no_sems (by decide) r.2⟩) (Cert.Reference3Ideal.Value.run m ρ)

/-- The frame of reference 4: its host operations run and leave the arguments unchanged. -/
theorem frame_reference4 : Cert.quiescent_Reference4Ideal (hReference4Ideal := Cert.Reference4Ideal.Gen.facts) := fun m ρ _ =>
  (θ_run _ _ _).mono (fun r h => ⟨fun c => (h c).2, Idealize.ShloMosaic.sem_eq_zero_of_no_sems (by decide) r.2⟩) (Cert.Reference4Ideal.Value.run m ρ)

/-- The frame of reference 5: its host operations run and leave the arguments unchanged. -/
theorem frame_reference5 : Cert.quiescent_Reference5Ideal (hReference5Ideal := Cert.Reference5Ideal.Gen.facts) := fun m ρ _ =>
  (θ_run _ _ _).mono (fun r h => ⟨fun c => (h c).2, Idealize.ShloMosaic.sem_eq_zero_of_no_sems (by decide) r.2⟩) (Cert.Reference5Ideal.Value.run m ρ)

/-- The frame of reference 6: its host operations run and leave the arguments unchanged. -/
theorem frame_reference6 : Cert.quiescent_Reference6Ideal (hReference6Ideal := Cert.Reference6Ideal.Gen.facts) := fun m ρ _ =>
  (θ_run _ _ _).mono (fun r h => ⟨fun c => (h c).2.2, Idealize.ShloMosaic.sem_eq_zero_of_no_sems (by decide) r.2⟩) (Cert.Reference6Ideal.Value.run m ρ)

/-- The frame of reference 7: its host operations run and leave the arguments unchanged. -/
theorem frame_reference7 : Cert.quiescent_Reference7Ideal (hReference7Ideal := Cert.Reference7Ideal.Gen.facts) := fun m ρ _ =>
  (θ_run _ _ _).mono (fun r h => ⟨fun c => (h c).2, Idealize.ShloMosaic.sem_eq_zero_of_no_sems (by decide) r.2⟩) (Cert.Reference7Ideal.Value.run m ρ)

/-- The frame of reference 8: its host operations run and leave the arguments unchanged. -/
theorem frame_reference8 : Cert.quiescent_Reference8Ideal (hReference8Ideal := Cert.Reference8Ideal.Gen.facts) := fun m ρ _ =>
  (θ_run _ _ _).mono (fun r h => ⟨fun c => (h c).2, Idealize.ShloMosaic.sem_eq_zero_of_no_sems (by decide) r.2⟩) (Cert.Reference8Ideal.Value.run m ρ)

/-- The frame of reference 9: its host operations run and leave the arguments unchanged. -/
theorem frame_reference9 : Cert.quiescent_Reference9Ideal (hReference9Ideal := Cert.Reference9Ideal.Gen.facts) := fun m ρ _ =>
  (θ_run _ _ _).mono (fun r h => ⟨fun c => (h c).2, Idealize.ShloMosaic.sem_eq_zero_of_no_sems (by decide) r.2⟩) (Cert.Reference9Ideal.Value.run m ρ)

/-- The frame of reference 11: its host operations run and leave the arguments unchanged. -/
theorem frame_reference11 : Cert.quiescent_Reference11Ideal (hReference11Ideal := Cert.Reference11Ideal.Gen.facts) := fun m ρ _ =>
  (θ_run _ _ _).mono (fun r h => ⟨fun c => (h c).2, Idealize.ShloMosaic.sem_eq_zero_of_no_sems (by decide) r.2⟩) (Cert.Reference11Ideal.Value.run m ρ)

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, ⟨by decide⟩,
  Cert.SB.frame_kernel, Cert.SB.frame_kernelIdeal, Cert.SB.frame_referenceIdeal,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, Cert.LruRef.frame,
  fun m ρ _ => Cert.Kernel11.Gen.frame m ρ, fun m ρ _ => Cert.Kernel11Ideal.Gen.frame m ρ, fun m ρ _ => Cert.Kernel11Ideal.Gen.frame m ρ, frame_reference11, fun m ρ _ => frame_reference11 m ρ trivial,
  Cert.SB.preserves, Cert.SB.algebraic,
  trivial, Cert.Down.algebraic,
  trivial, Cert.InProj.algebraic,
  trivial, Cert.OutProj.algebraic,
  trivial, Cert.FfnUp.algebraic,
  trivial, Cert.AddNorm.algebraic,
  trivial, Cert.Norm.algebraic,
  trivial, Cert.OddProj.algebraic,
  trivial, Cert.OddProjFirst.algebraic,
  trivial, Cert.Lru.algebraic,
  trivial, Cert.RwkvPost.algebraic⟩

end Cert.Proof

end
